-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S1x16384x8x96 : Shape := ⟨4, ![1, 16384, 8, 96]⟩
abbrev S1x16384x8x64 : Shape := ⟨4, ![1, 16384, 8, 64]⟩
abbrev S_ : Shape := ⟨0, ![]⟩

class Facts : Prop where
  bcast_S_S1x16384x8x96 : S_.BroadcastsInDim S1x16384x8x96 (![] : Fin 0 → Fin S1x16384x8x96.rank)
  reducesTo_S1x16384x8x96_S_d0_1_2_3 : S1x16384x8x96.ReducesTo [0, 1, 2, 3] S_
  h_S_ : 0 < S_.numel

variable [Facts]

def fn {F : FTy → Type} [FloatOps F] (main_arg0 : FVec F S1x16384x8x96 .f32) (main_arg1 : FVec F S1x16384x8x96 .f32) (main_arg2 : FVec F S1x16384x8x64 .f32) : IVec S_ 1 :=
  let main_v0 : FVec F S1x16384x8x96 .f32 := Host.absf main_arg0
  let main_cst : FVec F S_ .f32 := constant S_ .f32 0x7F800000#32
  let main_v1 : FVec F S1x16384x8x96 .f32 := broadcastInDim S1x16384x8x96 ![] bcast_S_S1x16384x8x96 main_cst
  let main_v2 : IVec S1x16384x8x96 1 := cmpf .olt main_v0 main_v1
  let main_c : IVec S_ 1 := constantI S_ 1 1#1
  let main_v3 : IVec S_ 1 := (fun x v => Host.reduce IntOp.andi x v reducesTo_S1x16384x8x96_S_d0_1_2_3 h_S_) main_v2 main_c
  let main_v4 : FVec F S1x16384x8x96 .f32 := Host.absf main_arg1
  let main_cst_0 : FVec F S_ .f32 := constant S_ .f32 0x7F800000#32
  let main_v5 : FVec F S1x16384x8x96 .f32 := broadcastInDim S1x16384x8x96 ![] bcast_S_S1x16384x8x96 main_cst_0
  let main_v6 : IVec S1x16384x8x96 1 := cmpf .olt main_v4 main_v5
  let main_c_1 : IVec S_ 1 := constantI S_ 1 1#1
  let main_v7 : IVec S_ 1 := (fun x v => Host.reduce IntOp.andi x v reducesTo_S1x16384x8x96_S_d0_1_2_3 h_S_) main_v6 main_c_1
  let main_v8 : IVec S_ 1 := andi main_v3 main_v7
  main_v8
-- ==== Kernel.lean ====
abbrev S1x16384x8x96 : Shape := ⟨4, ![1, 16384, 8, 96]⟩
abbrev S1x16384x8x64 : Shape := ⟨4, ![1, 16384, 8, 64]⟩
abbrev S136 : Shape := ⟨1, ![136]⟩
abbrev S_ : Shape := ⟨0, ![]⟩
abbrev S16384x8x96 : Shape := ⟨3, ![16384, 8, 96]⟩
abbrev S16384x8x128 : Shape := ⟨3, ![16384, 8, 128]⟩
abbrev S16384x1024 : Shape := ⟨2, ![16384, 1024]⟩
abbrev S16384x8x64 : Shape := ⟨3, ![16384, 8, 64]⟩
abbrev S16384x512 : Shape := ⟨2, ![16384, 512]⟩
abbrev S1024x1024 : Shape := ⟨2, ![1024, 1024]⟩
abbrev S1 : Shape := ⟨1, ![1]⟩
abbrev S1024x512 : Shape := ⟨2, ![1024, 512]⟩
abbrev S8x1024x128 : Shape := ⟨3, ![8, 1024, 128]⟩
abbrev S1x1024 : Shape := ⟨2, ![1, 1024]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x1024 : Shape := ⟨2, ![512, 1024]⟩
abbrev S1024x64 : Shape := ⟨2, ![1024, 64]⟩

abbrev nBuf : Space → Nat
  | .hbm => 26
  | .vmem => 10
  | .smem => 5
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S_, .f32⟩
  | .hbm, ⟨4, _⟩ => ⟨S1x16384x8x96, .f32⟩
  | .hbm, ⟨5, _⟩ => ⟨S1x16384x8x96, .f32⟩
  | .hbm, ⟨6, _⟩ => ⟨S_, .f32⟩
  | .hbm, ⟨7, _⟩ => ⟨S_, .f32⟩
  | .hbm, ⟨8, _⟩ => ⟨S1x16384x8x96, .f32⟩
  | .hbm, ⟨9, _⟩ => ⟨S1x16384x8x96, .f32⟩
  | .hbm, ⟨10, _⟩ => ⟨S1x16384x8x96, .bf16⟩
  | .hbm, ⟨11, _⟩ => ⟨S16384x8x96, .bf16⟩
  | .hbm, ⟨12, _⟩ => ⟨S_, .bf16⟩
  | .hbm, ⟨13, _⟩ => ⟨S16384x8x128, .bf16⟩
  | .hbm, ⟨14, _⟩ => ⟨S16384x1024, .bf16⟩
  | .hbm, ⟨15, _⟩ => ⟨S1x16384x8x96, .bf16⟩
  | .hbm, ⟨16, _⟩ => ⟨S16384x8x96, .bf16⟩
  | .hbm, ⟨17, _⟩ => ⟨S_, .bf16⟩
  | .hbm, ⟨18, _⟩ => ⟨S16384x8x128, .bf16⟩
  | .hbm, ⟨19, _⟩ => ⟨S16384x1024, .bf16⟩
  | .hbm, ⟨20, _⟩ => ⟨S1x16384x8x64, .bf16⟩
  | .hbm, ⟨21, _⟩ => ⟨S16384x8x64, .bf16⟩
  | .hbm, ⟨22, _⟩ => ⟨S_, .bf16⟩
  | .hbm, ⟨23, _⟩ => ⟨S16384x8x128, .bf16⟩
  | .hbm, ⟨24, _⟩ => ⟨S16384x1024, .bf16⟩
  | .hbm, ⟨25, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S8x1024x128, .f32⟩
  | .local _ .vmem, ⟨9, _⟩ => ⟨S8x1024x128, .f32⟩
  | .local _ .smem, ⟨0, _⟩ => ⟨S136, .i32⟩
  | .local _ .smem, ⟨1, _⟩ => ⟨S136, .i32⟩
  | .local _ .smem, ⟨2, _⟩ => ⟨S136, .i32⟩
  | .local _ .smem, ⟨3, _⟩ => ⟨S136, .i32⟩
  | .local _ .smem, ⟨4, _⟩ => ⟨S136, .i32⟩
  | _, _ => ⟨S1x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_4 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_5 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_6 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_7 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 136], ![false, false]⟩

abbrev pre0 : Pipeline.Prefetch sig := ⟨5, ![main_c.idx, main_c_0.idx, main_c_1.idx, main_c_2.idx, main_c_3.idx], fun | 0 => main_c.names | 1 => main_c_0.names | 2 => main_c_1.names | 3 => main_c_2.names | 4 => main_c_3.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_off4 (i : grid0.Coords) : Fin 1 → Nat :=
  let arg1 : BitVec 32 := BitVec.ofNat 32 (i 1).val
  let v15 : Index := Scalar.indexCast arg1
  ![v15.toNat]
def k0_cond4 (v16 : BitVec 32) : BitVec 1 :=
  let c1_i32_4 : BitVec 32 := 1#32
  let v17 : BitVec 1 := Scalar.cmpi .eq v16 c1_i32_4
  let v18 : BitVec 32 := Scalar.extui v17
  let c0_i32_5 : BitVec 32 := 0#32
  let v19 : BitVec 1 := Scalar.cmpi .ne v18 c0_i32_5
  v19

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x16384x8x96 : Shape := ⟨4, ![1, 16384, 8, 96]⟩
abbrev S1x16384x8x64 : Shape := ⟨4, ![1, 16384, 8, 64]⟩
abbrev S16384x8x96 : Shape := ⟨3, ![16384, 8, 96]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S16384x8x64 : Shape := ⟨3, ![16384, 8, 64]⟩
abbrev S8x16384x64 : Shape := ⟨3, ![8, 16384, 64]⟩
abbrev S16384x512 : Shape := ⟨2, ![16384, 512]⟩

abbrev nBuf : Space → Nat
  | .hbm => 31
  | .vmem => 0
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S16384x8x96, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S16384x8x96, .f32⟩
  | .hbm, ⟨8, _⟩ => ⟨S8x16384x16384, .f32⟩
  | .hbm, ⟨9, _⟩ => ⟨S8x16384x16384, .i32⟩
  | .hbm, ⟨10, _⟩ => ⟨S8x16384x16384, .i32⟩
  | .hbm, ⟨11, _⟩ => ⟨S8x16384x16384, .i1⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S_, .f32⟩
  | .hbm, ⟨16, _⟩ => ⟨S8x16384, .f32⟩
  | .hbm, ⟨17, _⟩ => ⟨S8x16384x1, .f32⟩
  | .hbm, ⟨18, _⟩ => ⟨S8x16384x16384, .f32⟩
  | .hbm, ⟨19, _⟩ => ⟨S8x16384x16384, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S16384x8x64, .f32⟩
  | .hbm, ⟨25, _⟩ => ⟨S8x16384x64, .f32⟩
  | .hbm, ⟨26, _⟩ => ⟨S8x16384x64, .f32⟩
  | .hbm, ⟨27, _⟩ => ⟨S8x16384x64, .f32⟩
  | .hbm, ⟨28, _⟩ => ⟨S16384x8x64, .f32⟩
  | .hbm, ⟨29, _⟩ => ⟨S16384x512, .f32⟩
  | .hbm, ⟨30, _⟩ => ⟨S16384x512, .bf16⟩
  | _, _ => ⟨S1x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel2.lean ====
abbrev S1x16384x2048 : Shape := ⟨3, ![1, 16384, 2048]⟩
abbrev S2048x11832 : Shape := ⟨2, ![2048, 11832]⟩
abbrev S11832 : Shape := ⟨1, ![11832]⟩
abbrev S16384x2048 : Shape := ⟨2, ![16384, 2048]⟩
abbrev S2048x8192 : Shape := ⟨2, ![2048, 8192]⟩
abbrev S8192 : Shape := ⟨1, ![8192]⟩
abbrev S1x8192 : Shape := ⟨2, ![1, 8192]⟩
abbrev S16384x8192 : Shape := ⟨2, ![16384, 8192]⟩
abbrev S2048x2048 : Shape := ⟨2, ![2048, 2048]⟩
abbrev S2048x1024 : Shape := ⟨2, ![2048, 1024]⟩
abbrev S1x1024 : Shape := ⟨2, ![1, 1024]⟩

abbrev nBuf : Space → Nat
  | .hbm => 10
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S2048x11832, .f32⟩
  | .hbm, ⟨2, _⟩ => ⟨S11832, .f32⟩
  | .hbm, ⟨3, _⟩ => ⟨S16384x2048, .f32⟩
  | .hbm, ⟨4, _⟩ => ⟨S16384x2048, .bf16⟩
  | .hbm, ⟨5, _⟩ => ⟨S2048x8192, .f32⟩
  | .hbm, ⟨6, _⟩ => ⟨S2048x8192, .bf16⟩
  | .hbm, ⟨7, _⟩ => ⟨S8192, .f32⟩
  | .hbm, ⟨8, _⟩ => ⟨S1x8192, .f32⟩
  | .hbm, ⟨9, _⟩ => ⟨S16384x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S1x16384x2048 : Shape := ⟨3, ![1, 16384, 2048]⟩
abbrev S2048x11832 : Shape := ⟨2, ![2048, 11832]⟩
abbrev S11832 : Shape := ⟨1, ![11832]⟩
abbrev S1x16384x11832 : Shape := ⟨3, ![1, 16384, 11832]⟩
abbrev S1x1x11832 : Shape := ⟨3, ![1, 1, 11832]⟩
abbrev S1x16384x8192 : Shape := ⟨3, ![1, 16384, 8192]⟩
abbrev S16384x8192 : Shape := ⟨2, ![16384, 8192]⟩

abbrev nBuf : Space → Nat
  | .hbm => 10
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048x11832, .f32⟩
  | .hbm, ⟨2, _⟩ => ⟨S11832, .f32⟩
  | .hbm, ⟨3, _⟩ => ⟨S1x16384x11832, .f32⟩
  | .hbm, ⟨4, _⟩ => ⟨S1x1x11832, .f32⟩
  | .hbm, ⟨5, _⟩ => ⟨S1x16384x11832, .f32⟩
  | .hbm, ⟨6, _⟩ => ⟨S1x16384x11832, .f32⟩
  | .hbm, ⟨7, _⟩ => ⟨S1x16384x8192, .f32⟩
  | .hbm, ⟨8, _⟩ => ⟨S16384x8192, .f32⟩
  | .hbm, ⟨9, _⟩ => ⟨S16384x8192, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S1x16384x2048 : Shape := ⟨3, ![1, 16384, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S1x16384x2048, .f32⟩
  | .hbm, ⟨1, _⟩ => ⟨S2048x2048, .f32⟩
  | .hbm, ⟨2, _⟩ => ⟨S1x16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1x16384x2048 : Shape := ⟨3, ![1, 16384, 2048]⟩
abbrev S2048x2048 : Shape := ⟨2, ![2048, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048x2048, .f32⟩
  | .hbm, ⟨2, _⟩ => ⟨S1x16384x2048, .f32⟩
  | .hbm, ⟨3, _⟩ => ⟨S2048, .f32⟩
  | .hbm, ⟨4, _⟩ => ⟨S2048, .f32⟩
  | .hbm, ⟨5, _⟩ => ⟨S1x16384x2048, .f32⟩
  | .hbm, ⟨6, _⟩ => ⟨S_, .f32⟩
  | .hbm, ⟨7, _⟩ => ⟨S1x16384x2048, .f32⟩
  | .hbm, ⟨8, _⟩ => ⟨S1x16384x2048, .f32⟩
  | .hbm, ⟨9, _⟩ => ⟨S1x16384x2048, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x2048, .f32⟩
  | .hbm, ⟨17, _⟩ => ⟨S1x16384x2048, .f32⟩
  | .hbm, ⟨18, _⟩ => ⟨S1x16384x2048, .f32⟩
  | .hbm, ⟨19, _⟩ => ⟨S_, .f32⟩
  | .hbm, ⟨20, _⟩ => ⟨S1x16384, .f32⟩
  | .hbm, ⟨21, _⟩ => ⟨S1x16384x1, .f32⟩
  | .hbm, ⟨22, _⟩ => ⟨S_, .f32⟩
  | .hbm, ⟨23, _⟩ => ⟨S1x16384x1, .f32⟩
  | .hbm, ⟨24, _⟩ => ⟨S1x16384x1, .f32⟩
  | .hbm, ⟨25, _⟩ => ⟨S1x16384x2048, .f32⟩
  | .hbm, ⟨26, _⟩ => ⟨S1x16384x2048, .f32⟩
  | .hbm, ⟨27, _⟩ => ⟨S_, .f32⟩
  | .hbm, ⟨28, _⟩ => ⟨S1x16384x1, .f32⟩
  | .hbm, ⟨29, _⟩ => ⟨S1x16384x1, .f32⟩
  | .hbm, ⟨30, _⟩ => ⟨S1x16384x1, .f32⟩
  | .hbm, ⟨31, _⟩ => ⟨S1x16384x2048, .f32⟩
  | .hbm, ⟨32, _⟩ => ⟨S1x16384x2048, .f32⟩
  | .hbm, ⟨33, _⟩ => ⟨S1x1x2048, .f32⟩
  | .hbm, ⟨34, _⟩ => ⟨S1x16384x2048, .f32⟩
  | .hbm, ⟨35, _⟩ => ⟨S1x16384x2048, .f32⟩
  | .hbm, ⟨36, _⟩ => ⟨S1x1x2048, .f32⟩
  | .hbm, ⟨37, _⟩ => ⟨S1x16384x2048, .f32⟩
  | .hbm, ⟨38, _⟩ => ⟨S1x16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.K.Runs.lean ====
/- The kernel's body run once for each kind of grid point (A: the first point, B: the first key block of a later row, C: the diagonal block, D: any other). (`Kernel`) -/
module

public import proofs.«01_k».proof.Proof.Gen.Kernel.Skeleton
public import proofs.«01_k».proof.Proof.K.Pins

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- One staging buffer of output window 3, through which its contents are stated (`View.read_writes_of_cover`). -/
abbrev VO0_3 : View sig .tc .vmem S1024x512 .bf16 := (Memref.whole cc0_stg3_0 : Memref sig .tc .vmem S1024x512 .bf16).view

set_option backward.proofsInPublic true in
set_option maxHeartbeats 8000000 in
noncomputable def kernelRun0_A (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (hc0 : (Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S136) (k0_off4 i) S1.size (k0_off4_inb i)).toLoadRect T3 (Shape.Idx.first (numel1_S1.symm ▸ Nat.one_pos))) = 1#1) :
    Σ' (out0 : List (View.Piece (Elt Bits) S1024x512 .bf16)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, _, fun (xa0 : Buf (Elt Bits) ((c : Thread nD τ).loc cc0_scratch0)) (xa1 : Buf (Elt Bits) ((c : Thread nD τ).loc cc0_scratch1)) K => by
    unfold owns
    rw [cc0_flash_causal_eq_skeleton]; unfold cc0_flash_causal_skel
    iintro ⟨H0, H1, H2, HT0, HT1, HT2, HT3, HT4, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]; · iexists _; iexact HO3
    isplitl [HS0]; · iexact HS0
    iexact HS1⟩

theorem cover0_A_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (hc0 : (Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S136) (k0_off4 i) S1.size (k0_off4_inb i)).toLoadRect T3 (Shape.Idx.first (numel1_S1.symm ▸ Nat.one_pos))) = 1#1) (y : S1024x512.Idx) :
    ∃ pc ∈ (kernelRun0_A c i arg7 harg7 arg8 harg8 arg9 harg9 arg10 harg10 T0 T1 T2 T3 T4 x0 x1 x2 hc0 hc1 hc2 k0_h4).1, y ∈ pc.1.set :=
  View.cover_of_tiledL (kernelRun0_A c i arg7 harg7 arg8 harg8 arg9 harg9 arg10 harg10 T0 T1 T2 T3 T4 x0 x1 x2 hc0 hc1 hc2 k0_h4).1 S1024x64.size (by sl_kernel_rfl) y

/-- What path A leaves in output 3's staging buffer: its pieces read back over junk. -/
def out0_A_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (hc0 : (Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S136) (k0_off4 i) S1.size (k0_off4_inb i)).toLoadRect T3 (Shape.Idx.first (numel1_S1.symm ▸ Nat.one_pos))) = 1#1) : (S1024x512.Idx → Elt Bits .bf16) :=
  VO0_3.read (Elt Bits) (VO0_3.writes (Elt Bits) VO0_3.junk (kernelRun0_A c i arg7 harg7 arg8 harg8 arg9 harg9 arg10 harg10 T0 T1 T2 T3 T4 x0 x1 x2 hc0 hc1 hc2 k0_h4).1)

set_option backward.proofsInPublic true in
set_option maxHeartbeats 8000000 in
noncomputable def kernelRun0_B (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (hc0 : (Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1) (hc1 : (Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1)) (k0_h4 : ¬(k0_cond4 (View.readAt (Elt Bits) (tbM0_3).view (Rect.unit (s := S136) (k0_off4 i) S1.size (k0_off4_inb i)).toLoadRect T3 (Shape.Idx.first (numel1_S1.symm ▸ Nat.one_pos))) = 1#1)) :
    Σ' (out0 : Buf (Elt Bits) ((c : Thread nD τ).loc cc0_scratch0)), { out1 : Buf (Elt Bits) ((c : Thread nD τ).loc cc0_scratch1) //
      ∀ (y3 : (S1024x512.Idx → Elt Bits .bf16)) (xa0 : Buf (Elt Bits) ((c : Thread nD τ).loc cc0_scratch0)) (xa1 : Buf (Elt Bits) ((c : Thread nD τ).loc cc0_scratch1)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg10 fullShare y3
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg10 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, fun (y3 : (S1024x512.Idx → Elt Bits .bf16)) (xa0 : Buf (Elt Bits) ((c : Thread nD τ).loc cc0_scratch0)) (xa1 : Buf (Elt Bits) ((c : Thread nD τ).loc cc0_scratch1)) K => by
    unfold owns
    rw [cc0_flash_causal_eq_skeleton]; unfold cc0_flash_causal_skel
    iintro ⟨H0, H1, H2, HT0, HT1, HT2, HT3, HT4, ⟨%f3, %hf3, HO3⟩, HS0, HS1, Hk⟩
    obtain rfl := harg10.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]
    · iexists _; isplitr; · ipureintro; exact harg10.read_unread _
      iexact HO3
    isplitl [HS0]; · iexact HS0
    iexact HS1⟩

set_option backward.proofsInPublic true in
set_option maxHeartbeats 8000000 in
noncomputable def kernelRun0_C (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S136) (k0_off4 i) S1.size (k0_off4_inb i)).toLoadRect T3 (Shape.Idx.first (numel1_S1.symm ▸ Nat.one_pos))) = 1#1) :
    Σ' (out0 : List (View.Piece (Elt Bits) S1024x512 .bf16)) (out1 : Buf (Elt Bits) ((c : Thread nD τ).loc cc0_scratch0)), { out2 : Buf (Elt Bits) ((c : Thread nD τ).loc cc0_scratch1) //
      ∀ (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, _, fun K => by
    unfold owns
    rw [cc0_flash_causal_eq_skeleton]; unfold cc0_flash_causal_skel
    iintro ⟨H0, H1, H2, HT0, HT1, HT2, HT3, HT4, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]; · iexists _; iexact HO3
    isplitl [HS0]; · iexact HS0
    iexact HS1⟩

theorem cover0_C_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S136) (k0_off4 i) S1.size (k0_off4_inb i)).toLoadRect T3 (Shape.Idx.first (numel1_S1.symm ▸ Nat.one_pos))) = 1#1) (y : S1024x512.Idx) :
    ∃ pc ∈ (kernelRun0_C c i arg7 harg7 arg8 harg8 arg9 harg9 arg10 harg10 T0 T1 T2 T3 T4 x0 x1 x2 xa0 xa1 hc0 hc1 hc2 k0_h4).1, y ∈ pc.1.set :=
  View.cover_of_tiledL (kernelRun0_C c i arg7 harg7 arg8 harg8 arg9 harg9 arg10 harg10 T0 T1 T2 T3 T4 x0 x1 x2 xa0 xa1 hc0 hc1 hc2 k0_h4).1 S1024x64.size (by sl_kernel_rfl) y

/-- What path C leaves in output 3's staging buffer: its pieces read back over junk. -/
def out0_C_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Bits) (tbM0_3).view (Rect.unit (s := S136) (k0_off4 i) S1.size (k0_off4_inb i)).toLoadRect T3 (Shape.Idx.first (numel1_S1.symm ▸ Nat.one_pos))) = 1#1) : (S1024x512.Idx → Elt Bits .bf16) :=
  VO0_3.read (Elt Bits) (VO0_3.writes (Elt Bits) VO0_3.junk (kernelRun0_C c i arg7 harg7 arg8 harg8 arg9 harg9 arg10 harg10 T0 T1 T2 T3 T4 x0 x1 x2 xa0 xa1 hc0 hc1 hc2 k0_h4).1)

set_option backward.proofsInPublic true in
set_option maxHeartbeats 8000000 in
noncomputable def kernelRun0_D (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Bits .i32)) (T1 : (S136.Idx → Elt Bits .i32)) (T2 : (S136.Idx → Elt Bits .i32)) (T3 : (S136.Idx → Elt Bits .i32)) (T4 : (S136.Idx → Elt Bits .i32))
     (x0 : (S1024x1024.Idx → Elt Bits .bf16)) (x1 : (S1024x1024.Idx → Elt Bits .bf16)) (x2 : (S1024x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_2).view (Rect.unit (s := S136) (k0_off1 i) S1.size (k0_off1_inb i)).toLoadRect T2 (Shape.Idx.first (numel1_S1.symm ▸ Nat.one_pos))) 1#32)) 0#32) = 1#1)) (hc1 : (Scalar.cmpi .ne (Scalar.extui (Scalar.cmpi .eq (View.readAt (Elt Bits) (tbM0_4).view (Rect.unit (s := S136) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Bits) (tbM0_4).view (Rect.unit (s := S136) (k0_off3 i) S1.size (k0_off3_inb i)).toLoadRect T4 (Shape.Idx.first (numel1_S1.symm ▸ Nat.one_pos))) 1#32)) 0#32) = 1#1)) (k0_h4 : ¬(k0_cond4 (View.readAt (Elt Bits) (tbM0_3).view (Rect.unit (s := S136) (k0_off4 i) S1.size (k0_off4_inb i)).toLoadRect T3 (Shape.Idx.first (numel1_S1.symm ▸ Nat.one_pos))) = 1#1)) :
    Σ' (out0 : Buf (Elt Bits) ((c : Thread nD τ).loc cc0_scratch0)), { out1 : Buf (Elt Bits) ((c : Thread nD τ).loc cc0_scratch1) //
      ∀ (y3 : (S1024x512.Idx → Elt Bits .bf16)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg10 fullShare y3
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg10 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, fun (y3 : (S1024x512.Idx → Elt Bits .bf16)) K => by
    unfold owns
    rw [cc0_flash_causal_eq_skeleton]; unfold cc0_flash_causal_skel
    iintro ⟨H0, H1, H2, HT0, HT1, HT2, HT3, HT4, ⟨%f3, %hf3, HO3⟩, HS0, HS1, Hk⟩
    obtain rfl := harg10.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]
    · iexists _; isplitr; · ipureintro; exact harg10.read_unread _
      iexact HO3
    isplitl [HS0]; · iexact HS0
    iexact HS1⟩

end Cert.Kernel.Hand

end
-- ==== Proof.K.Ok0.lean ====
/- Every block the tables name lies inside its array. (`Kernel`) -/
module

public import proofs.«01_k».proof.Proof.K.Pins

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S1024x1024.size a ≤ S16384x1024.size a := by decide +kernel
theorem ok_pfN_0_0 : (∀ i : grid0.Coords, ∃ h : (∀ a, (cc0_transform_0 k0_off1_inb numel1_S1 (pfN (⟨0, by omega⟩ : Fin 1)) i a + 1) * S1024x1024.size a ≤ S16384x1024.size a), EltTy.bits .bf16 = 32 ∨ (Rect.block (s := S16384x1024) S1024x1024.size (cc0_transform_0 k0_off1_inb numel1_S1 (pfN (⟨0, by omega⟩ : Fin 1)) i) h).WholeWords (EltTy.packing .bf16)) := fun i => ⟨ok_pfN_0_0_inb i, .inr (Affine.block_words_dvd (s := S16384x1024) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1024x1024.size a ≤ S16384x1024.size a := by decide +kernel
theorem ok_pfN_0_1 : (∀ i : grid0.Coords, ∃ h : (∀ a, (cc0_transform_1 k0_off1_inb numel1_S1 (pfN (⟨0, by omega⟩ : Fin 1)) i a + 1) * S1024x1024.size a ≤ S16384x1024.size a), EltTy.bits .bf16 = 32 ∨ (Rect.block (s := S16384x1024) S1024x1024.size (cc0_transform_1 k0_off1_inb numel1_S1 (pfN (⟨0, by omega⟩ : Fin 1)) i) h).WholeWords (EltTy.packing .bf16)) := fun i => ⟨ok_pfN_0_1_inb i, .inr (Affine.block_words_dvd (s := S16384x1024) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1024x1024.size a ≤ S16384x1024.size a := by decide +kernel
theorem ok_pfN_0_2 : (∀ i : grid0.Coords, ∃ h : (∀ a, (cc0_transform_2 k0_off1_inb numel1_S1 (pfN (⟨0, by omega⟩ : Fin 1)) i a + 1) * S1024x1024.size a ≤ S16384x1024.size a), EltTy.bits .bf16 = 32 ∨ (Rect.block (s := S16384x1024) S1024x1024.size (cc0_transform_2 k0_off1_inb numel1_S1 (pfN (⟨0, by omega⟩ : Fin 1)) i) h).WholeWords (EltTy.packing .bf16)) := fun i => ⟨ok_pfN_0_2_inb i, .inr (Affine.block_words_dvd (s := S16384x1024) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1024x512.size a ≤ S16384x512.size a := by decide +kernel
theorem ok_pfN_0_3 : (∀ i : grid0.Coords, ∃ h : (∀ a, (cc0_transform_3 k0_off1_inb numel1_S1 (pfN (⟨0, by omega⟩ : Fin 1)) i a + 1) * S1024x512.size a ≤ S16384x512.size a), EltTy.bits .bf16 = 32 ∨ (Rect.block (s := S16384x512) S1024x512.size (cc0_transform_3 k0_off1_inb numel1_S1 (pfN (⟨0, by omega⟩ : Fin 1)) i) h).WholeWords (EltTy.packing .bf16)) := fun i => ⟨ok_pfN_0_3_inb i, .inr (Affine.block_words_dvd (s := S16384x512) (p := EltTy.packing .bf16) (by decide) (by decide))⟩
theorem ok_pfN_0 : ok0 (F := Bits) (pfN (⟨0, by omega⟩ : Fin 1)) := ⟨ok_pfN_0_0, ok_pfN_0_1, ok_pfN_0_2, ok_pfN_0_3⟩

end Cert.Kernel.Hand

end
-- ==== Proof.K.Cfg.lean ====
/- The pipeline at these tables: a point's coordinates, staging buffers and blocks, and the two decisions that tell the four kinds of grid point apart. (`Kernel`) -/
module

public import proofs.«01_k».proof.Proof.K.Ok0

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 136 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x1024 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1024x1024 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1024x1024 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S1024x512 .bf16 := spec0_3.stage ((cfgA ch).slots t (3 : Fin 4))
abbrev hs0_3 (t : Fin (cfgA ch).N) : (ms0_3 ch t).IsWhole := hstage0_3 (((cfgA ch).slots t (3 : Fin 4)).cast nbuf0_3)

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

abbrev P0_0 (t : Fin (cfgA ch).N) : Prop := (Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1
abbrev P0_1 (t : Fin (cfgA ch).N) : Prop := (Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

def sfirst0_1 (ch : Fin 1) : ℕ := 0
def sfrTab0_1 : ℕ → Bool := fun n => decide (n ≤ sfirst0_1 ch)

set_option backward.proofsInPublic true in
def frMask0_3 : Fin 1 → ℕ
  | ⟨0, _⟩ => 0xffffffffffffffffffffffffffffffffff
  | ⟨_ + 1, h⟩ => absurd h (by omega)
def frTab0_3 : ℕ → Bool
  | 0 => true
  | n + 1 => (frMask0_3 ch).testBit n

end Cert.Kernel.Hand

end
-- ==== Proof.K.Facts.lean ====
/- The facts about one grid point that are decided by evaluation. (`Kernel`) -/
module

public import proofs.«01_k».proof.Proof.K.Cfg

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

abbrev FactsAt (ch : Fin 1) (t : Fin (cfgA ch).N) : Prop :=
  -- sfrTab0_0_step, sfrTab0_1_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → ((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ ((¬((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1) ∧ (True)))))
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = true ∧ sfrTab0_0 ch (t.val + 1) = false ∧ sfrTab0_1 ch t.val = true ∧ sfrTab0_1 ch (t.val + 1) = false)
  ∧ (P0_0 ch t → P0_1 ch t → ((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ (((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1)) ∧ (True)))))
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → (¬((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ ((¬((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1) ∧ (True)))))
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false)
  ∧ (¬P0_0 ch t → P0_1 ch t → (¬((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ (((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1)) ∧ (True)))))
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.Kernel.Hand

end
-- ==== Proof.K.Frame.lean ====
/- The walk over the grid, the launch and the frame. (`Kernel`) -/
module

public import proofs.«01_k».proof.Proof.K.Runs
public import proofs.«01_k».proof.Proof.K.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Bits) ℓ) (ρ : Dev nD → PrngReg)

theorem allFacts : ∀ (ch : Fin 1) (t : Fin (cfgA ch).N), FactsAt ch t := fun ch => match ch with
  | ⟨0, _⟩ => allFacts_0
  | ⟨_ + 1, h⟩ => absurd h (by omega)

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t →
    ((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ ((¬((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := fun ch t => (allFacts ch t).2.2.2.1

theorem hypsR0_A : ∀ (ch : Fin 1) (t : Fin (cfgA ch).N), P0_0 ch t → ¬P0_1 ch t →
    ((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ ((¬((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = true ∧ sfresh0_0 ch (t.val + 1) = false ∧ sfresh0_1 ch t.val = true ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → P0_1 ch t →
    ((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ (((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := fun ch t => (allFacts ch t).2.2.2.2.2.1

theorem hypsR0_B : ∀ (ch : Fin 1) (t : Fin (cfgA ch).N), P0_0 ch t → P0_1 ch t →
    ((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ (((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t →
    (¬((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ ((¬((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := fun ch t => (allFacts ch t).2.2.2.2.2.2.2.1

theorem hypsR0_C : ∀ (ch : Fin 1) (t : Fin (cfgA ch).N), ¬P0_0 ch t → ¬P0_1 ch t →
    (¬((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ ((¬((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → P0_1 ch t →
    (¬((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ (((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := fun ch t => (allFacts ch t).2.2.2.2.2.2.2.2.2.1

theorem hypsR0_D : ∀ (ch : Fin 1) (t : Fin (cfgA ch).N), ¬P0_0 ch t → P0_1 ch t →
    (¬((Scalar.cmpi .ne (Scalar.extui (Scalar.cmpi .eq (View.readAt (Elt Bits) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ (((Scalar.cmpi .ne (Scalar.extui (Scalar.cmpi .eq (View.readAt (Elt Bits) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Bits) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Bits) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.2.2.2.2.2.2) ch t

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA ch).N) (prev : (S1024x512.Idx → Elt Bits .bf16) × Buf (Elt Bits) ((c : Thread nD τ).loc cc0_scratch0) × Buf (Elt Bits) ((c : Thread nD τ).loc cc0_scratch1)) : (S1024x512.Idx → Elt Bits .bf16) × Buf (Elt Bits) ((c : Thread nD τ).loc cc0_scratch0) × Buf (Elt Bits) ((c : Thread nD τ).loc cc0_scratch1) :=
  if q0 : P0_0 ch t then
    if q1 : P0_1 ch t then
      ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.1)
  else
    if q1 : P0_1 ch t then
      ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).2.1)
    else
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.2.1)

/-- THE TRAJECTORY: after position `n`. -/
def traj0 (c : Dev nD) : (n : ℕ) → n < (cfgA ch).N → (S1024x512.Idx → Elt Bits .bf16) × Buf (Elt Bits) ((c : Thread nD τ).loc cc0_scratch0) × Buf (Elt Bits) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x512.Idx → Elt Bits .bf16) × Buf (Elt Bits) ((c : Thread nD τ).loc cc0_scratch0) × Buf (Elt Bits) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x512.Idx → Elt Bits .bf16) × Buf (Elt Bits) ((c : Thread nD τ).loc cc0_scratch0) × Buf (Elt Bits) ((c : Thread nD τ).loc cc0_scratch1)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.1) := by
  unfold step0; simp only [dif_pos q0, dif_neg q1]

/-- `step0` at a point of path B. -/
theorem step0_B (c : Dev nD) (t : Fin (cfgA ch).N) (prev : (S1024x512.Idx → Elt Bits .bf16) × Buf (Elt Bits) ((c : Thread nD τ).loc cc0_scratch0) × Buf (Elt Bits) ((c : Thread nD τ).loc cc0_scratch1)) (q0 : P0_0 ch t) (q1 : P0_1 ch t) :
    step0 ch m ρ c t prev = ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.1) := by
  unfold step0; simp only [dif_pos q0, dif_pos q1]

/-- `step0` at a point of path C. -/
theorem step0_C (c : Dev nD) (t : Fin (cfgA ch).N) (prev : (S1024x512.Idx → Elt Bits .bf16) × Buf (Elt Bits) ((c : Thread nD τ).loc cc0_scratch0) × Buf (Elt Bits) ((c : Thread nD τ).loc cc0_scratch1)) (q0 : ¬P0_0 ch t) (q1 : ¬P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.2.1) := by
  unfold step0; simp only [dif_neg q0, dif_neg q1]

/-- `step0` at a point of path D. -/
theorem step0_D (c : Dev nD) (t : Fin (cfgA ch).N) (prev : (S1024x512.Idx → Elt Bits .bf16) × Buf (Elt Bits) ((c : Thread nD τ).loc cc0_scratch0) × Buf (Elt Bits) ((c : Thread nD τ).loc cc0_scratch1)) (q0 : ¬P0_0 ch t) (q1 : P0_1 ch t) :
    step0 ch m ρ c t prev = ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).2.1) := by
  unfold step0; simp only [dif_neg q0, dif_pos q1]

/-- What the tracked buffers held before position `t` of `Fin (N+1)` (the invariant's index). -/
def prev0T (c : Dev nD) (t : Fin ((cfgA ch).N + 1)) : (S1024x512.Idx → Elt Bits .bf16) × Buf (Elt Bits) ((c : Thread nD τ).loc cc0_scratch0) × Buf (Elt Bits) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch) ∗ (tbM0_3.view.loc (c : Thread nD τ) ↦{fullShare.right} pinT_3 ch) ∗ (tbM0_4.view.loc (c : Thread nD τ) ↦{fullShare.right} pinT_4 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i3, -, -, -, -, -, -⟩ := sched0_A ch t q0 q1
      rw [i3] at hi; exact absurd hi (by decide)
  · by_cases q1 : P0_1 ch t
    · rw [step0_D ch m ρ c t _ q0 q1]
      simp only [hf, Bool.false_eq_true, ↓reduceIte]
      unfold prev0; rw [dif_neg ht]
    · obtain ⟨i3, -, -, -, -, -, -⟩ := sched0_C ch t q0 q1
      rw [i3] at hi; exact absurd hi (by decide)

theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-- The body at point `t` on its staging memrefs, as the pipeline calls it. -/
abbrev bodyAt0 (t : Fin (cfgA ch).N) : Prog (TpuEff nD τ sig (Elt Bits) Λ₀ .tc) PUnit :=
  cc0_flash_causal (crd ch t) (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1⟩ := sched0_B ch t q0 q1
      have F0 := hypsR0_B ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, HT0, HT1, HT2, HT3, HT4⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) hc0 hc1 hc2 k0_h4).2.2 _ a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexact H3
      isplitl [HS0]; · iexact HS0
      isplitl [HS1]; · iexact HS1
      iintro ⟨H0, H1, H2, HT0, HT1, HT2, HT3, HT4, H3, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1⟩ := sched0_A ch t q0 q1
      have F0 := hypsR0_A ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1, HT2, HT3, HT4⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) hc0 hc1 hc2 k0_h4).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexists _; iexact H3
      isplitl [HS0]; · iexact HS0
      isplitl [HS1]; · iexact HS1
      iintro ⟨H0, H1, H2, HT0, HT1, HT2, HT3, HT4, ⟨%e3, H3⟩, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _ _ _ _ _)
  · by_cases q1 : P0_1 ch t
    · obtain ⟨i3, f3, fr3, sf0, sfn0, sf1, sfn1⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1, HT2, HT3, HT4⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) _ _ hc0 hc1 hc2 k0_h4).2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexact H3
      isplitl [HS0]; · iexact HS0
      isplitl [HS1]; · iexact HS1
      iintro ⟨H0, H1, H2, HT0, HT1, HT2, HT3, HT4, H3, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1⟩ := sched0_C ch t q0 q1
      have F0 := hypsR0_C ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1]
      iintro ⟨⟨HS0, HS1, HT0, HT1, HT2, HT3, HT4⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) _ _ hc0 hc1 hc2 k0_h4).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexists _; iexact H3
      isplitl [HS0]; · iexact HS0
      isplitl [HS1]; · iexact HS1
      iintro ⟨H0, H1, H2, HT0, HT1, HT2, HT3, HT4, ⟨%e3, H3⟩, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 5 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3) ∗ (((c : Thread nD τ).loc main_c_3) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2, HT3, HT4⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  isplitl [HT1]
  · iexact HT1
  isplitl [HT2]
  · iexact HT2
  isplitl [HT3]
  · iexact HT3
  iexact HT4

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -, -, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

def mE (m : (ℓ : Loc nD τ sig) → Buf (Elt Bits) ℓ) : (ℓ : Loc nD τ sig) → Buf (Elt Bits) ℓ :=
  fun ℓ => StableHlo.after (hostOps0 (F := Bits)) (fun b => m (ℓ.1, b)) ℓ.2

/-- No host operation allocates a buffer. -/
theorem hostOps0_fresh : (hostOps0 (F := Bits) : List (HloOp τ sig (Elt Bits))).Forall fun op => op.fresh = ∅ := by
  simp only [List.Forall]; repeat' constructor

/-- The buffer each host operation writes, in order. -/
abbrev hostOps0_W : List (Ref sig .tc) := [main_c, main_c_0, main_c_1, main_c_2, main_c_3, main_cst, main_v0, main_v1, main_cst_4, main_v2, main_v3, main_v4, main_v5, main_v6, main_cst_5, main_v7, main_v8, main_v9, main_v10, main_cst_6, main_v11, main_v12, main_v13, main_v14, main_cst_7, main_v15, main_v16]
theorem hostOps0_writes : (hostOps0 (F := Bits) : List (HloOp τ sig (Elt Bits))).Forall fun op => op.writes ⊆ (hostOps0_W.map (Proc.devRef (τ := τ) .tc)).toFinset :=
  StableHlo.forall_writes_sub_of_map rfl

/-- No host operation writes an argument. -/
theorem mE_arg (c : Dev nD) (b : Ref sig .tc) (hb : b ∉ hostOps0_W) :
    mE m ((c : Thread nD τ).loc b) = m ((c : Thread nD τ).loc b) :=
  StableHlo.after_of_writes_sub _ _ hostOps0_writes hb

/-- The five tables are the five constants. -/
theorem lit_0 (ch : Fin 1) : (fun i : S136.Idx => lit0 (S136.rowMajor i)) = pinT_0 ch :=
  funext fun i => (by decide +kernel : ∀ ch : Fin 1, ∀ i : S136.Idx, lit0 (S136.rowMajor i) = pinT_0 ch i) ch i
theorem lit_1 (ch : Fin 1) : (fun i : S136.Idx => lit1 (S136.rowMajor i)) = pinT_1 ch :=
  funext fun i => (by decide +kernel : ∀ ch : Fin 1, ∀ i : S136.Idx, lit1 (S136.rowMajor i) = pinT_1 ch i) ch i
theorem lit_2 (ch : Fin 1) : (fun i : S136.Idx => lit2 (S136.rowMajor i)) = pinT_2 ch :=
  funext fun i => (by decide +kernel : ∀ ch : Fin 1, ∀ i : S136.Idx, lit2 (S136.rowMajor i) = pinT_2 ch i) ch i
theorem lit_3 (ch : Fin 1) : (fun i : S136.Idx => lit3 (S136.rowMajor i)) = pinT_3 ch :=
  funext fun i => (by decide +kernel : ∀ ch : Fin 1, ∀ i : S136.Idx, lit3 (S136.rowMajor i) = pinT_3 ch i) ch i
theorem lit_4 (ch : Fin 1) : (fun i : S136.Idx => lit4 (S136.rowMajor i)) = pinT_4 ch :=
  funext fun i => (by decide +kernel : ∀ ch : Fin 1, ∀ i : S136.Idx, lit4 (S136.rowMajor i) = pinT_4 ch i) ch i

set_option maxHeartbeats 2000000 in
theorem mE_c (c : Dev nD) : mE m ((c : Thread nD τ).loc main_c) = fun i => lit0 (S136.rowMajor i) := by
  change StableHlo.after hostOps0 (fun b => m (c, b)) (Proc.devRef .tc main_c) = _
  after_results_simp
  rfl
set_option maxHeartbeats 2000000 in
theorem mE_c_0 (c : Dev nD) : mE m ((c : Thread nD τ).loc main_c_0) = fun i => lit1 (S136.rowMajor i) := by
  change StableHlo.after hostOps0 (fun b => m (c, b)) (Proc.devRef .tc main_c_0) = _
  after_results_simp
  rfl
set_option maxHeartbeats 2000000 in
theorem mE_c_1 (c : Dev nD) : mE m ((c : Thread nD τ).loc main_c_1) = fun i => lit2 (S136.rowMajor i) := by
  change StableHlo.after hostOps0 (fun b => m (c, b)) (Proc.devRef .tc main_c_1) = _
  after_results_simp
  rfl
set_option maxHeartbeats 2000000 in
theorem mE_c_2 (c : Dev nD) : mE m ((c : Thread nD τ).loc main_c_2) = fun i => lit3 (S136.rowMajor i) := by
  change StableHlo.after hostOps0 (fun b => m (c, b)) (Proc.devRef .tc main_c_2) = _
  after_results_simp
  rfl
set_option maxHeartbeats 2000000 in
theorem mE_c_3 (c : Dev nD) : mE m ((c : Thread nD τ).loc main_c_3) = fun i => lit4 (S136.rowMajor i) := by
  change StableHlo.after hostOps0 (fun b => m (c, b)) (Proc.devRef .tc main_c_3) = _
  after_results_simp
  rfl

/-- The region is entered with the tables in place. -/
theorem pinned : Pinned ch (mE m) :=
  ⟨fun c => (mE_c m c).trans (lit_0 ch), fun c => (mE_c_0 m c).trans (lit_1 ch), fun c => (mE_c_1 m c).trans (lit_2 ch), fun c => (mE_c_2 m c).trans (lit_3 ch), fun c => (mE_c_3 m c).trans (lit_4 ch)⟩

theorem V_pre (hp : Pinned ch m) (c : Dev nD) (j : Fin 5) : m ((c : Thread nD τ).loc (pre0.ref j)) = (adm ch).1 j := by
  fin_cases j
  · exact hp.1 c
  · exact hp.2.1 c
  · exact hp.2.2.1 c
  · exact hp.2.2.2.1 c
  · exact hp.2.2.2.2 c

def Post : PUnit × MemSt nD τ sig (Elt Bits) → Prop := fun r =>
  ∀ c : Dev nD, (∀ w : Fin (cfgA ch).W, r.2.mem (((cfgA ch).win w).arr.view.loc (c : Thread nD τ)) = (dats ch (mE m) ρ 0 c).arrAt w (cfgA ch).N)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))

set_option backward.isDefEq.respectTransparency.types false in
set_option maxHeartbeats 4000000 in
theorem run_main : θ_run (defs (F := Bits)) (onTc (τ := τ) (main (F := Bits))) (s₀ m ρ) (fun r => Post ch m ρ r ∧ r.2.sem = fun _ => 0) :=
  Pipeline.θ_run_region_noSem_pf_quiescent pcfgs (fun _ => adm ch) (dats ch (mE m) ρ) () ((launch0 (F := Bits)).cellOf_inj fun _ => adm ch) (0 : Fin 1)
    (launch0 (F := Bits)).win.to₀ (launch0 (F := Bits)).pre EP defs₀ Variants.none m ρ main
    (hbody := fun c => (body_obligation ch (mE m) ρ (pinned ch m) c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => mE m ((c : Thread nD τ).loc b))
    (hmain := Pipeline.hmainP_prefix pcfgs (0 : Fin 1) defs₀ Variants.none m main hostOps0 hostOps0_sub hostOps0_fresh main_chain)
    (hsplit := fun c => Pipeline.arrays_split (pcs ch) (dats ch (mE m) ρ) 0 (launch0 (F := Bits)).win.arr_inj c (launch0 (F := Bits)).arr_whole
      (share_eq ch (mE m) ρ c) _ _ fun _ => rfl)
    (hpf := V_pre ch (mE m) (pinned ch m))
    (X := fun _ => iprop(emp)) (Y := fun _ => iprop(emp))
    (Z := fun c => Pipeline.unscopedRestP (Ix := Unit) (Name := ℕ) (U := UR sig nD τ) (Lvl := ℕ) pre0 spec0 c (fun b => mE m ((c : Thread nD τ).loc b)))
    (hX := fun c => by
      iintro HU
      isplitr; · iempintro
      iexact HU)
    (hin := phi0_intro ch (mE m) ρ)
    (hout := phiN_exit ch (mE m) ρ)
    (QY := fun c s => ∀ b ∈ Pipeline.restRefsP sig pre0 spec0, s.mem ((c.tc : Thread nD τ).loc b) = mE m ((c : Thread nD τ).loc b))
    (hY := fun c s' => by
      iintro ⟨-, HU, HSI⟩
      unfold Pipeline.unscopedRestP
      imodintro
      iapply (pointsTo_read_all (Pipeline.restRefsP sig pre0 spec0) (fun b => (c.tc : Thread nD τ).loc b) (fun b => mE m ((c : Thread nD τ).loc b)) s')
      isplitl [HU] <;> iassumption)
    (hQ := fun _ h hz => ⟨fun c => ⟨(h c).1,
      ((h c).2.2 main_arg0 (by decide)).trans (mE_arg m c main_arg0 (by decide)),
      ((h c).2.2 main_arg1 (by decide)).trans (mE_arg m c main_arg1 (by decide)),
      ((h c).2.2 main_arg2 (by decide)).trans (mE_arg m c main_arg2 (by decide))⟩, hz⟩)

/-- The frame: every weakly fair execution terminates, nothing faults, the arguments end unchanged and every semaphore counter reads zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_main 0 m ρ)

end Cert.Kernel.Hand

end
-- ==== Proof.KI.Pins.lean ====
/- The five tables the grid reads, written out, and what it means that a memory holds them. (`KernelIdeal`) -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S136 .i32 := Memref.whole main_c
abbrev tbM0_1 : Memref sig .tc .smem S136 .i32 := Memref.whole main_c_0
abbrev tbM0_2 : Memref sig .tc .smem S136 .i32 := Memref.whole main_c_1
abbrev tbM0_3 : Memref sig .tc .smem S136 .i32 := Memref.whole main_c_2
abbrev tbM0_4 : Memref sig .tc .smem S136 .i32 := Memref.whole main_c_3
abbrev scM0_0 : Memref sig .tc .vmem S8x1024x128 .f32 := Memref.whole cc0_scratch0
abbrev scM0_1 : Memref sig .tc .vmem S8x1024x128 .f32 := Memref.whole cc0_scratch1

variable (ch : Fin 1)

def pinT_0 (ch : Fin 1) : S136.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32, 8#32, 8#32, 8#32, 8#32, 8#32, 8#32, 8#32, 8#32, 8#32, 9#32, 9#32, 9#32, 9#32, 9#32, 9#32, 9#32, 9#32, 9#32, 9#32, 10#32, 10#32, 10#32, 10#32, 10#32, 10#32, 10#32, 10#32, 10#32, 10#32, 10#32, 11#32, 11#32, 11#32, 11#32, 11#32, 11#32, 11#32, 11#32, 11#32, 11#32, 11#32, 11#32, 12#32, 12#32, 12#32, 12#32, 12#32, 12#32, 12#32, 12#32, 12#32, 12#32, 12#32, 12#32, 12#32, 13#32, 13#32, 13#32, 13#32, 13#32, 13#32, 13#32, 13#32, 13#32, 13#32, 13#32, 13#32, 13#32, 13#32, 14#32, 14#32, 14#32, 14#32, 14#32, 14#32, 14#32, 14#32, 14#32, 14#32, 14#32, 14#32, 14#32, 14#32, 14#32, 15#32, 15#32, 15#32, 15#32, 15#32, 15#32, 15#32, 15#32, 15#32, 15#32, 15#32, 15#32, 15#32, 15#32, 15#32, 15#32] : List (BitVec 32)).getD ((x 0).val) 0#32)

def pinT_1 (ch : Fin 1) : S136.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32, 0#32, 1#32, 2#32, 3#32, 4#32, 5#32, 6#32, 7#32, 8#32, 0#32, 1#32, 2#32, 3#32, 4#32, 5#32, 6#32, 7#32, 8#32, 9#32, 0#32, 1#32, 2#32, 3#32, 4#32, 5#32, 6#32, 7#32, 8#32, 9#32, 10#32, 0#32, 1#32, 2#32, 3#32, 4#32, 5#32, 6#32, 7#32, 8#32, 9#32, 10#32, 11#32, 0#32, 1#32, 2#32, 3#32, 4#32, 5#32, 6#32, 7#32, 8#32, 9#32, 10#32, 11#32, 12#32, 0#32, 1#32, 2#32, 3#32, 4#32, 5#32, 6#32, 7#32, 8#32, 9#32, 10#32, 11#32, 12#32, 13#32, 0#32, 1#32, 2#32, 3#32, 4#32, 5#32, 6#32, 7#32, 8#32, 9#32, 10#32, 11#32, 12#32, 13#32, 14#32, 0#32, 1#32, 2#32, 3#32, 4#32, 5#32, 6#32, 7#32, 8#32, 9#32, 10#32, 11#32, 12#32, 13#32, 14#32, 15#32] : List (BitVec 32)).getD ((x 0).val) 0#32)

def pinT_2 (ch : Fin 1) : S136.Idx → BitVec 32 := fun x => (([1#32, 1#32, 0#32, 1#32, 0#32, 0#32, 1#32, 0#32, 0#32, 0#32, 1#32, 0#32, 0#32, 0#32, 0#32, 1#32, 0#32, 0#32, 0#32, 0#32, 0#32, 1#32, 0#32, 0#32, 0#32, 0#32, 0#32, 0#32, 1#32, 0#32, 0#32, 0#32, 0#32, 0#32, 0#32, 0#32, 1#32, 0#32, 0#32, 0#32, 0#32, 0#32, 0#32, 0#32, 0#32, 1#32, 0#32, 0#32, 0#32, 0#32, 0#32, 0#32, 0#32, 0#32, 0#32, 1#32, 0#32, 0#32, 0#32, 0#32, 0#32, 0#32, 0#32, 0#32, 0#32, 0#32, 1#32, 0#32, 0#32, 0#32, 0#32, 0#32, 0#32, 0#32, 0#32, 0#32, 0#32, 0#32, 1#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 0#32, 0#32] : List (BitVec 32)).getD ((x 0).val) 0#32)

def pinT_3 (ch : Fin 1) : S136.Idx → BitVec 32 := fun x => (([1#32, 0#32, 1#32, 0#32, 0#32, 1#32, 0#32, 0#32, 0#32, 1#32, 0#32, 0#32, 0#32, 0#32, 1#32, 0#32, 0#32, 0#32, 0#32, 0#32, 1#32, 0#32, 0#32, 0#32, 0#32, 0#32, 0#32, 1#32, 0#32, 0#32, 0#32, 0#32, 0#32, 0#32, 0#32, 1#32, 0#32, 0#32, 0#32, 0#32, 0#32, 0#32, 0#32, 0#32, 1#32, 0#32, 0#32, 0#32, 0#32, 0#32, 0#32, 0#32, 0#32, 0#32, 1#32, 0#32, 0#32, 0#32, 0#32, 0#32, 0#32, 0#32, 0#32, 0#32, 0#32, 1#32, 0#32, 0#32, 0#32, 0#32, 0#32, 0#32, 0#32, 0#32, 0#32, 0#32, 0#32, 1#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 0#32, 0#32, 1#32] : List (BitVec 32)).getD ((x 0).val) 0#32)

def pinT_4 (ch : Fin 1) : S136.Idx → BitVec 32 := fun x => (([1#32, 0#32, 1#32, 0#32, 0#32, 1#32, 0#32, 0#32, 0#32, 1#32, 0#32, 0#32, 0#32, 0#32, 1#32, 0#32, 0#32, 0#32, 0#32, 0#32, 1#32, 0#32, 0#32, 0#32, 0#32, 0#32, 0#32, 1#32, 0#32, 0#32, 0#32, 0#32, 0#32, 0#32, 0#32, 1#32, 0#32, 0#32, 0#32, 0#32, 0#32, 0#32, 0#32, 0#32, 1#32, 0#32, 0#32, 0#32, 0#32, 0#32, 0#32, 0#32, 0#32, 0#32, 1#32, 0#32, 0#32, 0#32, 0#32, 0#32, 0#32, 0#32, 0#32, 0#32, 0#32, 1#32, 0#32, 0#32, 0#32, 0#32, 0#32, 0#32, 0#32, 0#32, 0#32, 0#32, 0#32, 1#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 0#32, 1#32, 0#32, 0#32, 0#32, 0#32, 0#32, 0#32, 0#32, 0#32, 0#32, 0#32, 0#32, 0#32, 0#32, 0#32, 0#32, 1#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨2, _⟩ => pinT_2 ch | ⟨3, _⟩ => pinT_3 ch | ⟨4, _⟩ => pinT_4 ch | ⟨_ + 5, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

def Pinned (m : (ℓ : Loc nD τ sig) → Buf (Elt Ideal) ℓ) : Prop :=
  (∀ c : Dev nD, m ((c : Thread nD τ).loc main_c) = pinT_0 ch)
  ∧ (∀ c : Dev nD, m ((c : Thread nD τ).loc main_c_0) = pinT_1 ch)
  ∧ (∀ c : Dev nD, m ((c : Thread nD τ).loc main_c_1) = pinT_2 ch)
  ∧ (∀ c : Dev nD, m ((c : Thread nD τ).loc main_c_2) = pinT_3 ch)
  ∧ (∀ c : Dev nD, m ((c : Thread nD τ).loc main_c_3) = pinT_4 ch)

end Cert.KernelIdeal.Hand

end
-- ==== Proof.KI.Runs.lean ====
/- The kernel's body run once for each kind of grid point (A: the first point, B: the first key block of a later row, C: the diagonal block, D: any other). (`KernelIdeal`) -/
module

public import proofs.«01_k».proof.Proof.Gen.KernelIdeal.Skeleton
public import proofs.«01_k».proof.Proof.KI.Pins

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- One staging buffer of output window 3, through which its contents are stated (`View.read_writes_of_cover`). -/
abbrev VO0_3 : View sig .tc .vmem S1024x512 .bf16 := (Memref.whole cc0_stg3_0 : Memref sig .tc .vmem S1024x512 .bf16).view

set_option backward.proofsInPublic true in
set_option maxHeartbeats 8000000 in
noncomputable def kernelRun0_A (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (hc0 : (Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S136) (k0_off4 i) S1.size (k0_off4_inb i)).toLoadRect T3 (Shape.Idx.first (numel1_S1.symm ▸ Nat.one_pos))) = 1#1) :
    Σ' (out0 : List (View.Piece (Elt Ideal) S1024x512 .bf16)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, _, fun (xa0 : Buf (Elt Ideal) ((c : Thread nD τ).loc cc0_scratch0)) (xa1 : Buf (Elt Ideal) ((c : Thread nD τ).loc cc0_scratch1)) K => by
    unfold owns
    rw [cc0_flash_causal_eq_skeleton]; unfold cc0_flash_causal_skel
    iintro ⟨H0, H1, H2, HT0, HT1, HT2, HT3, HT4, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]; · iexists _; iexact HO3
    isplitl [HS0]; · iexact HS0
    iexact HS1⟩

theorem cover0_A_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (hc0 : (Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S136) (k0_off4 i) S1.size (k0_off4_inb i)).toLoadRect T3 (Shape.Idx.first (numel1_S1.symm ▸ Nat.one_pos))) = 1#1) (y : S1024x512.Idx) :
    ∃ pc ∈ (kernelRun0_A c i arg7 harg7 arg8 harg8 arg9 harg9 arg10 harg10 T0 T1 T2 T3 T4 x0 x1 x2 hc0 hc1 hc2 k0_h4).1, y ∈ pc.1.set :=
  View.cover_of_tiledL (kernelRun0_A c i arg7 harg7 arg8 harg8 arg9 harg9 arg10 harg10 T0 T1 T2 T3 T4 x0 x1 x2 hc0 hc1 hc2 k0_h4).1 S1024x64.size (by sl_kernel_rfl) y

/-- What path A leaves in output 3's staging buffer: its pieces read back over junk. -/
def out0_A_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (hc0 : (Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1) (hc1 : ¬((Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S136) (k0_off4 i) S1.size (k0_off4_inb i)).toLoadRect T3 (Shape.Idx.first (numel1_S1.symm ▸ Nat.one_pos))) = 1#1) : (S1024x512.Idx → Elt Ideal .bf16) :=
  VO0_3.read (Elt Ideal) (VO0_3.writes (Elt Ideal) VO0_3.junk (kernelRun0_A c i arg7 harg7 arg8 harg8 arg9 harg9 arg10 harg10 T0 T1 T2 T3 T4 x0 x1 x2 hc0 hc1 hc2 k0_h4).1)

set_option backward.proofsInPublic true in
set_option maxHeartbeats 8000000 in
noncomputable def kernelRun0_B (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (hc0 : (Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1) (hc1 : (Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1)) (k0_h4 : ¬(k0_cond4 (View.readAt (Elt Ideal) (tbM0_3).view (Rect.unit (s := S136) (k0_off4 i) S1.size (k0_off4_inb i)).toLoadRect T3 (Shape.Idx.first (numel1_S1.symm ▸ Nat.one_pos))) = 1#1)) :
    Σ' (out0 : Buf (Elt Ideal) ((c : Thread nD τ).loc cc0_scratch0)), { out1 : Buf (Elt Ideal) ((c : Thread nD τ).loc cc0_scratch1) //
      ∀ (y3 : (S1024x512.Idx → Elt Ideal .bf16)) (xa0 : Buf (Elt Ideal) ((c : Thread nD τ).loc cc0_scratch0)) (xa1 : Buf (Elt Ideal) ((c : Thread nD τ).loc cc0_scratch1)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg10 fullShare y3
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg10 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, fun (y3 : (S1024x512.Idx → Elt Ideal .bf16)) (xa0 : Buf (Elt Ideal) ((c : Thread nD τ).loc cc0_scratch0)) (xa1 : Buf (Elt Ideal) ((c : Thread nD τ).loc cc0_scratch1)) K => by
    unfold owns
    rw [cc0_flash_causal_eq_skeleton]; unfold cc0_flash_causal_skel
    iintro ⟨H0, H1, H2, HT0, HT1, HT2, HT3, HT4, ⟨%f3, %hf3, HO3⟩, HS0, HS1, Hk⟩
    obtain rfl := harg10.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]
    · iexists _; isplitr; · ipureintro; exact harg10.read_unread _
      iexact HO3
    isplitl [HS0]; · iexact HS0
    iexact HS1⟩

set_option backward.proofsInPublic true in
set_option maxHeartbeats 8000000 in
noncomputable def kernelRun0_C (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S136) (k0_off4 i) S1.size (k0_off4_inb i)).toLoadRect T3 (Shape.Idx.first (numel1_S1.symm ▸ Nat.one_pos))) = 1#1) :
    Σ' (out0 : List (View.Piece (Elt Ideal) S1024x512 .bf16)) (out1 : Buf (Elt Ideal) ((c : Thread nD τ).loc cc0_scratch0)), { out2 : Buf (Elt Ideal) ((c : Thread nD τ).loc cc0_scratch1) //
      ∀ (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, _, fun K => by
    unfold owns
    rw [cc0_flash_causal_eq_skeleton]; unfold cc0_flash_causal_skel
    iintro ⟨H0, H1, H2, HT0, HT1, HT2, HT3, HT4, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]; · iexists _; iexact HO3
    isplitl [HS0]; · iexact HS0
    iexact HS1⟩

theorem cover0_C_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S136) (k0_off4 i) S1.size (k0_off4_inb i)).toLoadRect T3 (Shape.Idx.first (numel1_S1.symm ▸ Nat.one_pos))) = 1#1) (y : S1024x512.Idx) :
    ∃ pc ∈ (kernelRun0_C c i arg7 harg7 arg8 harg8 arg9 harg9 arg10 harg10 T0 T1 T2 T3 T4 x0 x1 x2 xa0 xa1 hc0 hc1 hc2 k0_h4).1, y ∈ pc.1.set :=
  View.cover_of_tiledL (kernelRun0_C c i arg7 harg7 arg8 harg8 arg9 harg9 arg10 harg10 T0 T1 T2 T3 T4 x0 x1 x2 xa0 xa1 hc0 hc1 hc2 k0_h4).1 S1024x64.size (by sl_kernel_rfl) y

/-- What path C leaves in output 3's staging buffer: its pieces read back over junk. -/
def out0_C_3 (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1)) (hc1 : ¬((Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1)) (hc2 : (Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1) (k0_h4 : k0_cond4 (View.readAt (Elt Ideal) (tbM0_3).view (Rect.unit (s := S136) (k0_off4 i) S1.size (k0_off4_inb i)).toLoadRect T3 (Shape.Idx.first (numel1_S1.symm ▸ Nat.one_pos))) = 1#1) : (S1024x512.Idx → Elt Ideal .bf16) :=
  VO0_3.read (Elt Ideal) (VO0_3.writes (Elt Ideal) VO0_3.junk (kernelRun0_C c i arg7 harg7 arg8 harg8 arg9 harg9 arg10 harg10 T0 T1 T2 T3 T4 x0 x1 x2 xa0 xa1 hc0 hc1 hc2 k0_h4).1)

set_option backward.proofsInPublic true in
set_option maxHeartbeats 8000000 in
noncomputable def kernelRun0_D (c : Dev nD) (i : grid0.Coords) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (T0 : (S136.Idx → Elt Ideal .i32)) (T1 : (S136.Idx → Elt Ideal .i32)) (T2 : (S136.Idx → Elt Ideal .i32)) (T3 : (S136.Idx → Elt Ideal .i32)) (T4 : (S136.Idx → Elt Ideal .i32))
     (x0 : (S1024x1024.Idx → Elt Ideal .bf16)) (x1 : (S1024x1024.Idx → Elt Ideal .bf16)) (x2 : (S1024x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_2).view (Rect.unit (s := S136) (k0_off1 i) S1.size (k0_off1_inb i)).toLoadRect T2 (Shape.Idx.first (numel1_S1.symm ▸ Nat.one_pos))) 1#32)) 0#32) = 1#1)) (hc1 : (Scalar.cmpi .ne (Scalar.extui (Scalar.cmpi .eq (View.readAt (Elt Ideal) (tbM0_4).view (Rect.unit (s := S136) (k0_off2 i) S1.size (k0_off2_inb i)).toLoadRect T4 (Shape.Idx.first (numel1_S1.symm ▸ Nat.one_pos))) 0#32)) 0#32) = 1#1) (hc2 : ¬((Scalar.cmpi .ne (Scalar.extui (Scalar.cmpi .eq (View.readAt (Elt Ideal) (tbM0_4).view (Rect.unit (s := S136) (k0_off3 i) S1.size (k0_off3_inb i)).toLoadRect T4 (Shape.Idx.first (numel1_S1.symm ▸ Nat.one_pos))) 1#32)) 0#32) = 1#1)) (k0_h4 : ¬(k0_cond4 (View.readAt (Elt Ideal) (tbM0_3).view (Rect.unit (s := S136) (k0_off4 i) S1.size (k0_off4_inb i)).toLoadRect T3 (Shape.Idx.first (numel1_S1.symm ▸ Nat.one_pos))) = 1#1)) :
    Σ' (out0 : Buf (Elt Ideal) ((c : Thread nD τ).loc cc0_scratch0)), { out1 : Buf (Elt Ideal) ((c : Thread nD τ).loc cc0_scratch1) //
      ∀ (y3 : (S1024x512.Idx → Elt Ideal .bf16)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ owns (c : Thread nD τ) arg10 fullShare y3
          ∗ (scM0_0.view.loc (c : Thread nD τ) ↦{fullShare} xa0)
          ∗ (scM0_1.view.loc (c : Thread nD τ) ↦{fullShare} xa1)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ owns (c : Thread nD τ) arg10 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_flash_causal i tbM0_0 (Memref.isWhole_whole _) tbM0_1 (Memref.isWhole_whole _) tbM0_2 (Memref.isWhole_whole _) tbM0_3 (Memref.isWhole_whole _) tbM0_4 (Memref.isWhole_whole _) arg7 harg7 arg8 harg8 arg9 harg9 arg10 harg10 scM0_0 (Memref.isWhole_whole _) scM0_1 (Memref.isWhole_whole _)) K } :=
  ⟨_, _, fun (y3 : (S1024x512.Idx → Elt Ideal .bf16)) K => by
    unfold owns
    rw [cc0_flash_causal_eq_skeleton]; unfold cc0_flash_causal_skel
    iintro ⟨H0, H1, H2, HT0, HT1, HT2, HT3, HT4, ⟨%f3, %hf3, HO3⟩, HS0, HS1, Hk⟩
    obtain rfl := harg10.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HO3]
    · iexists _; isplitr; · ipureintro; exact harg10.read_unread _
      iexact HO3
    isplitl [HS0]; · iexact HS0
    iexact HS1⟩

end Cert.KernelIdeal.Hand

end
-- ==== Proof.KI.Ok0.lean ====
/- Every block the tables name lies inside its array. (`KernelIdeal`) -/
module

public import proofs.«01_k».proof.Proof.KI.Pins

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S1024x1024.size a ≤ S16384x1024.size a := by decide +kernel
theorem ok_pfN_0_0 : (∀ i : grid0.Coords, ∃ h : (∀ a, (cc0_transform_0 k0_off1_inb numel1_S1 (pfN (⟨0, by omega⟩ : Fin 1)) i a + 1) * S1024x1024.size a ≤ S16384x1024.size a), EltTy.bits .bf16 = 32 ∨ (Rect.block (s := S16384x1024) S1024x1024.size (cc0_transform_0 k0_off1_inb numel1_S1 (pfN (⟨0, by omega⟩ : Fin 1)) i) h).WholeWords (EltTy.packing .bf16)) := fun i => ⟨ok_pfN_0_0_inb i, .inr (Affine.block_words_dvd (s := S16384x1024) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1024x1024.size a ≤ S16384x1024.size a := by decide +kernel
theorem ok_pfN_0_1 : (∀ i : grid0.Coords, ∃ h : (∀ a, (cc0_transform_1 k0_off1_inb numel1_S1 (pfN (⟨0, by omega⟩ : Fin 1)) i a + 1) * S1024x1024.size a ≤ S16384x1024.size a), EltTy.bits .bf16 = 32 ∨ (Rect.block (s := S16384x1024) S1024x1024.size (cc0_transform_1 k0_off1_inb numel1_S1 (pfN (⟨0, by omega⟩ : Fin 1)) i) h).WholeWords (EltTy.packing .bf16)) := fun i => ⟨ok_pfN_0_1_inb i, .inr (Affine.block_words_dvd (s := S16384x1024) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1024x1024.size a ≤ S16384x1024.size a := by decide +kernel
theorem ok_pfN_0_2 : (∀ i : grid0.Coords, ∃ h : (∀ a, (cc0_transform_2 k0_off1_inb numel1_S1 (pfN (⟨0, by omega⟩ : Fin 1)) i a + 1) * S1024x1024.size a ≤ S16384x1024.size a), EltTy.bits .bf16 = 32 ∨ (Rect.block (s := S16384x1024) S1024x1024.size (cc0_transform_2 k0_off1_inb numel1_S1 (pfN (⟨0, by omega⟩ : Fin 1)) i) h).WholeWords (EltTy.packing .bf16)) := fun i => ⟨ok_pfN_0_2_inb i, .inr (Affine.block_words_dvd (s := S16384x1024) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1024x512.size a ≤ S16384x512.size a := by decide +kernel
theorem ok_pfN_0_3 : (∀ i : grid0.Coords, ∃ h : (∀ a, (cc0_transform_3 k0_off1_inb numel1_S1 (pfN (⟨0, by omega⟩ : Fin 1)) i a + 1) * S1024x512.size a ≤ S16384x512.size a), EltTy.bits .bf16 = 32 ∨ (Rect.block (s := S16384x512) S1024x512.size (cc0_transform_3 k0_off1_inb numel1_S1 (pfN (⟨0, by omega⟩ : Fin 1)) i) h).WholeWords (EltTy.packing .bf16)) := fun i => ⟨ok_pfN_0_3_inb i, .inr (Affine.block_words_dvd (s := S16384x512) (p := EltTy.packing .bf16) (by decide) (by decide))⟩
theorem ok_pfN_0 : ok0 (F := Ideal) (pfN (⟨0, by omega⟩ : Fin 1)) := ⟨ok_pfN_0_0, ok_pfN_0_1, ok_pfN_0_2, ok_pfN_0_3⟩

end Cert.KernelIdeal.Hand

end
-- ==== Proof.KI.Cfg.lean ====
/- The pipeline at these tables: a point's coordinates, staging buffers and blocks, and the two decisions that tell the four kinds of grid point apart. (`KernelIdeal`) -/
module

public import proofs.«01_k».proof.Proof.KI.Ok0

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 136 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x1024 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1024x1024 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1024x1024 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S1024x512 .bf16 := spec0_3.stage ((cfgA ch).slots t (3 : Fin 4))
abbrev hs0_3 (t : Fin (cfgA ch).N) : (ms0_3 ch t).IsWhole := hstage0_3 (((cfgA ch).slots t (3 : Fin 4)).cast nbuf0_3)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

abbrev P0_0 (t : Fin (cfgA ch).N) : Prop := (Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1
abbrev P0_1 (t : Fin (cfgA ch).N) : Prop := (Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

def sfirst0_1 (ch : Fin 1) : ℕ := 0
def sfrTab0_1 : ℕ → Bool := fun n => decide (n ≤ sfirst0_1 ch)

set_option backward.proofsInPublic true in
def frMask0_3 : Fin 1 → ℕ
  | ⟨0, _⟩ => 0xffffffffffffffffffffffffffffffffff
  | ⟨_ + 1, h⟩ => absurd h (by omega)
def frTab0_3 : ℕ → Bool
  | 0 => true
  | n + 1 => (frMask0_3 ch).testBit n

end Cert.KernelIdeal.Hand

end
-- ==== Proof.KI.Facts.lean ====
/- The facts about one grid point that are decided by evaluation. (`KernelIdeal`) -/
module

public import proofs.«01_k».proof.Proof.KI.Cfg

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

abbrev FactsAt (ch : Fin 1) (t : Fin (cfgA ch).N) : Prop :=
  -- sfrTab0_0_step, sfrTab0_1_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → ((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ ((¬((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1) ∧ (True)))))
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = true ∧ sfrTab0_0 ch (t.val + 1) = false ∧ sfrTab0_1 ch t.val = true ∧ sfrTab0_1 ch (t.val + 1) = false)
  ∧ (P0_0 ch t → P0_1 ch t → ((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ (((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1)) ∧ (True)))))
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → (¬((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ ((¬((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1) ∧ (True)))))
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false)
  ∧ (¬P0_0 ch t → P0_1 ch t → (¬((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ (((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1)) ∧ (True)))))
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.KernelIdeal.Hand

end
-- ==== Proof.KI.Facts0.lean ====
/- The facts of `Facts`, decided at all 136 points. (`KernelIdeal`) -/
module

public import proofs.«01_k».proof.Proof.KI.Facts

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 17 → FactsAt (⟨0, by omega⟩ : Fin 1) t := by decide +kernel
theorem allFacts_0_1 : ∀ t : Fin (cfgA (⟨0, by omega⟩ : Fin 1)).N, 17 ≤ t.val → t.val < 34 → FactsAt (⟨0, by omega⟩ : Fin 1) t := by decide +kernel
theorem allFacts_0_2 : ∀ t : Fin (cfgA (⟨0, by omega⟩ : Fin 1)).N, 34 ≤ t.val → t.val < 51 → FactsAt (⟨0, by omega⟩ : Fin 1) t := by decide +kernel
theorem allFacts_0_3 : ∀ t : Fin (cfgA (⟨0, by omega⟩ : Fin 1)).N, 51 ≤ t.val → t.val < 68 → FactsAt (⟨0, by omega⟩ : Fin 1) t := by decide +kernel
theorem allFacts_0_4 : ∀ t : Fin (cfgA (⟨0, by omega⟩ : Fin 1)).N, 68 ≤ t.val → t.val < 85 → FactsAt (⟨0, by omega⟩ : Fin 1) t := by decide +kernel
theorem allFacts_0_5 : ∀ t : Fin (cfgA (⟨0, by omega⟩ : Fin 1)).N, 85 ≤ t.val → t.val < 102 → FactsAt (⟨0, by omega⟩ : Fin 1) t := by decide +kernel
theorem allFacts_0_6 : ∀ t : Fin (cfgA (⟨0, by omega⟩ : Fin 1)).N, 102 ≤ t.val → t.val < 119 → FactsAt (⟨0, by omega⟩ : Fin 1) t := by decide +kernel
theorem allFacts_0_7 : ∀ t : Fin (cfgA (⟨0, by omega⟩ : Fin 1)).N, 119 ≤ t.val → t.val < 136 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 17 with h1 | h1; · exact allFacts_0_0 t h0 h1
  rcases Nat.lt_or_ge t.val 34 with h2 | h2; · exact allFacts_0_1 t h1 h2
  rcases Nat.lt_or_ge t.val 51 with h3 | h3; · exact allFacts_0_2 t h2 h3
  rcases Nat.lt_or_ge t.val 68 with h4 | h4; · exact allFacts_0_3 t h3 h4
  rcases Nat.lt_or_ge t.val 85 with h5 | h5; · exact allFacts_0_4 t h4 h5
  rcases Nat.lt_or_ge t.val 102 with h6 | h6; · exact allFacts_0_5 t h5 h6
  rcases Nat.lt_or_ge t.val 119 with h7 | h7; · exact allFacts_0_6 t h6 h7
  exact allFacts_0_7 t h7 t.isLt

end Cert.KernelIdeal.Hand

end
-- ==== Proof.KI.Frame.lean ====
/- The walk over the grid, the launch and the frame. (`KernelIdeal`) -/
module

public import proofs.«01_k».proof.Proof.KI.Runs
public import proofs.«01_k».proof.Proof.KI.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

theorem allFacts : ∀ (ch : Fin 1) (t : Fin (cfgA ch).N), FactsAt ch t := fun ch => match ch with
  | ⟨0, _⟩ => allFacts_0
  | ⟨_ + 1, h⟩ => absurd h (by omega)

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t →
    ((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ ((¬((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := fun ch t => (allFacts ch t).2.2.2.1

theorem hypsR0_A : ∀ (ch : Fin 1) (t : Fin (cfgA ch).N), P0_0 ch t → ¬P0_1 ch t →
    ((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ ((¬((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = true ∧ sfresh0_0 ch (t.val + 1) = false ∧ sfresh0_1 ch t.val = true ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → P0_1 ch t →
    ((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ (((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := fun ch t => (allFacts ch t).2.2.2.2.2.1

theorem hypsR0_B : ∀ (ch : Fin 1) (t : Fin (cfgA ch).N), P0_0 ch t → P0_1 ch t →
    ((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1) ∧ (((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t →
    (¬((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ ((¬((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := fun ch t => (allFacts ch t).2.2.2.2.2.2.2.1

theorem hypsR0_C : ∀ (ch : Fin 1) (t : Fin (cfgA ch).N), ¬P0_0 ch t → ¬P0_1 ch t →
    (¬((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ ((¬((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1)) ∧ (((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1) ∧ ((k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1) ∧ (True)))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → P0_1 ch t →
    (¬((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ (((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := fun ch t => (allFacts ch t).2.2.2.2.2.2.2.2.2.1

theorem hypsR0_D : ∀ (ch : Fin 1) (t : Fin (cfgA ch).N), ¬P0_0 ch t → P0_1 ch t →
    (¬((Scalar.cmpi .ne (Scalar.extui (Scalar.cmpi .eq (View.readAt (Elt Ideal) (tbM0_2).view (Rect.unit (s := S136) (k0_off1 (crd ch t)) S1.size (k0_off1_inb (crd ch t))).toLoadRect (pinT_2 ch) (Shape.Idx.first (numel1_S1.symm ▸ Nat.one_pos))) 1#32)) 0#32) = 1#1)) ∧ (((Scalar.cmpi .ne (Scalar.extui (Scalar.cmpi .eq (View.readAt (Elt Ideal) (tbM0_4).view (Rect.unit (s := S136) (k0_off2 (crd ch t)) S1.size (k0_off2_inb (crd ch t))).toLoadRect (pinT_4 ch) (Shape.Idx.first (numel1_S1.symm ▸ Nat.one_pos))) 0#32)) 0#32) = 1#1) ∧ ((¬((Scalar.cmpi .ne (Scalar.extui (Scalar.cmpi .eq (View.readAt (Elt Ideal) (tbM0_4).view (Rect.unit (s := S136) (k0_off3 (crd ch t)) S1.size (k0_off3_inb (crd ch t))).toLoadRect (pinT_4 ch) (Shape.Idx.first (numel1_S1.symm ▸ Nat.one_pos))) 1#32)) 0#32) = 1#1)) ∧ ((¬(k0_cond4 (View.readAt (Elt Ideal) (tbM0_3).view (Rect.unit (s := S136) (k0_off4 (crd ch t)) S1.size (k0_off4_inb (crd ch t))).toLoadRect (pinT_3 ch) (Shape.Idx.first (numel1_S1.symm ▸ Nat.one_pos))) = 1#1)) ∧ (True)))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false := by
  intro ch t; rw [freshF0_3 ch t, sfreshF0_0 ch t, sfreshS0_0 ch t, sfreshF0_1 ch t, sfreshS0_1 ch t]; exact (fun ch t => (allFacts ch t).2.2.2.2.2.2.2.2.2.2) ch t

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA ch).N) (prev : (S1024x512.Idx → Elt Ideal .bf16) × Buf (Elt Ideal) ((c : Thread nD τ).loc cc0_scratch0) × Buf (Elt Ideal) ((c : Thread nD τ).loc cc0_scratch1)) : (S1024x512.Idx → Elt Ideal .bf16) × Buf (Elt Ideal) ((c : Thread nD τ).loc cc0_scratch0) × Buf (Elt Ideal) ((c : Thread nD τ).loc cc0_scratch1) :=
  if q0 : P0_0 ch t then
    if q1 : P0_1 ch t then
      ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.1)
  else
    if q1 : P0_1 ch t then
      ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).2.1)
    else
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.2.1)

/-- THE TRAJECTORY: after position `n`. -/
def traj0 (c : Dev nD) : (n : ℕ) → n < (cfgA ch).N → (S1024x512.Idx → Elt Ideal .bf16) × Buf (Elt Ideal) ((c : Thread nD τ).loc cc0_scratch0) × Buf (Elt Ideal) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x512.Idx → Elt Ideal .bf16) × Buf (Elt Ideal) ((c : Thread nD τ).loc cc0_scratch0) × Buf (Elt Ideal) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x512.Idx → Elt Ideal .bf16) × Buf (Elt Ideal) ((c : Thread nD τ).loc cc0_scratch0) × Buf (Elt Ideal) ((c : Thread nD τ).loc cc0_scratch1)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.1) := by
  unfold step0; simp only [dif_pos q0, dif_neg q1]

/-- `step0` at a point of path B. -/
theorem step0_B (c : Dev nD) (t : Fin (cfgA ch).N) (prev : (S1024x512.Idx → Elt Ideal .bf16) × Buf (Elt Ideal) ((c : Thread nD τ).loc cc0_scratch0) × Buf (Elt Ideal) ((c : Thread nD τ).loc cc0_scratch1)) (q0 : P0_0 ch t) (q1 : P0_1 ch t) :
    step0 ch m ρ c t prev = ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.1) := by
  unfold step0; simp only [dif_pos q0, dif_pos q1]

/-- `step0` at a point of path C. -/
theorem step0_C (c : Dev nD) (t : Fin (cfgA ch).N) (prev : (S1024x512.Idx → Elt Ideal .bf16) × Buf (Elt Ideal) ((c : Thread nD τ).loc cc0_scratch0) × Buf (Elt Ideal) ((c : Thread nD τ).loc cc0_scratch1)) (q0 : ¬P0_0 ch t) (q1 : ¬P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_C ch t q0 q1).1 (hypsR0_C ch t q0 q1).2.1 (hypsR0_C ch t q0 q1).2.2.1 (hypsR0_C ch t q0 q1).2.2.2.1).2.2.1) := by
  unfold step0; simp only [dif_neg q0, dif_neg q1]

/-- `step0` at a point of path D. -/
theorem step0_D (c : Dev nD) (t : Fin (cfgA ch).N) (prev : (S1024x512.Idx → Elt Ideal .bf16) × Buf (Elt Ideal) ((c : Thread nD τ).loc cc0_scratch0) × Buf (Elt Ideal) ((c : Thread nD τ).loc cc0_scratch1)) (q0 : ¬P0_0 ch t) (q1 : P0_1 ch t) :
    step0 ch m ρ c t prev = ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1 (hypsR0_D ch t q0 q1).2.2.2.1).2.1) := by
  unfold step0; simp only [dif_neg q0, dif_pos q1]

/-- What the tracked buffers held before position `t` of `Fin (N+1)` (the invariant's index). -/
def prev0T (c : Dev nD) (t : Fin ((cfgA ch).N + 1)) : (S1024x512.Idx → Elt Ideal .bf16) × Buf (Elt Ideal) ((c : Thread nD τ).loc cc0_scratch0) × Buf (Elt Ideal) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch) ∗ (tbM0_3.view.loc (c : Thread nD τ) ↦{fullShare.right} pinT_3 ch) ∗ (tbM0_4.view.loc (c : Thread nD τ) ↦{fullShare.right} pinT_4 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i3, -, -, -, -, -, -⟩ := sched0_A ch t q0 q1
      rw [i3] at hi; exact absurd hi (by decide)
  · by_cases q1 : P0_1 ch t
    · rw [step0_D ch m ρ c t _ q0 q1]
      simp only [hf, Bool.false_eq_true, ↓reduceIte]
      unfold prev0; rw [dif_neg ht]
    · obtain ⟨i3, -, -, -, -, -, -⟩ := sched0_C ch t q0 q1
      rw [i3] at hi; exact absurd hi (by decide)

theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-- The body at point `t` on its staging memrefs, as the pipeline calls it. -/
abbrev bodyAt0 (t : Fin (cfgA ch).N) : Prog (TpuEff nD τ sig (Elt Ideal) Λ₀ .tc) PUnit :=
  cc0_flash_causal (crd ch t) (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1⟩ := sched0_B ch t q0 q1
      have F0 := hypsR0_B ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, HT0, HT1, HT2, HT3, HT4⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) hc0 hc1 hc2 k0_h4).2.2 _ a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexact H3
      isplitl [HS0]; · iexact HS0
      isplitl [HS1]; · iexact HS1
      iintro ⟨H0, H1, H2, HT0, HT1, HT2, HT3, HT4, H3, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1⟩ := sched0_A ch t q0 q1
      have F0 := hypsR0_A ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1, HT2, HT3, HT4⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) hc0 hc1 hc2 k0_h4).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexists _; iexact H3
      isplitl [HS0]; · iexact HS0
      isplitl [HS1]; · iexact HS1
      iintro ⟨H0, H1, H2, HT0, HT1, HT2, HT3, HT4, ⟨%e3, H3⟩, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _ _ _ _ _)
  · by_cases q1 : P0_1 ch t
    · obtain ⟨i3, f3, fr3, sf0, sfn0, sf1, sfn1⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1, HT2, HT3, HT4⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) _ _ hc0 hc1 hc2 k0_h4).2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexact H3
      isplitl [HS0]; · iexact HS0
      isplitl [HS1]; · iexact HS1
      iintro ⟨H0, H1, H2, HT0, HT1, HT2, HT3, HT4, H3, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1⟩ := sched0_C ch t q0 q1
      have F0 := hypsR0_C ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1]
      iintro ⟨⟨HS0, HS1, HT0, HT1, HT2, HT3, HT4⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (pinT_3 ch) (pinT_4 ch) (iblk ch m ρ c (0 : Fin 4) t) (iblk ch m ρ c (1 : Fin 4) t) (iblk ch m ρ c (2 : Fin 4) t) _ _ hc0 hc1 hc2 k0_h4).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [H3]; · iexists _; iexact H3
      isplitl [HS0]; · iexact HS0
      isplitl [HS1]; · iexact HS1
      iintro ⟨H0, H1, H2, HT0, HT1, HT2, HT3, HT4, ⟨%e3, H3⟩, HS0, HS1⟩
      isplitl [HS0 HS1 HT0 HT1 HT2 HT3 HT4]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        isplitl [HT2]
        · iexact HT2
        isplitl [HT3]
        · iexact HT3
        iexact HT4
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 5 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3) ∗ (((c : Thread nD τ).loc main_c_3) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2, HT3, HT4⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  isplitl [HT1]
  · iexact HT1
  isplitl [HT2]
  · iexact HT2
  isplitl [HT3]
  · iexact HT3
  iexact HT4

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -, -, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

def mE (m : (ℓ : Loc nD τ sig) → Buf (Elt Ideal) ℓ) : (ℓ : Loc nD τ sig) → Buf (Elt Ideal) ℓ :=
  fun ℓ => StableHlo.after (hostOps0 (F := Ideal)) (fun b => m (ℓ.1, b)) ℓ.2

/-- No host operation allocates a buffer. -/
theorem hostOps0_fresh : (hostOps0 (F := Ideal) : List (HloOp τ sig (Elt Ideal))).Forall fun op => op.fresh = ∅ := by
  simp only [List.Forall]; repeat' constructor

/-- The buffer each host operation writes, in order. -/
abbrev hostOps0_W : List (Ref sig .tc) := [main_c, main_c_0, main_c_1, main_c_2, main_c_3, main_cst, main_v0, main_v1, main_cst_4, main_v2, main_v3, main_v4, main_v5, main_v6, main_cst_5, main_v7, main_v8, main_v9, main_v10, main_cst_6, main_v11, main_v12, main_v13, main_v14, main_cst_7, main_v15, main_v16]
theorem hostOps0_writes : (hostOps0 (F := Ideal) : List (HloOp τ sig (Elt Ideal))).Forall fun op => op.writes ⊆ (hostOps0_W.map (Proc.devRef (τ := τ) .tc)).toFinset :=
  StableHlo.forall_writes_sub_of_map rfl

/-- No host operation writes an argument. -/
theorem mE_arg (c : Dev nD) (b : Ref sig .tc) (hb : b ∉ hostOps0_W) :
    mE m ((c : Thread nD τ).loc b) = m ((c : Thread nD τ).loc b) :=
  StableHlo.after_of_writes_sub _ _ hostOps0_writes hb

/-- The five tables are the five constants. -/
theorem lit_0 (ch : Fin 1) : (fun i : S136.Idx => lit0 (S136.rowMajor i)) = pinT_0 ch :=
  funext fun i => (by decide +kernel : ∀ ch : Fin 1, ∀ i : S136.Idx, lit0 (S136.rowMajor i) = pinT_0 ch i) ch i
theorem lit_1 (ch : Fin 1) : (fun i : S136.Idx => lit1 (S136.rowMajor i)) = pinT_1 ch :=
  funext fun i => (by decide +kernel : ∀ ch : Fin 1, ∀ i : S136.Idx, lit1 (S136.rowMajor i) = pinT_1 ch i) ch i
theorem lit_2 (ch : Fin 1) : (fun i : S136.Idx => lit2 (S136.rowMajor i)) = pinT_2 ch :=
  funext fun i => (by decide +kernel : ∀ ch : Fin 1, ∀ i : S136.Idx, lit2 (S136.rowMajor i) = pinT_2 ch i) ch i
theorem lit_3 (ch : Fin 1) : (fun i : S136.Idx => lit3 (S136.rowMajor i)) = pinT_3 ch :=
  funext fun i => (by decide +kernel : ∀ ch : Fin 1, ∀ i : S136.Idx, lit3 (S136.rowMajor i) = pinT_3 ch i) ch i
theorem lit_4 (ch : Fin 1) : (fun i : S136.Idx => lit4 (S136.rowMajor i)) = pinT_4 ch :=
  funext fun i => (by decide +kernel : ∀ ch : Fin 1, ∀ i : S136.Idx, lit4 (S136.rowMajor i) = pinT_4 ch i) ch i

set_option maxHeartbeats 2000000 in
theorem mE_c (c : Dev nD) : mE m ((c : Thread nD τ).loc main_c) = fun i => lit0 (S136.rowMajor i) := by
  change StableHlo.after hostOps0 (fun b => m (c, b)) (Proc.devRef .tc main_c) = _
  after_results_simp
  rfl
set_option maxHeartbeats 2000000 in
theorem mE_c_0 (c : Dev nD) : mE m ((c : Thread nD τ).loc main_c_0) = fun i => lit1 (S136.rowMajor i) := by
  change StableHlo.after hostOps0 (fun b => m (c, b)) (Proc.devRef .tc main_c_0) = _
  after_results_simp
  rfl
set_option maxHeartbeats 2000000 in
theorem mE_c_1 (c : Dev nD) : mE m ((c : Thread nD τ).loc main_c_1) = fun i => lit2 (S136.rowMajor i) := by
  change StableHlo.after hostOps0 (fun b => m (c, b)) (Proc.devRef .tc main_c_1) = _
  after_results_simp
  rfl
set_option maxHeartbeats 2000000 in
theorem mE_c_2 (c : Dev nD) : mE m ((c : Thread nD τ).loc main_c_2) = fun i => lit3 (S136.rowMajor i) := by
  change StableHlo.after hostOps0 (fun b => m (c, b)) (Proc.devRef .tc main_c_2) = _
  after_results_simp
  rfl
set_option maxHeartbeats 2000000 in
theorem mE_c_3 (c : Dev nD) : mE m ((c : Thread nD τ).loc main_c_3) = fun i => lit4 (S136.rowMajor i) := by
  change StableHlo.after hostOps0 (fun b => m (c, b)) (Proc.devRef .tc main_c_3) = _
  after_results_simp
  rfl

/-- The region is entered with the tables in place. -/
theorem pinned : Pinned ch (mE m) :=
  ⟨fun c => (mE_c m c).trans (lit_0 ch), fun c => (mE_c_0 m c).trans (lit_1 ch), fun c => (mE_c_1 m c).trans (lit_2 ch), fun c => (mE_c_2 m c).trans (lit_3 ch), fun c => (mE_c_3 m c).trans (lit_4 ch)⟩

theorem V_pre (hp : Pinned ch m) (c : Dev nD) (j : Fin 5) : m ((c : Thread nD τ).loc (pre0.ref j)) = (adm ch).1 j := by
  fin_cases j
  · exact hp.1 c
  · exact hp.2.1 c
  · exact hp.2.2.1 c
  · exact hp.2.2.2.1 c
  · exact hp.2.2.2.2 c

def Post : PUnit × MemSt nD τ sig (Elt Ideal) → Prop := fun r =>
  ∀ c : Dev nD, (∀ w : Fin (cfgA ch).W, r.2.mem (((cfgA ch).win w).arr.view.loc (c : Thread nD τ)) = (dats ch (mE m) ρ 0 c).arrAt w (cfgA ch).N)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))

set_option backward.isDefEq.respectTransparency.types false in
set_option maxHeartbeats 4000000 in
theorem run_main : θ_run (defs (F := Ideal)) (onTc (τ := τ) (main (F := Ideal))) (s₀ m ρ) (fun r => Post ch m ρ r ∧ r.2.sem = fun _ => 0) :=
  Pipeline.θ_run_region_noSem_pf_quiescent pcfgs (fun _ => adm ch) (dats ch (mE m) ρ) () ((launch0 (F := Ideal)).cellOf_inj fun _ => adm ch) (0 : Fin 1)
    (launch0 (F := Ideal)).win.to₀ (launch0 (F := Ideal)).pre EP defs₀ Variants.none m ρ main
    (hbody := fun c => (body_obligation ch (mE m) ρ (pinned ch m) c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => mE m ((c : Thread nD τ).loc b))
    (hmain := Pipeline.hmainP_prefix pcfgs (0 : Fin 1) defs₀ Variants.none m main hostOps0 hostOps0_sub hostOps0_fresh main_chain)
    (hsplit := fun c => Pipeline.arrays_split (pcs ch) (dats ch (mE m) ρ) 0 (launch0 (F := Ideal)).win.arr_inj c (launch0 (F := Ideal)).arr_whole
      (share_eq ch (mE m) ρ c) _ _ fun _ => rfl)
    (hpf := V_pre ch (mE m) (pinned ch m))
    (X := fun _ => iprop(emp)) (Y := fun _ => iprop(emp))
    (Z := fun c => Pipeline.unscopedRestP (Ix := Unit) (Name := ℕ) (U := UR sig nD τ) (Lvl := ℕ) pre0 spec0 c (fun b => mE m ((c : Thread nD τ).loc b)))
    (hX := fun c => by
      iintro HU
      isplitr; · iempintro
      iexact HU)
    (hin := phi0_intro ch (mE m) ρ)
    (hout := phiN_exit ch (mE m) ρ)
    (QY := fun c s => ∀ b ∈ Pipeline.restRefsP sig pre0 spec0, s.mem ((c.tc : Thread nD τ).loc b) = mE m ((c : Thread nD τ).loc b))
    (hY := fun c s' => by
      iintro ⟨-, HU, HSI⟩
      unfold Pipeline.unscopedRestP
      imodintro
      iapply (pointsTo_read_all (Pipeline.restRefsP sig pre0 spec0) (fun b => (c.tc : Thread nD τ).loc b) (fun b => mE m ((c : Thread nD τ).loc b)) s')
      isplitl [HU] <;> iassumption)
    (hQ := fun _ h hz => ⟨fun c => ⟨(h c).1,
      ((h c).2.2 main_arg0 (by decide)).trans (mE_arg m c main_arg0 (by decide)),
      ((h c).2.2 main_arg1 (by decide)).trans (mE_arg m c main_arg1 (by decide)),
      ((h c).2.2 main_arg2 (by decide)).trans (mE_arg m c main_arg2 (by decide))⟩, hz⟩)

/-- The frame: every weakly fair execution terminates, nothing faults, the arguments end unchanged and every semaphore counter reads zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_main 0 m ρ)

end Cert.KernelIdeal.Hand

end
-- ==== Proof.V.Pay.lean ====
/- What one store of the kernel's body writes, read at an index: the running maximum, the running weighted sum, the rescaled output. -/
module

public import proofs.«01_k».proof.Proof.Gen.KernelIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.Tactic

/-- Lane `d` of the 128-lane slot beginning at column `o`. -/
abbrev col (o : ℕ) (ho : o + 128 ≤ 1024) (d : Fin 128) : Fin 1024 := ⟨o + d.val, by omega⟩

/-- The lane of the running maximum that key column `j` is compared with. -/
abbrev lane (j : Fin 1024) : Fin 128 := ⟨j.val % 128, Nat.mod_lt _ (by norm_num)⟩

/-- One step of the running maximum over 1024 scores. -/
def mUp (s : Fin 1024 → EReal) (m : EReal) : EReal := max m (Finset.univ.sup s)

/-- One step of the running weighted sum over 1024 scores. -/
def aUp (s : Fin 1024 → EReal) (m : Fin 128 → EReal) (l : Fin 128) (a : EReal) (v : Fin 1024 → EReal) : EReal :=
  Ideal.exp2 (m l - mUp s (m l)) * a + ∑ j, Ideal.exp2 (s j - mUp s (m (lane j))) * v j

theorem ofBits_ninf : Ideal.ofBits .f32 0xFF800000#32 = ⊥ := by simp [Ideal.ofBits, Ideal.ieee]

theorem mask_val : Named.named (F := Ideal) (φ := .f32) κ "mask" 0xF149F2CA#32 = (⊥ : EReal) := IdealRules.named_const.ideal_named_scalar (φ := .f32) κ "mask" 0xF149F2CA#32 ⊥ rfl

theorem fold_max_bot {n : ℕ} (f : Fin n → EReal) : Finset.univ.fold max ⊥ f = Finset.univ.sup f := rfl

theorem sum_ext (f : Fin 1024 → EReal) (hz : ∀ j : Fin 1024, 512 ≤ j.val → f j = 0) :
    ∑ j, f j = ∑ j : Fin 512, f ⟨j.val, by omega⟩ := by
  have h := Fin.sum_univ_add (a := 512) (b := 512) f
  have h2 : ∑ i : Fin 512, f (Fin.natAdd 512 i) = 0 := Finset.sum_eq_zero fun i _ => hz _ (by simp)
  rw [h2, add_zero] at h
  exact h

theorem sup_ext (f : Fin 1024 → EReal) (hz : ∀ j : Fin 1024, 512 ≤ j.val → f j = ⊥) :
    Finset.univ.sup f = Finset.univ.sup fun j : Fin 512 => f ⟨j.val, by omega⟩ := by
  apply le_antisymm
  · refine Finset.sup_le fun j _ => ?_
    by_cases hj : j.val < 512
    · exact Finset.le_sup (f := fun j : Fin 512 => f ⟨j.val, by omega⟩) (Finset.mem_univ (⟨j.val, hj⟩ : Fin 512))
    · rw [hz j (by omega)]; exact bot_le
  · exact Finset.sup_le fun j _ => Finset.le_sup (f := f) (Finset.mem_univ _)

theorem exp2_bot_sub (y : EReal) : Ideal.exp2 (⊥ - y) = 0 := by
  rw [sub_eq_add_neg, EReal.bot_add]; rfl

theorem ones_word : ∀ l : Fin 1024, IntOp.cmpi .eq (IntOp.andi (BitVec.ofNat 32 l.val) 127#32) 64#32 = if l.val % 128 = 64 then 1#1 else 0#1 := by
  decide +kernel

theorem keep_word (c r : ℕ) (hc : c < 1024) (hr : r < 512) (r0 : ℕ) (h0 : r0 ≤ 512) :
    IntOp.cmpi .sle (IntOp.addi (BitVec.ofNat 32 c) 0#32) (IntOp.addi (BitVec.ofNat 32 r) (BitVec.ofNat 32 r0)) = if c ≤ r + r0 then 1#1 else 0#1 := by
  have e1 : IntOp.addi (BitVec.ofNat 32 c) 0#32 = BitVec.ofNat 32 c := by simp [IntOp.addi]
  have e2 : IntOp.addi (BitVec.ofNat 32 r) (BitVec.ofNat 32 r0) = BitVec.ofNat 32 (r + r0) := by simp [IntOp.addi, BitVec.ofNat_add]
  rw [e1, e2, WordCmp.cmpi_sle_ofNat (by norm_num; omega) (by norm_num; omega)]
  by_cases h : c ≤ r + r0 <;> simp [h]

/-- The values with the column of ones added. -/
abbrev vF (V : FVec Ideal S1024x1024 .bf16) (h1 : S1x1024.Iotas Kind.tc 32 [1]) (h2 : 1 < 32) (h3 : FTy.bf16.bits < FTy.f32.bits) (h4 : S1x1024.Broadcasts S1024x1024) : FVec Ideal S1024x1024 .bf16 :=
  addf V (broadcastTo S1024x1024 (truncf .bf16 (sitofp .f32 (extui 32 (cmpi .eq (andi (iota .tc S1x1024 32 [1] h1) (broadcast S1x1024 127#32)) (broadcast S1x1024 64#32)) h2)) h3) h4)

theorem vF_apply (V : FVec Ideal S1024x1024 .bf16) (h1 h2 h3 h4) (j l : Fin 1024) :
    vF V h1 h2 h3 h4 (ix2 j l) = V (ix2 j l) + (if l.val % 128 = 64 then 1 else 0) := by
  pointwise
  rw [ones_word l]
  congr 1
  have e0 : (FloatOps.sitofp (F := Ideal) FTy.f32 (0#32) : EReal) = 0 := by
    show (((0#32 : BitVec 32).toInt : ℝ) : EReal) = 0
    simp
  have e1 : (FloatOps.sitofp (F := Ideal) FTy.f32 (1#32) : EReal) = 1 := by
    show (((1#32 : BitVec 32).toInt : ℝ) : EReal) = 1
    simp
  by_cases h : l.val % 128 = 64
  · simp [h]; exact e1
  · simp [h]; exact e0

/-- The scores of one head: 1024 queries against 1024 keys. -/
abbrev sF (Q : FVec Ideal S1024x128 .bf16) (K : FVec Ideal S1024x1024 .bf16) (o : ℕ) (hs : S1024x1024.Slices ![0, o] S1024x128) : FVec Ideal S1024x1024 .f32 :=
  matmul dot_S1024x128_S1024x128_S1024x1024_1_1_0_0_n_n none Q (extractStridedSlice S1024x128 ![0, o] K hs) (constant S1024x1024 .f32 0#32)

theorem sF_apply (Q : FVec Ideal S1024x128 .bf16) (K : FVec Ideal S1024x1024 .bf16) (o : ℕ) (ho : o + 128 ≤ 1024) (hs) (r : Fin 1024) (j : Fin 1024) :
    sF Q K o hs (ix2 r j) = ∑ d : Fin 128, Q (ix2 r d) * K (ix2 (⟨j.val, by omega⟩ : Fin 1024) (col o ho d)) := by
  pointwise
  try simp only [zero_add]
  try rfl

abbrev mF (s : FVec Ideal S1024x1024 .f32) (MO : FVec Ideal S1x1024x128 .f32) (h1 : S1024x1024.Reduces [1] S1024) (h2 : FKind.Formats FTy.f32) (h3 : 0xFF800000#32 = FKind.maximumf.neutral FTy.f32 h2) : FVec Ideal S1024x128 .f32 :=
  maximumf (shapeCast S1024x128 MO shapeCasts_S1x1024x128_S1024x128) (broadcastTo S1024x128 (shapeCast S1024x1
    (multiReduction .maximumf [1] S1024 s 0xFF800000#32 h1 h2 h3) shapeCasts_S1024_S1024x1) broadcasts_S1024x1_S1024x128)

theorem mF_apply (s : FVec Ideal S1024x1024 .f32) (MO : FVec Ideal S1x1024x128 .f32) (h1) (h2) (h3) (r : Fin 1024) (l : Fin 128) :
    mF s MO h1 h2 h3 (ix2 r l) = max (MO (ix3 0 r l)) (Finset.univ.sup fun j : Fin 1024 => s (ix2 r j)) := by
  pointwise
  rw [ofBits_ninf]
  rfl

theorem catF_apply (m : FVec Ideal S1024x128 .f32) (hc : Shape.Concatenates (List.map (fun x => x.fst) ([⟨S1024x128, m⟩, ⟨S1024x128, m⟩, ⟨S1024x128, m⟩, ⟨S1024x128, m⟩, ⟨S1024x128, m⟩, ⟨S1024x128, m⟩, ⟨S1024x128, m⟩, ⟨S1024x128, m⟩] : List ((s : Shape) × (s.Idx → Ideal .f32)))) S1024x1024 1) (r : Fin 1024) (j : Fin 1024) :
    concatenate S1024x1024 1 [⟨S1024x128, m⟩, ⟨S1024x128, m⟩, ⟨S1024x128, m⟩, ⟨S1024x128, m⟩, ⟨S1024x128, m⟩, ⟨S1024x128, m⟩, ⟨S1024x128, m⟩, ⟨S1024x128, m⟩] hc (ix2 r j)
      = m (ix2 r ⟨j.val % 128, Nat.mod_lt _ (by norm_num)⟩) := by
  pointwise
  split_ifs <;> congr 2 <;> apply Fin.ext <;> dsimp <;> omega

/-- What the body stores as the running weighted sum. -/
abbrev aF (s : FVec Ideal S1024x1024 .f32) (m : FVec Ideal S1024x128 .f32) (MO AO : FVec Ideal S1x1024x128 .f32) (V : FVec Ideal S1024x1024 .bf16) (o : ℕ) (hs : S1024x1024.Slices ![0, o] S1024x128)
    (hc : Shape.Concatenates (List.map (fun x => x.fst) ([⟨S1024x128, m⟩, ⟨S1024x128, m⟩, ⟨S1024x128, m⟩, ⟨S1024x128, m⟩, ⟨S1024x128, m⟩, ⟨S1024x128, m⟩, ⟨S1024x128, m⟩, ⟨S1024x128, m⟩] : List ((s : Shape) × (s.Idx → Ideal .f32)))) S1024x1024 1) (hb : FTy.bf16.bits < FTy.f32.bits) : FVec Ideal S1024x128 .f32 :=
  addf (mulf (exp2 (subf (shapeCast S1024x128 MO shapeCasts_S1x1024x128_S1024x128) m)) (shapeCast S1024x128 AO shapeCasts_S1x1024x128_S1024x128))
    (matmul dot_S1024x1024_S1024x128_S1024x128_1_0_0_1_n_n none (truncf .bf16 (exp2 (subf s (concatenate S1024x1024 1 [⟨S1024x128, m⟩, ⟨S1024x128, m⟩, ⟨S1024x128, m⟩, ⟨S1024x128, m⟩, ⟨S1024x128, m⟩, ⟨S1024x128, m⟩, ⟨S1024x128, m⟩, ⟨S1024x128, m⟩] hc))) hb)
      (extractStridedSlice S1024x128 ![0, o] V hs) (constant S1024x128 .f32 0#32))

theorem aF_apply (s : FVec Ideal S1024x1024 .f32) (m : FVec Ideal S1024x128 .f32) (MO AO : FVec Ideal S1x1024x128 .f32) (V : FVec Ideal S1024x1024 .bf16) (o : ℕ) (ho : o + 128 ≤ 1024) (hs) (hc) (hb) (r : Fin 1024) (l : Fin 128) :
    aF s m MO AO V o hs hc hb (ix2 r l) = Ideal.exp2 (MO (ix3 0 r l) - m (ix2 r l)) * AO (ix3 0 r l)
      + ∑ j : Fin 1024, Ideal.exp2 (s (ix2 r j) - m (ix2 r ⟨j.val % 128, Nat.mod_lt _ (by norm_num)⟩)) * V (ix2 (⟨j.val, by omega⟩ : Fin 1024) (col o ho l)) := by
  unfold aF
  have hcat := fun j => catF_apply m hc r j
  revert hcat
  generalize concatenate S1024x1024 1 [⟨S1024x128, m⟩, ⟨S1024x128, m⟩, ⟨S1024x128, m⟩, ⟨S1024x128, m⟩, ⟨S1024x128, m⟩, ⟨S1024x128, m⟩, ⟨S1024x128, m⟩, ⟨S1024x128, m⟩] hc = C
  intro hcat
  pointwise
  simp only [hcat]
  try simp only [zero_add]
  try rfl

/-- The stored running maximum, at an index. -/
theorem payMF (Q : FVec Ideal S1024x128 .bf16) (K : FVec Ideal S1024x1024 .bf16) (MO : FVec Ideal S1x1024x128 .f32) (o : ℕ) (ho : o + 128 ≤ 1024) (hs) (h1 h2 h3) (hq : S1024x128.ShapeCasts S1x1024x128) (z : Fin 1) (r : Fin 1024) (l : Fin 128)
    (S : Fin 1024 → EReal) (hS : ∀ j : Fin 1024, S j = ∑ d : Fin 128, Q (ix2 r d) * K (ix2 j (col o ho d))) :
    shapeCast S1x1024x128 (mF (sF Q K o hs) MO h1 h2 h3) hq (ix3 z r l) = mUp S (MO (ix3 0 r l)) := by
  have e : shapeCast S1x1024x128 (mF (sF Q K o hs) MO h1 h2 h3) hq (ix3 z r l) = mF (sF Q K o hs) MO h1 h2 h3 (ix2 r l) := by
    generalize mF (sF Q K o hs) MO h1 h2 h3 = Z
    pointwise
  rw [e, mF_apply]
  unfold mUp
  refine congrArg _ (Finset.sup_congr rfl fun j _ => ?_)
  rw [sF_apply Q K o ho, hS]
  skip

/-- The stored running weighted sum, at an index. -/
theorem payAF (Q : FVec Ideal S1024x128 .bf16) (K V : FVec Ideal S1024x1024 .bf16) (MO AO : FVec Ideal S1x1024x128 .f32) (o : ℕ) (ho : o + 128 ≤ 1024) (hs hs') (h1 h2 h3) (hc hb g1 g2 g3 g4) (hq : S1024x128.ShapeCasts S1x1024x128) (z : Fin 1) (r : Fin 1024) (l : Fin 128)
    (S W : Fin 1024 → EReal) (hS : ∀ j : Fin 1024, S j = ∑ d : Fin 128, Q (ix2 r d) * K (ix2 j (col o ho d)))
    (hW : ∀ j : Fin 1024, W j = V (ix2 j (col o ho l)) + (if l.val = 64 then 1 else 0)) (ho128 : o % 128 = 0) :
    shapeCast S1x1024x128 (aF (sF Q K o hs) (mF (sF Q K o hs) MO h1 h2 h3) MO AO (vF V g1 g2 g3 g4) o hs' hc hb) hq (ix3 z r l)
      = aUp S (fun l => MO (ix3 0 r l)) l (AO (ix3 0 r l)) W := by
  have e : shapeCast S1x1024x128 (aF (sF Q K o hs) (mF (sF Q K o hs) MO h1 h2 h3) MO AO (vF V g1 g2 g3 g4) o hs' hc hb) hq (ix3 z r l)
      = aF (sF Q K o hs) (mF (sF Q K o hs) MO h1 h2 h3) MO AO (vF V g1 g2 g3 g4) o hs' hc hb (ix2 r l) := by
    generalize aF (sF Q K o hs) (mF (sF Q K o hs) MO h1 h2 h3) MO AO (vF V g1 g2 g3 g4) o hs' hc hb = Z
    pointwise
  have hm : ∀ l : Fin 128, mF (sF Q K o hs) MO h1 h2 h3 (ix2 r l) = mUp S (MO (ix3 0 r l)) := by
    intro l
    rw [mF_apply]
    unfold mUp
    refine congrArg _ (Finset.sup_congr rfl fun j _ => ?_)
    rw [sF_apply Q K o ho, hS]
    skip
  rw [e, aF_apply (ho := ho)]
  unfold aUp
  rw [hm]
  refine congrArg _ ?_
  refine Finset.sum_congr rfl fun j _ => ?_
  rw [hm, sF_apply Q K o ho, vF_apply, hW, hS]
  have hl : (o + l.val) % 128 = l.val := by
    have := l.isLt
    rw [Nat.add_mod, ho128, zero_add, Nat.mod_mod]
    exact Nat.mod_eq_of_lt l.isLt
  simp only [hl]
  skip

/-- The scores of one head: 512 queries against 512 keys. -/
abbrev sL (Q : FVec Ideal S512x128 .bf16) (K : FVec Ideal S1024x1024 .bf16) (o : ℕ) (hs : S1024x1024.Slices ![0, o] S512x128) (i1 : S512x512.Iotas Kind.tc 32 [1]) (i0 : S512x512.Iotas Kind.tc 32 [0]) : FVec Ideal S512x512 .f32 :=
  select (cmpi .sle (addi (iota .tc S512x512 32 [1] i1) (broadcast S512x512 0#32)) (addi (iota .tc S512x512 32 [0] i0) (broadcast S512x512 0#32))) (matmul dot_S512x128_S512x128_S512x512_1_1_0_0_n_n none Q (extractStridedSlice S512x128 ![0, o] K hs) (constant S512x512 .f32 0#32)) (broadcast S512x512 (Named.named κ "mask" 0xF149F2CA#32))

theorem sL_apply (Q : FVec Ideal S512x128 .bf16) (K : FVec Ideal S1024x1024 .bf16) (o : ℕ) (ho : o + 128 ≤ 1024) (hs) (i1 i0) (r : Fin 512) (j : Fin 512) :
    sL Q K o hs i1 i0 (ix2 r j) = if j.val ≤ r.val + 0 then ∑ d : Fin 128, Q (ix2 r d) * K (ix2 (⟨j.val, by omega⟩ : Fin 1024) (col o ho d)) else ⊥ := by
  pointwise
  rw [keep_word j.val r.val (by omega) r.isLt 0 (by norm_num), mask_val]
  by_cases h : j.val ≤ r.val + 0 <;> simp [h, Scalar.select]

abbrev mL (s : FVec Ideal S512x512 .f32) (MO : FVec Ideal S1x512x128 .f32) (h1 : S512x512.Reduces [1] S512) (h2 : FKind.Formats FTy.f32) (h3 : 0xFF800000#32 = FKind.maximumf.neutral FTy.f32 h2) : FVec Ideal S512x128 .f32 :=
  maximumf (shapeCast S512x128 MO shapeCasts_S1x512x128_S512x128) (broadcastTo S512x128 (shapeCast S512x1
    (multiReduction .maximumf [1] S512 s 0xFF800000#32 h1 h2 h3) shapeCasts_S512_S512x1) broadcasts_S512x1_S512x128)

theorem mL_apply (s : FVec Ideal S512x512 .f32) (MO : FVec Ideal S1x512x128 .f32) (h1) (h2) (h3) (r : Fin 512) (l : Fin 128) :
    mL s MO h1 h2 h3 (ix2 r l) = max (MO (ix3 0 r l)) (Finset.univ.sup fun j : Fin 512 => s (ix2 r j)) := by
  pointwise
  rw [ofBits_ninf]
  rfl

theorem catL_apply (m : FVec Ideal S512x128 .f32) (hc : Shape.Concatenates (List.map (fun x => x.fst) ([⟨S512x128, m⟩, ⟨S512x128, m⟩, ⟨S512x128, m⟩, ⟨S512x128, m⟩] : List ((s : Shape) × (s.Idx → Ideal .f32)))) S512x512 1) (r : Fin 512) (j : Fin 512) :
    concatenate S512x512 1 [⟨S512x128, m⟩, ⟨S512x128, m⟩, ⟨S512x128, m⟩, ⟨S512x128, m⟩] hc (ix2 r j)
      = m (ix2 r ⟨j.val % 128, Nat.mod_lt _ (by norm_num)⟩) := by
  pointwise
  split_ifs <;> congr 2 <;> apply Fin.ext <;> dsimp <;> omega

/-- What the body stores as the running weighted sum. -/
abbrev aL (s : FVec Ideal S512x512 .f32) (m : FVec Ideal S512x128 .f32) (MO AO : FVec Ideal S1x512x128 .f32) (V : FVec Ideal S1024x1024 .bf16) (o : ℕ) (hs : S1024x1024.Slices ![0, o] S512x128)
    (hc : Shape.Concatenates (List.map (fun x => x.fst) ([⟨S512x128, m⟩, ⟨S512x128, m⟩, ⟨S512x128, m⟩, ⟨S512x128, m⟩] : List ((s : Shape) × (s.Idx → Ideal .f32)))) S512x512 1) (hb : FTy.bf16.bits < FTy.f32.bits) : FVec Ideal S512x128 .f32 :=
  addf (mulf (exp2 (subf (shapeCast S512x128 MO shapeCasts_S1x512x128_S512x128) m)) (shapeCast S512x128 AO shapeCasts_S1x512x128_S512x128))
    (matmul dot_S512x512_S512x128_S512x128_1_0_0_1_n_n none (truncf .bf16 (exp2 (subf s (concatenate S512x512 1 [⟨S512x128, m⟩, ⟨S512x128, m⟩, ⟨S512x128, m⟩, ⟨S512x128, m⟩] hc))) hb)
      (extractStridedSlice S512x128 ![0, o] V hs) (constant S512x128 .f32 0#32))

theorem aL_apply (s : FVec Ideal S512x512 .f32) (m : FVec Ideal S512x128 .f32) (MO AO : FVec Ideal S1x512x128 .f32) (V : FVec Ideal S1024x1024 .bf16) (o : ℕ) (ho : o + 128 ≤ 1024) (hs) (hc) (hb) (r : Fin 512) (l : Fin 128) :
    aL s m MO AO V o hs hc hb (ix2 r l) = Ideal.exp2 (MO (ix3 0 r l) - m (ix2 r l)) * AO (ix3 0 r l)
      + ∑ j : Fin 512, Ideal.exp2 (s (ix2 r j) - m (ix2 r ⟨j.val % 128, Nat.mod_lt _ (by norm_num)⟩)) * V (ix2 (⟨j.val, by omega⟩ : Fin 1024) (col o ho l)) := by
  unfold aL
  have hcat := fun j => catL_apply m hc r j
  revert hcat
  generalize concatenate S512x512 1 [⟨S512x128, m⟩, ⟨S512x128, m⟩, ⟨S512x128, m⟩, ⟨S512x128, m⟩] hc = C
  intro hcat
  pointwise
  simp only [hcat]
  try simp only [zero_add]
  try rfl

/-- The stored running maximum, at an index. -/
theorem payML (Q : FVec Ideal S512x128 .bf16) (K : FVec Ideal S1024x1024 .bf16) (MO : FVec Ideal S1x512x128 .f32) (o : ℕ) (ho : o + 128 ≤ 1024) (hs) (i1 i0) (h1 h2 h3) (hq : S512x128.ShapeCasts S1x512x128) (z : Fin 1) (r : Fin 512) (l : Fin 128)
    (S : Fin 1024 → EReal) (hS : ∀ j : Fin 1024, S j = if j.val ≤ r.val + 0 then ∑ d : Fin 128, Q (ix2 r d) * K (ix2 j (col o ho d)) else ⊥) :
    shapeCast S1x512x128 (mL (sL Q K o hs i1 i0) MO h1 h2 h3) hq (ix3 z r l) = mUp S (MO (ix3 0 r l)) := by
  have e : shapeCast S1x512x128 (mL (sL Q K o hs i1 i0) MO h1 h2 h3) hq (ix3 z r l) = mL (sL Q K o hs i1 i0) MO h1 h2 h3 (ix2 r l) := by
    generalize mL (sL Q K o hs i1 i0) MO h1 h2 h3 = Z
    pointwise
  rw [e, mL_apply]
  unfold mUp
  rw [sup_ext S (fun j hj => by rw [hS, if_neg (by have h1 := r.isLt; omega)])]
  refine congrArg _ (Finset.sup_congr rfl fun j _ => ?_)
  rw [sL_apply Q K o ho, hS]
  skip

/-- The stored running weighted sum, at an index. -/
theorem payAL (Q : FVec Ideal S512x128 .bf16) (K V : FVec Ideal S1024x1024 .bf16) (MO AO : FVec Ideal S1x512x128 .f32) (o : ℕ) (ho : o + 128 ≤ 1024) (hs hs') (i1 i0) (h1 h2 h3) (hc hb g1 g2 g3 g4) (hq : S512x128.ShapeCasts S1x512x128) (z : Fin 1) (r : Fin 512) (l : Fin 128)
    (S W : Fin 1024 → EReal) (hS : ∀ j : Fin 1024, S j = if j.val ≤ r.val + 0 then ∑ d : Fin 128, Q (ix2 r d) * K (ix2 j (col o ho d)) else ⊥)
    (hW : ∀ j : Fin 1024, W j = V (ix2 j (col o ho l)) + (if l.val = 64 then 1 else 0)) (ho128 : o % 128 = 0) :
    shapeCast S1x512x128 (aL (sL Q K o hs i1 i0) (mL (sL Q K o hs i1 i0) MO h1 h2 h3) MO AO (vF V g1 g2 g3 g4) o hs' hc hb) hq (ix3 z r l)
      = aUp S (fun l => MO (ix3 0 r l)) l (AO (ix3 0 r l)) W := by
  have e : shapeCast S1x512x128 (aL (sL Q K o hs i1 i0) (mL (sL Q K o hs i1 i0) MO h1 h2 h3) MO AO (vF V g1 g2 g3 g4) o hs' hc hb) hq (ix3 z r l)
      = aL (sL Q K o hs i1 i0) (mL (sL Q K o hs i1 i0) MO h1 h2 h3) MO AO (vF V g1 g2 g3 g4) o hs' hc hb (ix2 r l) := by
    generalize aL (sL Q K o hs i1 i0) (mL (sL Q K o hs i1 i0) MO h1 h2 h3) MO AO (vF V g1 g2 g3 g4) o hs' hc hb = Z
    pointwise
  have hm : ∀ l : Fin 128, mL (sL Q K o hs i1 i0) MO h1 h2 h3 (ix2 r l) = mUp S (MO (ix3 0 r l)) := by
    intro l
    rw [mL_apply]
    unfold mUp
    rw [sup_ext S (fun j hj => by rw [hS, if_neg (by have h1 := r.isLt; omega)])]
    refine congrArg _ (Finset.sup_congr rfl fun j _ => ?_)
    rw [sL_apply Q K o ho, hS]
    skip
  rw [e, aL_apply (ho := ho)]
  unfold aUp
  rw [hm]
  refine congrArg _ ?_
  rw [sum_ext _ (fun j hj => by rw [hS, if_neg (by have h1 := r.isLt; omega), exp2_bot_sub, zero_mul])]
  refine Finset.sum_congr rfl fun j _ => ?_
  rw [hm, sL_apply Q K o ho, vF_apply, hW, hS]
  have hl : (o + l.val) % 128 = l.val := by
    have := l.isLt
    rw [Nat.add_mod, ho128, zero_add, Nat.mod_mod]
    exact Nat.mod_eq_of_lt l.isLt
  simp only [hl]
  skip

/-- The scores of one head: 512 queries against 1024 keys. -/
abbrev sH (Q : FVec Ideal S512x128 .bf16) (K : FVec Ideal S1024x1024 .bf16) (o : ℕ) (hs : S1024x1024.Slices ![0, o] S1024x128) (i1 : S512x1024.Iotas Kind.tc 32 [1]) (i0 : S512x1024.Iotas Kind.tc 32 [0]) : FVec Ideal S512x1024 .f32 :=
  select (cmpi .sle (addi (iota .tc S512x1024 32 [1] i1) (broadcast S512x1024 0#32)) (addi (iota .tc S512x1024 32 [0] i0) (broadcast S512x1024 512#32))) (matmul dot_S512x128_S1024x128_S512x1024_1_1_0_0_n_n none Q (extractStridedSlice S1024x128 ![0, o] K hs) (constant S512x1024 .f32 0#32)) (broadcast S512x1024 (Named.named κ "mask" 0xF149F2CA#32))

theorem sH_apply (Q : FVec Ideal S512x128 .bf16) (K : FVec Ideal S1024x1024 .bf16) (o : ℕ) (ho : o + 128 ≤ 1024) (hs) (i1 i0) (r : Fin 512) (j : Fin 1024) :
    sH Q K o hs i1 i0 (ix2 r j) = if j.val ≤ r.val + 512 then ∑ d : Fin 128, Q (ix2 r d) * K (ix2 (⟨j.val, by omega⟩ : Fin 1024) (col o ho d)) else ⊥ := by
  pointwise
  rw [keep_word j.val r.val (by omega) r.isLt 512 (by norm_num), mask_val]
  by_cases h : j.val ≤ r.val + 512 <;> simp [h, Scalar.select]

abbrev mH (s : FVec Ideal S512x1024 .f32) (MO : FVec Ideal S1x512x128 .f32) (h1 : S512x1024.Reduces [1] S512) (h2 : FKind.Formats FTy.f32) (h3 : 0xFF800000#32 = FKind.maximumf.neutral FTy.f32 h2) : FVec Ideal S512x128 .f32 :=
  maximumf (shapeCast S512x128 MO shapeCasts_S1x512x128_S512x128) (broadcastTo S512x128 (shapeCast S512x1
    (multiReduction .maximumf [1] S512 s 0xFF800000#32 h1 h2 h3) shapeCasts_S512_S512x1) broadcasts_S512x1_S512x128)

theorem mH_apply (s : FVec Ideal S512x1024 .f32) (MO : FVec Ideal S1x512x128 .f32) (h1) (h2) (h3) (r : Fin 512) (l : Fin 128) :
    mH s MO h1 h2 h3 (ix2 r l) = max (MO (ix3 0 r l)) (Finset.univ.sup fun j : Fin 1024 => s (ix2 r j)) := by
  pointwise
  rw [ofBits_ninf]
  rfl

theorem catH_apply (m : FVec Ideal S512x128 .f32) (hc : Shape.Concatenates (List.map (fun x => x.fst) ([⟨S512x128, m⟩, ⟨S512x128, m⟩, ⟨S512x128, m⟩, ⟨S512x128, m⟩, ⟨S512x128, m⟩, ⟨S512x128, m⟩, ⟨S512x128, m⟩, ⟨S512x128, m⟩] : List ((s : Shape) × (s.Idx → Ideal .f32)))) S512x1024 1) (r : Fin 512) (j : Fin 1024) :
    concatenate S512x1024 1 [⟨S512x128, m⟩, ⟨S512x128, m⟩, ⟨S512x128, m⟩, ⟨S512x128, m⟩, ⟨S512x128, m⟩, ⟨S512x128, m⟩, ⟨S512x128, m⟩, ⟨S512x128, m⟩] hc (ix2 r j)
      = m (ix2 r ⟨j.val % 128, Nat.mod_lt _ (by norm_num)⟩) := by
  pointwise
  split_ifs <;> congr 2 <;> apply Fin.ext <;> dsimp <;> omega

/-- What the body stores as the running weighted sum. -/
abbrev aH (s : FVec Ideal S512x1024 .f32) (m : FVec Ideal S512x128 .f32) (MO AO : FVec Ideal S1x512x128 .f32) (V : FVec Ideal S1024x1024 .bf16) (o : ℕ) (hs : S1024x1024.Slices ![0, o] S1024x128)
    (hc : Shape.Concatenates (List.map (fun x => x.fst) ([⟨S512x128, m⟩, ⟨S512x128, m⟩, ⟨S512x128, m⟩, ⟨S512x128, m⟩, ⟨S512x128, m⟩, ⟨S512x128, m⟩, ⟨S512x128, m⟩, ⟨S512x128, m⟩] : List ((s : Shape) × (s.Idx → Ideal .f32)))) S512x1024 1) (hb : FTy.bf16.bits < FTy.f32.bits) : FVec Ideal S512x128 .f32 :=
  addf (mulf (exp2 (subf (shapeCast S512x128 MO shapeCasts_S1x512x128_S512x128) m)) (shapeCast S512x128 AO shapeCasts_S1x512x128_S512x128))
    (matmul dot_S512x1024_S1024x128_S512x128_1_0_0_1_n_n none (truncf .bf16 (exp2 (subf s (concatenate S512x1024 1 [⟨S512x128, m⟩, ⟨S512x128, m⟩, ⟨S512x128, m⟩, ⟨S512x128, m⟩, ⟨S512x128, m⟩, ⟨S512x128, m⟩, ⟨S512x128, m⟩, ⟨S512x128, m⟩] hc))) hb)
      (extractStridedSlice S1024x128 ![0, o] V hs) (constant S512x128 .f32 0#32))

theorem aH_apply (s : FVec Ideal S512x1024 .f32) (m : FVec Ideal S512x128 .f32) (MO AO : FVec Ideal S1x512x128 .f32) (V : FVec Ideal S1024x1024 .bf16) (o : ℕ) (ho : o + 128 ≤ 1024) (hs) (hc) (hb) (r : Fin 512) (l : Fin 128) :
    aH s m MO AO V o hs hc hb (ix2 r l) = Ideal.exp2 (MO (ix3 0 r l) - m (ix2 r l)) * AO (ix3 0 r l)
      + ∑ j : Fin 1024, Ideal.exp2 (s (ix2 r j) - m (ix2 r ⟨j.val % 128, Nat.mod_lt _ (by norm_num)⟩)) * V (ix2 (⟨j.val, by omega⟩ : Fin 1024) (col o ho l)) := by
  unfold aH
  have hcat := fun j => catH_apply m hc r j
  revert hcat
  generalize concatenate S512x1024 1 [⟨S512x128, m⟩, ⟨S512x128, m⟩, ⟨S512x128, m⟩, ⟨S512x128, m⟩, ⟨S512x128, m⟩, ⟨S512x128, m⟩, ⟨S512x128, m⟩, ⟨S512x128, m⟩] hc = C
  intro hcat
  pointwise
  simp only [hcat]
  try simp only [zero_add]
  try rfl

/-- The stored running maximum, at an index. -/
theorem payMH (Q : FVec Ideal S512x128 .bf16) (K : FVec Ideal S1024x1024 .bf16) (MO : FVec Ideal S1x512x128 .f32) (o : ℕ) (ho : o + 128 ≤ 1024) (hs) (i1 i0) (h1 h2 h3) (hq : S512x128.ShapeCasts S1x512x128) (z : Fin 1) (r : Fin 512) (l : Fin 128)
    (S : Fin 1024 → EReal) (hS : ∀ j : Fin 1024, S j = if j.val ≤ r.val + 512 then ∑ d : Fin 128, Q (ix2 r d) * K (ix2 j (col o ho d)) else ⊥) :
    shapeCast S1x512x128 (mH (sH Q K o hs i1 i0) MO h1 h2 h3) hq (ix3 z r l) = mUp S (MO (ix3 0 r l)) := by
  have e : shapeCast S1x512x128 (mH (sH Q K o hs i1 i0) MO h1 h2 h3) hq (ix3 z r l) = mH (sH Q K o hs i1 i0) MO h1 h2 h3 (ix2 r l) := by
    generalize mH (sH Q K o hs i1 i0) MO h1 h2 h3 = Z
    pointwise
  rw [e, mH_apply]
  unfold mUp
  refine congrArg _ (Finset.sup_congr rfl fun j _ => ?_)
  rw [sH_apply Q K o ho, hS]
  skip

/-- The stored running weighted sum, at an index. -/
theorem payAH (Q : FVec Ideal S512x128 .bf16) (K V : FVec Ideal S1024x1024 .bf16) (MO AO : FVec Ideal S1x512x128 .f32) (o : ℕ) (ho : o + 128 ≤ 1024) (hs hs') (i1 i0) (h1 h2 h3) (hc hb g1 g2 g3 g4) (hq : S512x128.ShapeCasts S1x512x128) (z : Fin 1) (r : Fin 512) (l : Fin 128)
    (S W : Fin 1024 → EReal) (hS : ∀ j : Fin 1024, S j = if j.val ≤ r.val + 512 then ∑ d : Fin 128, Q (ix2 r d) * K (ix2 j (col o ho d)) else ⊥)
    (hW : ∀ j : Fin 1024, W j = V (ix2 j (col o ho l)) + (if l.val = 64 then 1 else 0)) (ho128 : o % 128 = 0) :
    shapeCast S1x512x128 (aH (sH Q K o hs i1 i0) (mH (sH Q K o hs i1 i0) MO h1 h2 h3) MO AO (vF V g1 g2 g3 g4) o hs' hc hb) hq (ix3 z r l)
      = aUp S (fun l => MO (ix3 0 r l)) l (AO (ix3 0 r l)) W := by
  have e : shapeCast S1x512x128 (aH (sH Q K o hs i1 i0) (mH (sH Q K o hs i1 i0) MO h1 h2 h3) MO AO (vF V g1 g2 g3 g4) o hs' hc hb) hq (ix3 z r l)
      = aH (sH Q K o hs i1 i0) (mH (sH Q K o hs i1 i0) MO h1 h2 h3) MO AO (vF V g1 g2 g3 g4) o hs' hc hb (ix2 r l) := by
    generalize aH (sH Q K o hs i1 i0) (mH (sH Q K o hs i1 i0) MO h1 h2 h3) MO AO (vF V g1 g2 g3 g4) o hs' hc hb = Z
    pointwise
  have hm : ∀ l : Fin 128, mH (sH Q K o hs i1 i0) MO h1 h2 h3 (ix2 r l) = mUp S (MO (ix3 0 r l)) := by
    intro l
    rw [mH_apply]
    unfold mUp
    refine congrArg _ (Finset.sup_congr rfl fun j _ => ?_)
    rw [sH_apply Q K o ho, hS]
    skip
  rw [e, aH_apply (ho := ho)]
  unfold aUp
  rw [hm]
  refine congrArg _ ?_
  refine Finset.sum_congr rfl fun j _ => ?_
  rw [hm, sH_apply Q K o ho, vF_apply, hW, hS]
  have hl : (o + l.val) % 128 = l.val := by
    have := l.isLt
    rw [Nat.add_mod, ho128, zero_add, Nat.mod_mod]
    exact Nat.mod_eq_of_lt l.isLt
  simp only [hl]
  skip

end Cert.KernelIdeal.Hand
end
-- ==== Proof.V.Rd.lean ====
/- The scores of two blocks, and a load of part of a block read at an index. -/
module

public import proofs.«01_k».proof.Proof.V.Pay
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

/-- Lane `d` of head `h`'s slot. -/
abbrev hcol (h : Fin 8) (d : Fin 128) : Fin 1024 := ⟨h.val * 128 + d.val, by omega⟩

/-- The score of query row `r` against key row `j` of two blocks, in head `h`. -/
def scv (x0 x1 : S1024x1024.Idx → EReal) (h : Fin 8) (r j : Fin 1024) : EReal :=
  ∑ d : Fin 128, x0 (ix2 r (hcol h d)) * x1 (ix2 j (hcol h d))

/-- The same in the diagonal block: a key behind its query has the score minus infinity. -/
def scvD (x0 x1 : S1024x1024.Idx → EReal) (h : Fin 8) (r j : Fin 1024) : EReal :=
  if j.val ≤ r.val then scv x0 x1 h r j else ⊥

/-- The value block with the column of ones, at lane `l` of head `h`. -/
def vcol (x2 : S1024x1024.Idx → EReal) (h : Fin 8) (l : Fin 128) (j : Fin 1024) : EReal :=
  x2 (ix2 j (hcol h l)) + if l.val = 64 then 1 else 0

theorem rd_blk {sp : Space} (v : View sig .tc sp S1024x1024 .bf16) (x : S1024x1024.Idx → Elt Ideal .bf16) (inb : ∀ a, (![0, 0] : Fin 2 → ℕ) a + S1024x1024.size a ≤ S1024x1024.size a) :
    v.readAt (Elt Ideal) (Rect.unit ![0, 0] S1024x1024.size inb).toLoadRect (v.rep x) = x := View.readAt_rep_full v x inb

theorem rd_q {R : ℕ} {sp : Space} (v : View sig .tc sp S1024x1024 .bf16) (x : S1024x1024.Idx → Elt Ideal .bf16) (r0 o : ℕ) (inb) (r : Fin R) (d : Fin 128) (r' c' : Fin 1024) (hr : r'.val = r0 + r.val) (hc : c'.val = o + d.val) :
    v.readAt (Elt Ideal) (Rect.unit (s := S1024x1024) ![r0, o] (![R, 128] : Fin 2 → ℕ) inb).toLoadRect (v.rep x) (ix2 r d) = x (ix2 r' c') := by
  rw [View.readAt_rep]
  refine congrArg x (funext fun a => Fin.ext ?_)
  fin_cases a
  · show r0 + 1 * r.val = r'.val; omega
  · show o + 1 * d.val = c'.val; omega

theorem rd_m {R : ℕ} (b : View sig .tc .vmem S8x1024x128 .f32) (xa : b.ty.Contents (Elt Ideal)) (h0 r0 : ℕ) (inb) (r : Fin R) (l : Fin 128) (h' : Fin 8) (r' : Fin 1024) (hh : h'.val = h0) (hr : r'.val = r0 + r.val) :
    b.readAt (Elt Ideal) (Rect.unit (s := S8x1024x128) ![h0, r0, 0] (![1, R, 128] : Fin 3 → ℕ) inb).toLoadRect xa (ix3 (0 : Fin 1) r l) = b.read (Elt Ideal) xa (ix3 h' r' l) := by
  refine congrArg (b.read (Elt Ideal) xa) (funext fun a => Fin.ext ?_)
  fin_cases a
  · show h0 + 1 * 0 = h'.val; omega
  · show r0 + 1 * r.val = r'.val; omega
  · show 0 + 1 * l.val = l.val; omega

end Cert.KernelIdeal.Hand
end
-- ==== Proof.V.Grid.lean ====
/- The grid of the call: the query block and the key block of each of its 136 points, and the window blocks as rows of the arrays. -/
module

public import proofs.«01_k».proof.Proof.KI.Facts
public import Idealize.ShloMosaic.Lib.Pipeline.ValueKit.Geometry
public import proofs.«01_k».proof.Proof.V.Rd

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The query block and the key block of point `t`. -/
def qiT (t : Fin (cfgA 0).N) : ℕ := ((cfgA 0).win (0 : Fin 4)).index t (0 : Fin 2)
def kjT (t : Fin (cfgA 0).N) : ℕ := ((cfgA 0).win (1 : Fin 4)).index t (0 : Fin 2)

/-- What the grid's tables say of point `t`. -/
def GridAt (t : Fin (cfgA 0).N) : Prop :=
  (qiT t < 16 ∧ kjT t ≤ qiT t)
  ∧ (((cfgA 0).win (0 : Fin 4)).index t (1 : Fin 2) = 0 ∧ ((cfgA 0).win (1 : Fin 4)).index t (1 : Fin 2) = 0)
  ∧ (((cfgA 0).win (2 : Fin 4)).index t (0 : Fin 2) = kjT t ∧ ((cfgA 0).win (2 : Fin 4)).index t (1 : Fin 2) = 0)
  ∧ (((cfgA 0).win (3 : Fin 4)).index t (0 : Fin 2) = qiT t ∧ ((cfgA 0).win (3 : Fin 4)).index t (1 : Fin 2) = 0)
  ∧ (P0_0 0 t ↔ kjT t = 0) ∧ (P0_1 0 t ↔ kjT t ≠ qiT t)
  ∧ (kjT t = 0 ∨ (0 < t.val ∧ qiT ⟨t.val - 1, Nat.lt_of_le_of_lt (Nat.sub_le _ _) t.isLt⟩ = qiT t ∧ kjT ⟨t.val - 1, Nat.lt_of_le_of_lt (Nat.sub_le _ _) t.isLt⟩ + 1 = kjT t))
  ∧ (((cfgA 0).win (3 : Fin 4)).flush t = true → kjT t = qiT t)

instance (t : Fin (cfgA 0).N) : Decidable (GridAt t) := by unfold GridAt; infer_instance

theorem grid_0 : ∀ t : Fin (cfgA 0).N, 0 ≤ t.val → t.val < 17 → GridAt t := by decide +kernel
theorem grid_1 : ∀ t : Fin (cfgA 0).N, 17 ≤ t.val → t.val < 34 → GridAt t := by decide +kernel
theorem grid_2 : ∀ t : Fin (cfgA 0).N, 34 ≤ t.val → t.val < 51 → GridAt t := by decide +kernel
theorem grid_3 : ∀ t : Fin (cfgA 0).N, 51 ≤ t.val → t.val < 68 → GridAt t := by decide +kernel
theorem grid_4 : ∀ t : Fin (cfgA 0).N, 68 ≤ t.val → t.val < 85 → GridAt t := by decide +kernel
theorem grid_5 : ∀ t : Fin (cfgA 0).N, 85 ≤ t.val → t.val < 102 → GridAt t := by decide +kernel
theorem grid_6 : ∀ t : Fin (cfgA 0).N, 102 ≤ t.val → t.val < 119 → GridAt t := by decide +kernel
theorem grid_7 : ∀ t : Fin (cfgA 0).N, 119 ≤ t.val → t.val < 136 → GridAt t := by decide +kernel

theorem grid_at (t : Fin (cfgA 0).N) : GridAt t := by
  have h0 : 0 ≤ t.val := Nat.zero_le _
  rcases Nat.lt_or_ge t.val 17 with h1 | h1; · exact grid_0 t h0 h1
  rcases Nat.lt_or_ge t.val 34 with h2 | h2; · exact grid_1 t h1 h2
  rcases Nat.lt_or_ge t.val 51 with h3 | h3; · exact grid_2 t h2 h3
  rcases Nat.lt_or_ge t.val 68 with h4 | h4; · exact grid_3 t h3 h4
  rcases Nat.lt_or_ge t.val 85 with h5 | h5; · exact grid_4 t h4 h5
  rcases Nat.lt_or_ge t.val 102 with h6 | h6; · exact grid_5 t h5 h6
  rcases Nat.lt_or_ge t.val 119 with h7 | h7; · exact grid_6 t h6 h7
  exact grid_7 t h7 t.isLt

theorem out_covers : ((cfgA 0).win (3 : Fin 4)).Covers := by decide +kernel

end Cert.KernelIdeal.Hand

end
-- ==== Proof.V.Blk.lean ====
/- The window blocks as rows of the arrays. -/
module

public import proofs.«01_k».proof.Proof.V.Grid
public import Idealize.ShloMosaic.Lib.Pipeline.ValueKit.Geometry
public import proofs.«01_k».proof.Proof.V.Rd

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

variable (m : (ℓ : Loc nD τ sig) → Buf (Elt Ideal) ℓ) (ρ : Dev nD → PrngReg)

/-- Row `r` of block `b`. -/
def row (b : ℕ) (hb : b < 16) (r : Fin 1024) : Fin 16384 := ⟨1024 * b + r.val, by omega⟩

theorem kj_lt (t : Fin (cfgA 0).N) : kjT t < 16 := Nat.lt_of_le_of_lt (grid_at t).1.2 (grid_at t).1.1

theorem blk_0 (c : Dev nD) (t : Fin (cfgA 0).N) (r l : Fin 1024) :
    iblk 0 m ρ c (0 : Fin 4) t (ix2 r l) = m ((c : Thread nD τ).loc main_v8) (ix2 (row (qiT t) (grid_at t).1.1 r) l) := by
  have e0 : ((cfgA 0).win (0 : Fin 4)).index t (0 : Fin 2) = qiT t := rfl
  have e1 : ((cfgA 0).win (0 : Fin 4)).index t (1 : Fin 2) = 0 := (grid_at t).2.1.1
  show m ((c : Thread nD τ).loc main_v8) ((((cfgA 0).win (0 : Fin 4)).rect t).emb (ix2 r l)) = _
  refine congrArg (m ((c : Thread nD τ).loc main_v8)) (funext fun a => Fin.ext ?_)
  refine (Pipeline.Window.rect_emb_val ((cfgA 0).win (0 : Fin 4)) t (ix2 r l) a).trans ?_
  fin_cases a
  · show ((cfgA 0).win (0 : Fin 4)).index t (0 : Fin 2) * 1024 + r.val = 1024 * qiT t + r.val
    rw [e0]; omega
  · show ((cfgA 0).win (0 : Fin 4)).index t (1 : Fin 2) * 1024 + l.val = l.val
    rw [e1]; omega

theorem blk_1 (c : Dev nD) (t : Fin (cfgA 0).N) (r l : Fin 1024) :
    iblk 0 m ρ c (1 : Fin 4) t (ix2 r l) = m ((c : Thread nD τ).loc main_v12) (ix2 (row (kjT t) (kj_lt t) r) l) := by
  have e0 : ((cfgA 0).win (1 : Fin 4)).index t (0 : Fin 2) = kjT t := rfl
  have e1 : ((cfgA 0).win (1 : Fin 4)).index t (1 : Fin 2) = 0 := (grid_at t).2.1.2
  show m ((c : Thread nD τ).loc main_v12) ((((cfgA 0).win (1 : Fin 4)).rect t).emb (ix2 r l)) = _
  refine congrArg (m ((c : Thread nD τ).loc main_v12)) (funext fun a => Fin.ext ?_)
  refine (Pipeline.Window.rect_emb_val ((cfgA 0).win (1 : Fin 4)) t (ix2 r l) a).trans ?_
  fin_cases a
  · show ((cfgA 0).win (1 : Fin 4)).index t (0 : Fin 2) * 1024 + r.val = 1024 * kjT t + r.val
    rw [e0]; omega
  · show ((cfgA 0).win (1 : Fin 4)).index t (1 : Fin 2) * 1024 + l.val = l.val
    rw [e1]; omega

theorem blk_2 (c : Dev nD) (t : Fin (cfgA 0).N) (r l : Fin 1024) :
    iblk 0 m ρ c (2 : Fin 4) t (ix2 r l) = m ((c : Thread nD τ).loc main_v16) (ix2 (row (kjT t) (kj_lt t) r) l) := by
  have e0 : ((cfgA 0).win (2 : Fin 4)).index t (0 : Fin 2) = kjT t := (grid_at t).2.2.1.1
  have e1 : ((cfgA 0).win (2 : Fin 4)).index t (1 : Fin 2) = 0 := (grid_at t).2.2.1.2
  show m ((c : Thread nD τ).loc main_v16) ((((cfgA 0).win (2 : Fin 4)).rect t).emb (ix2 r l)) = _
  refine congrArg (m ((c : Thread nD τ).loc main_v16)) (funext fun a => Fin.ext ?_)
  refine (Pipeline.Window.rect_emb_val ((cfgA 0).win (2 : Fin 4)) t (ix2 r l) a).trans ?_
  fin_cases a
  · show ((cfgA 0).win (2 : Fin 4)).index t (0 : Fin 2) * 1024 + r.val = 1024 * kjT t + r.val
    rw [e0]; omega
  · show ((cfgA 0).win (2 : Fin 4)).index t (1 : Fin 2) * 1024 + l.val = l.val
    rw [e1]; omega

theorem out_emb (t : Fin (cfgA 0).N) (r : Fin 1024) (l : Fin 512) :
    (((cfgA 0).win (3 : Fin 4)).blk t).view.emb (ix2 r l) = ix2 (row (qiT t) (grid_at t).1.1 r) l := by
  have e0 : ((cfgA 0).win (3 : Fin 4)).index t (0 : Fin 2) = qiT t := (grid_at t).2.2.2.1.1
  have e1 : ((cfgA 0).win (3 : Fin 4)).index t (1 : Fin 2) = 0 := (grid_at t).2.2.2.1.2
  show (((cfgA 0).win (3 : Fin 4)).rect t).emb (ix2 r l) = _
  refine funext fun a => Fin.ext ?_
  refine (Pipeline.Window.rect_emb_val ((cfgA 0).win (3 : Fin 4)) t (ix2 r l) a).trans ?_
  fin_cases a
  · show ((cfgA 0).win (3 : Fin 4)).index t (0 : Fin 2) * 1024 + r.val = 1024 * qiT t + r.val
    rw [e0]; omega
  · show ((cfgA 0).win (3 : Fin 4)).index t (1 : Fin 2) * 512 + l.val = l.val
    rw [e1]; omega

end Cert.KernelIdeal.Hand

end
-- ==== Proof.V.Soft.lean ====
/- The online softmax over the extended reals: running maxima and running weighted sums block by block are the maximum and the weighted sum of all keys seen. -/
module

public import Idealize.ShloMosaic.PureOps.Ideal
public import Mathlib.Data.EReal.Operations
public import Mathlib.Data.EReal.Inv
public import Mathlib.Algebra.BigOperators.Fin
public import Mathlib.Analysis.SpecialFunctions.Pow.Real

@[expose] public section

noncomputable section

namespace Cert.KernelIdeal.Hand

open Idealize.ShloMosaic

/-- A nonnegative real factor goes into a sum of extended reals. -/
theorem coe_mul_sum {ι : Type*} (a : ℝ) (ha : 0 ≤ a) (t : Finset ι) (f : ι → EReal) :
    (a : EReal) * ∑ j ∈ t, f j = ∑ j ∈ t, (a : EReal) * f j := by
  classical
  induction t using Finset.induction_on with
  | empty => simp
  | insert x t hx ih =>
    rw [Finset.sum_insert hx, Finset.sum_insert hx, ← ih]
    exact EReal.left_distrib_of_nonneg_of_ne_top (EReal.coe_nonneg.mpr ha) (EReal.coe_ne_top a) _ _

theorem coe_sum {ι : Type*} (t : Finset ι) (f : ι → ℝ) : (∑ j ∈ t, ((f j : ℝ) : EReal)) = ((∑ j ∈ t, f j : ℝ) : EReal) := by
  classical
  induction t using Finset.induction_on with
  | empty => simp
  | insert x t hx ih => rw [Finset.sum_insert hx, Finset.sum_insert hx, ih, EReal.coe_add]

/-- The maximum of the first `n` scores. -/
def Mx (s : ℕ → EReal) (n : ℕ) : EReal := (Finset.range n).sup s

/-- The weighted sum of the first `n` values. -/
def Ac (s v : ℕ → EReal) (n : ℕ) : EReal := ∑ j ∈ Finset.range n, Ideal.exp2 (s j - Mx s n) * v j

theorem Mx_zero (s : ℕ → EReal) : Mx s 0 = ⊥ := by simp [Mx]

theorem Ac_zero (s v : ℕ → EReal) : Ac s v 0 = 0 := by simp [Ac]

theorem Mx_add (s : ℕ → EReal) (n k : ℕ) : Mx s (n + k) = max (Mx s n) (Finset.univ.sup fun j : Fin k => s (n + j.val)) := by
  apply le_antisymm
  · refine Finset.sup_le fun j hj => ?_
    rcases Nat.lt_or_ge j n with h | h
    · exact le_max_of_le_left (Finset.le_sup (f := s) (Finset.mem_range.mpr h))
    · have hk : j - n < k := by have := Finset.mem_range.mp hj; omega
      have e : n + (j - n) = j := by omega
      refine le_max_of_le_right ?_
      have := Finset.le_sup (f := fun j : Fin k => s (n + j.val)) (Finset.mem_univ (⟨j - n, hk⟩ : Fin k))
      simpa only [e] using this
  · refine max_le (Finset.sup_mono ?_) (Finset.sup_le fun j _ => Finset.le_sup (f := s) (Finset.mem_range.mpr (by omega)))
    intro x hx
    exact Finset.mem_range.mpr (by have := Finset.mem_range.mp hx; omega)

theorem Mx_real (s : ℕ → EReal) (hs : ∀ j, s j ≠ ⊤) (h0 : s 0 ≠ ⊥) (n : ℕ) (hn : 0 < n) : ∃ a : ℝ, Mx s n = (a : EReal) := by
  have h1 : Mx s n ≠ ⊥ := fun h => h0 (le_bot_iff.mp (h ▸ Finset.le_sup (f := s) (Finset.mem_range.mpr hn)))
  have h2 : Mx s n ≠ ⊤ := by
    have : Mx s n < ⊤ := (Finset.sup_lt_iff (by exact bot_lt_top)).mpr fun j _ => lt_top_iff_ne_top.mpr (hs j)
    exact this.ne
  exact ⟨(Mx s n).toReal, (EReal.coe_toReal h2 h1).symm⟩

theorem exp2_shift (a b : ℝ) (x : EReal) (hx : x ≠ ⊤) :
    Ideal.exp2 ((a : EReal) - (b : EReal)) * Ideal.exp2 (x - (a : EReal)) = Ideal.exp2 (x - (b : EReal)) := by
  induction x using EReal.rec with
  | bot => rw [EReal.bot_sub, EReal.bot_sub, Ideal.exp2_bot, mul_zero]
  | top => exact absurd rfl hx
  | coe x =>
    rw [← EReal.coe_sub, ← EReal.coe_sub, ← EReal.coe_sub, Ideal.exp2_coe, Ideal.exp2_coe, Ideal.exp2_coe, ← EReal.coe_mul]
    congr 1
    have := Real.rpow_add (x := 2) (by norm_num) (a - b) (x - a)
    rw [show (a - b) + (x - a) = x - b by ring] at this
    exact this.symm

/-- One block of the online softmax. -/
theorem Ac_add (s v : ℕ → EReal) (hs : ∀ j, s j ≠ ⊤) (h0 : s 0 ≠ ⊥) (n k : ℕ) (hk : 0 < k) :
    Ac s v (n + k) = Ideal.exp2 (Mx s n - Mx s (n + k)) * Ac s v n
      + ∑ j : Fin k, Ideal.exp2 (s (n + j.val) - Mx s (n + k)) * v (n + j.val) := by
  obtain ⟨b, hb⟩ := Mx_real s hs h0 (n + k) (by omega)
  unfold Ac
  rw [Finset.sum_range_add, Finset.sum_range (fun x => Ideal.exp2 (s (n + x) - Mx s (n + k)) * v (n + x))]
  congr 1
  rcases Nat.eq_zero_or_pos n with rfl | hn
  · simp
  · obtain ⟨a, ha⟩ := Mx_real s hs h0 n hn
    rw [ha, hb]
    have he : Ideal.exp2 ((a : EReal) - (b : EReal)) = ((Real.rpow 2 (a - b) : ℝ) : EReal) := by rw [← EReal.coe_sub, Ideal.exp2_coe]
    have hp : 0 ≤ Real.rpow 2 (a - b) := Real.rpow_nonneg (by norm_num) _
    rw [he, coe_mul_sum _ hp]
    refine Finset.sum_congr rfl fun j _ => ?_
    rw [← he, ← mul_assoc, exp2_shift a b (s j) (hs j)]

/-- The quotient of weighted sums in base two is the softmax in base `e`, when the scores are those divided by `log 2`. -/
theorem softmax_eq (n N : ℕ) (hn : 0 < n) (hN : n ≤ N) (x : ℕ → ℝ) (i : ℕ) (hi : i < n) (s y : ℕ → EReal) (v : ℕ → EReal)
    (hs : ∀ j, s j = if j ≤ i then ((x j / Real.log 2 : ℝ) : EReal) else ⊥) (hy : ∀ j, y j = if j ≤ i then ((x j : ℝ) : EReal) else ⊥) :
    Ac s v n * Ideal.div 1 (Ac s (fun _ => 1) n)
      = Ideal.div (∑ j : Fin N, Ideal.exp (y j.val - Finset.univ.sup fun j : Fin N => y j.val) * v j.val)
          (0 + ∑ j : Fin N, Ideal.exp (y j.val - Finset.univ.sup fun j : Fin N => y j.val)) := by
  have hl : 0 < Real.log 2 := Real.log_pos (by norm_num)
  have hst : ∀ j, s j ≠ ⊤ := fun j => by rw [hs]; split; exacts [EReal.coe_ne_top _, bot_ne_top]
  have hyt : ∀ j, y j ≠ ⊤ := fun j => by rw [hy]; split; exacts [EReal.coe_ne_top _, bot_ne_top]
  have hs0 : s 0 ≠ ⊥ := by rw [hs, if_pos (Nat.zero_le _)]; exact EReal.coe_ne_bot _
  have hy0 : y 0 ≠ ⊥ := by rw [hy, if_pos (Nat.zero_le _)]; exact EReal.coe_ne_bot _
  have eN : (Finset.univ.sup fun j : Fin N => y j.val) = Mx y N := by
    have := Mx_add y 0 N
    simp only [Nat.zero_add, Mx_zero] at this
    rw [this, max_eq_right bot_le]
  have en : Mx y N = Mx y n := by
    apply le_antisymm
    · refine Finset.sup_le fun j _ => ?_
      rcases Nat.lt_or_ge j n with h | h
      · exact Finset.le_sup (f := y) (Finset.mem_range.mpr h)
      · rw [hy, if_neg (by omega)]; exact bot_le
    · refine Finset.sup_mono fun j hj => Finset.mem_range.mpr (by have := Finset.mem_range.mp hj; omega)
  obtain ⟨b, hb⟩ := Mx_real y hyt hy0 n hn
  have hM : Mx s n = ((b / Real.log 2 : ℝ) : EReal) := by
    apply le_antisymm
    · refine Finset.sup_le fun j hj => ?_
      rw [hs]
      split
      · rename_i h
        have h1 : y j ≤ (b : EReal) := hb ▸ Finset.le_sup (f := y) hj
        rw [hy, if_pos h, EReal.coe_le_coe_iff] at h1
        exact EReal.coe_le_coe_iff.mpr (div_le_div_of_nonneg_right h1 hl.le)
      · exact bot_le
    · obtain ⟨j, hj, e⟩ := Finset.exists_mem_eq_sup (Finset.range n) ⟨0, Finset.mem_range.mpr hn⟩ y
      have e' : y j = (b : EReal) := e.symm.trans hb
      rw [hy] at e'
      split at e'
      · rename_i h
        have : x j = b := EReal.coe_injective e'
        have h2 := Finset.le_sup (f := s) hj
        rw [hs, if_pos h, this] at h2
        exact h2
      · exact absurd e'.symm (EReal.coe_ne_bot b)
  have hw : ∀ j, Ideal.exp2 (s j - Mx s n) = Ideal.exp (y j - (b : EReal)) := fun j => by
    rw [hM, hs, hy]
    split
    · rw [← EReal.coe_sub, ← EReal.coe_sub, Ideal.exp2_coe, Ideal.exp_coe]
      congr 1
      show (2 : ℝ) ^ (x j / Real.log 2 - b / Real.log 2) = Real.exp (x j - b)
      rw [Real.rpow_def_of_pos (by norm_num)]
      congr 1
      field_simp
    · rw [EReal.bot_sub, EReal.bot_sub, Ideal.exp2_bot]; rfl
  have hsum : ∀ u : ℕ → EReal, Ac s u n = ∑ j : Fin N, Ideal.exp (y j.val - (b : EReal)) * u j.val := fun u => by
    rw [← Finset.sum_range (fun j => Ideal.exp (y j - (b : EReal)) * u j)]
    unfold Ac
    rw [Finset.sum_congr rfl fun j _ => by rw [hw j]]
    refine Finset.sum_subset (fun j hj => Finset.mem_range.mpr (by have := Finset.mem_range.mp hj; omega)) fun j _ hj => ?_
    have hj' : ¬ j ≤ i := fun h => hj (Finset.mem_range.mpr (by omega))
    rw [hy, if_neg hj', EReal.bot_sub]
    exact zero_mul _
  rw [eN, en, hb, hsum v, hsum fun _ => 1, zero_add]
  simp only [mul_one]
  have hz : ∀ j, ∃ r : ℝ, 0 ≤ r ∧ Ideal.exp (y j - (b : EReal)) = (r : EReal) ∧ (j ≤ i → 0 < r) := fun j => by
    rw [hy]
    split
    · exact ⟨Real.exp (x j - b), (Real.exp_pos _).le, by rw [← EReal.coe_sub, Ideal.exp_coe], fun _ => Real.exp_pos _⟩
    · rename_i h
      exact ⟨0, le_refl _, by rw [EReal.bot_sub]; rfl, fun h' => absurd h' h⟩
  choose f hf0 hf hfp using hz
  have hL : (∑ j : Fin N, Ideal.exp (y j.val - (b : EReal))) = ((∑ j : Fin N, f j.val : ℝ) : EReal) := by
    rw [← coe_sum]
    exact Finset.sum_congr rfl fun j _ => hf _
  have hpos : 0 < ∑ j : Fin N, f j.val :=
    Finset.sum_pos' (fun j _ => hf0 _) ⟨⟨0, by omega⟩, Finset.mem_univ _, hfp 0 (Nat.zero_le _)⟩
  rw [hL, Ideal.div_coe hpos.ne', Ideal.div_coe hpos.ne', one_mul]

end Cert.KernelIdeal.Hand

end
-- ==== Proof.V.Piece.lean ====
/- What one store of the body writes, of the three blocks it reads: the stores of a full block, and of the two halves of a diagonal block. -/
module

public import proofs.«01_k».proof.Proof.V.Rd
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

/-- The stored running maximum of one head, at an index. -/
theorem pF_m (Q : FVec Ideal S1024x128 .bf16) (K : FVec Ideal S1024x1024 .bf16) (x0 x1 : S1024x1024.Idx → EReal) (MO : FVec Ideal S1x1024x128 .f32) (h : Fin 8) (r : Fin 1024) (l : Fin 128) (r' : Fin 1024) (hr : r'.val = 0 + r.val) (o : ℕ) (ho : o = h.val * 128) (hs) (h1 h2 h3) (hq : S1024x128.ShapeCasts S1x1024x128)
    (hQ : ∀ d : Fin 128, Q (ix2 r d) = x0 (ix2 r' (hcol h d))) (hK : ∀ i, K i = x1 i) :
    shapeCast S1x1024x128 (mF (sF Q K o hs) MO h1 h2 h3) hq (ix3 0 r l) = mUp (scv x0 x1 h r') (MO (ix3 0 r l)) := by
  have hh := h.isLt
  have e : ∀ d : Fin 128, col o (by omega) d = hcol h d := fun d => Fin.ext (by simp only [ho])
  refine payMF _ _ MO o (by omega) hs h1 h2 h3 hq 0 r l (scv x0 x1 h r') fun j => ?_
  exact Finset.sum_congr rfl fun d _ => by rw [e, hQ, hK]

/-- The stored running weighted sum of one head, at an index. -/
theorem pF_a (Q : FVec Ideal S1024x128 .bf16) (K V : FVec Ideal S1024x1024 .bf16) (x0 x1 x2 : S1024x1024.Idx → EReal) (MO AO : FVec Ideal S1x1024x128 .f32) (h : Fin 8) (r : Fin 1024) (l : Fin 128) (r' : Fin 1024) (hr : r'.val = 0 + r.val) (o : ℕ) (ho : o = h.val * 128) (hs hs') (h1 h2 h3) (hc hb g1 g2 g3 g4) (hq : S1024x128.ShapeCasts S1x1024x128)
    (hQ : ∀ d : Fin 128, Q (ix2 r d) = x0 (ix2 r' (hcol h d))) (hK : ∀ i, K i = x1 i) (hV : ∀ i, V i = x2 i) :
    shapeCast S1x1024x128 (aF (sF Q K o hs) (mF (sF Q K o hs) MO h1 h2 h3) MO AO (vF V g1 g2 g3 g4) o hs' hc hb) hq (ix3 0 r l)
      = aUp (scv x0 x1 h r') (fun l => MO (ix3 0 r l)) l (AO (ix3 0 r l)) (vcol x2 h l) := by
  have hh := h.isLt
  have e : ∀ d : Fin 128, col o (by omega) d = hcol h d := fun d => Fin.ext (by simp only [ho])
  refine payAF _ _ _ MO AO o (by omega) hs hs' h1 h2 h3 hc hb g1 g2 g3 g4 hq 0 r l (scv x0 x1 h r') (vcol x2 h l) (fun j => ?_) (fun j => ?_) (by omega)
  · exact Finset.sum_congr rfl fun d _ => by rw [e, hQ, hK]
  · rw [hV, e]
    rfl

/-- The stored running maximum of one head, at an index. -/
theorem pL_m (Q : FVec Ideal S512x128 .bf16) (K : FVec Ideal S1024x1024 .bf16) (x0 x1 : S1024x1024.Idx → EReal) (MO : FVec Ideal S1x512x128 .f32) (h : Fin 8) (r : Fin 512) (l : Fin 128) (r' : Fin 1024) (hr : r'.val = 0 + r.val) (o : ℕ) (ho : o = h.val * 128) (hs) (i1 i0) (h1 h2 h3) (hq : S512x128.ShapeCasts S1x512x128)
    (hQ : ∀ d : Fin 128, Q (ix2 r d) = x0 (ix2 r' (hcol h d))) (hK : ∀ i, K i = x1 i) :
    shapeCast S1x512x128 (mL (sL Q K o hs i1 i0) MO h1 h2 h3) hq (ix3 0 r l) = mUp (scvD x0 x1 h r') (MO (ix3 0 r l)) := by
  have hh := h.isLt
  have e : ∀ d : Fin 128, col o (by omega) d = hcol h d := fun d => Fin.ext (by simp only [ho])
  refine payML _ _ MO o (by omega) hs i1 i0 h1 h2 h3 hq 0 r l (scvD x0 x1 h r') fun j => ?_
  unfold scvD
  have hi : (j.val ≤ r'.val) ↔ (j.val ≤ r.val + 0) := by omega
  simp only [hi]
  split_ifs
  · exact Finset.sum_congr rfl fun d _ => by rw [e, hQ, hK]
  · rfl

/-- The stored running weighted sum of one head, at an index. -/
theorem pL_a (Q : FVec Ideal S512x128 .bf16) (K V : FVec Ideal S1024x1024 .bf16) (x0 x1 x2 : S1024x1024.Idx → EReal) (MO AO : FVec Ideal S1x512x128 .f32) (h : Fin 8) (r : Fin 512) (l : Fin 128) (r' : Fin 1024) (hr : r'.val = 0 + r.val) (o : ℕ) (ho : o = h.val * 128) (hs hs') (i1 i0) (h1 h2 h3) (hc hb g1 g2 g3 g4) (hq : S512x128.ShapeCasts S1x512x128)
    (hQ : ∀ d : Fin 128, Q (ix2 r d) = x0 (ix2 r' (hcol h d))) (hK : ∀ i, K i = x1 i) (hV : ∀ i, V i = x2 i) :
    shapeCast S1x512x128 (aL (sL Q K o hs i1 i0) (mL (sL Q K o hs i1 i0) MO h1 h2 h3) MO AO (vF V g1 g2 g3 g4) o hs' hc hb) hq (ix3 0 r l)
      = aUp (scvD x0 x1 h r') (fun l => MO (ix3 0 r l)) l (AO (ix3 0 r l)) (vcol x2 h l) := by
  have hh := h.isLt
  have e : ∀ d : Fin 128, col o (by omega) d = hcol h d := fun d => Fin.ext (by simp only [ho])
  refine payAL _ _ _ MO AO o (by omega) hs hs' i1 i0 h1 h2 h3 hc hb g1 g2 g3 g4 hq 0 r l (scvD x0 x1 h r') (vcol x2 h l) (fun j => ?_) (fun j => ?_) (by omega)
  · unfold scvD
    have hi : (j.val ≤ r'.val) ↔ (j.val ≤ r.val + 0) := by omega
    simp only [hi]
    split_ifs
    · exact Finset.sum_congr rfl fun d _ => by rw [e, hQ, hK]
    · rfl
  · rw [hV, e]
    rfl

/-- The stored running maximum of one head, at an index. -/
theorem pH_m (Q : FVec Ideal S512x128 .bf16) (K : FVec Ideal S1024x1024 .bf16) (x0 x1 : S1024x1024.Idx → EReal) (MO : FVec Ideal S1x512x128 .f32) (h : Fin 8) (r : Fin 512) (l : Fin 128) (r' : Fin 1024) (hr : r'.val = 512 + r.val) (o : ℕ) (ho : o = h.val * 128) (hs) (i1 i0) (h1 h2 h3) (hq : S512x128.ShapeCasts S1x512x128)
    (hQ : ∀ d : Fin 128, Q (ix2 r d) = x0 (ix2 r' (hcol h d))) (hK : ∀ i, K i = x1 i) :
    shapeCast S1x512x128 (mH (sH Q K o hs i1 i0) MO h1 h2 h3) hq (ix3 0 r l) = mUp (scvD x0 x1 h r') (MO (ix3 0 r l)) := by
  have hh := h.isLt
  have e : ∀ d : Fin 128, col o (by omega) d = hcol h d := fun d => Fin.ext (by simp only [ho])
  refine payMH _ _ MO o (by omega) hs i1 i0 h1 h2 h3 hq 0 r l (scvD x0 x1 h r') fun j => ?_
  unfold scvD
  have hi : (j.val ≤ r'.val) ↔ (j.val ≤ r.val + 512) := by omega
  simp only [hi]
  split_ifs
  · exact Finset.sum_congr rfl fun d _ => by rw [e, hQ, hK]
  · rfl

/-- The stored running weighted sum of one head, at an index. -/
theorem pH_a (Q : FVec Ideal S512x128 .bf16) (K V : FVec Ideal S1024x1024 .bf16) (x0 x1 x2 : S1024x1024.Idx → EReal) (MO AO : FVec Ideal S1x512x128 .f32) (h : Fin 8) (r : Fin 512) (l : Fin 128) (r' : Fin 1024) (hr : r'.val = 512 + r.val) (o : ℕ) (ho : o = h.val * 128) (hs hs') (i1 i0) (h1 h2 h3) (hc hb g1 g2 g3 g4) (hq : S512x128.ShapeCasts S1x512x128)
    (hQ : ∀ d : Fin 128, Q (ix2 r d) = x0 (ix2 r' (hcol h d))) (hK : ∀ i, K i = x1 i) (hV : ∀ i, V i = x2 i) :
    shapeCast S1x512x128 (aH (sH Q K o hs i1 i0) (mH (sH Q K o hs i1 i0) MO h1 h2 h3) MO AO (vF V g1 g2 g3 g4) o hs' hc hb) hq (ix3 0 r l)
      = aUp (scvD x0 x1 h r') (fun l => MO (ix3 0 r l)) l (AO (ix3 0 r l)) (vcol x2 h l) := by
  have hh := h.isLt
  have e : ∀ d : Fin 128, col o (by omega) d = hcol h d := fun d => Fin.ext (by simp only [ho])
  refine payAH _ _ _ MO AO o (by omega) hs hs' i1 i0 h1 h2 h3 hc hb g1 g2 g3 g4 hq 0 r l (scvD x0 x1 h r') (vcol x2 h l) (fun j => ?_) (fun j => ?_) (by omega)
  · unfold scvD
    have hi : (j.val ≤ r'.val) ↔ (j.val ≤ r.val + 512) := by omega
    simp only [hi]
    split_ifs
    · exact Finset.sum_congr rfl fun d _ => by rw [e, hQ, hK]
    · rfl
  · rw [hV, e]
    rfl

end Cert.KernelIdeal.Hand
end
-- ==== Proof.V.Word.lean ====
/- What one store of the body writes, with the blocks as the body loads them. -/
module

public import proofs.«01_k».proof.Proof.V.Piece
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

/-- The stored running maximum, of the blocks as they are loaded. -/
theorem wF_m (a7 a8 : Memref sig .tc .vmem S1024x1024 .bf16) (x0 x1 : S1024x1024.Idx → Elt Ideal .bf16) (MO : FVec Ideal S1x1024x128 .f32) (h : Fin 8) (r : Fin 1024) (l : Fin 128) (r' : Fin 1024) (hr : r'.val = 0 + r.val) (o : ℕ) (ho : o = h.val * 128)
    (inb7 : ∀ a, (![0, o] : Fin 2 → ℕ) a + S1024x128.size a ≤ S1024x1024.size a) (inb8 : ∀ a, (![0, 0] : Fin 2 → ℕ) a + S1024x1024.size a ≤ S1024x1024.size a)
    (sc1 : S1024x128.ShapeCasts S1024x128) (sc2 : S1024x1024.ShapeCasts S1024x1024) (hs) (h1 h2 h3) (hq : S1024x128.ShapeCasts S1x1024x128) (v : EReal) (hv : MO (ix3 0 r l) = v) :
    shapeCast S1x1024x128 (mF (sF (shapeCast S1024x128 (View.readAt (Elt Ideal) a7.view (Rect.unit (s := S1024x1024) ![0, o] S1024x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs) MO h1 h2 h3) hq (ix3 0 r l)
      = mUp (scv x0 x1 h r') v :=
  (pF_m _ _ x0 x1 MO h r l r' hr o ho hs h1 h2 h3 hq
    (fun d => (congrFun (shapeCast_id (s := S1024x128) _ sc1) (ix2 r d)).trans (rd_q a7.view x0 0 o inb7 r d r' (hcol h d) hr (by simp only [ho])))
    (fun i => (congrFun (shapeCast_id (s := S1024x1024) _ sc2) i).trans (congrFun (rd_blk a8.view x1 inb8) i))).trans (by rw [hv])

/-- The stored running weighted sum, of the blocks as they are loaded. -/
theorem wF_a (a7 a8 a9 : Memref sig .tc .vmem S1024x1024 .bf16) (x0 x1 x2 : S1024x1024.Idx → Elt Ideal .bf16) (MO AO : FVec Ideal S1x1024x128 .f32) (h : Fin 8) (r : Fin 1024) (l : Fin 128) (r' : Fin 1024) (hr : r'.val = 0 + r.val) (o : ℕ) (ho : o = h.val * 128)
    (inb7 : ∀ a, (![0, o] : Fin 2 → ℕ) a + S1024x128.size a ≤ S1024x1024.size a) (inb8 inb9 : ∀ a, (![0, 0] : Fin 2 → ℕ) a + S1024x1024.size a ≤ S1024x1024.size a)
    (sc1 : S1024x128.ShapeCasts S1024x128) (sc2 sc3 : S1024x1024.ShapeCasts S1024x1024) (hs hs') (h1 h2 h3) (hc hb g1 g2 g3 g4) (hq : S1024x128.ShapeCasts S1x1024x128) (m : Fin 128 → EReal) (v : EReal) (hm : ∀ l, MO (ix3 0 r l) = m l) (hv : AO (ix3 0 r l) = v) :
    shapeCast S1x1024x128 (aF (sF (shapeCast S1024x128 (View.readAt (Elt Ideal) a7.view (Rect.unit (s := S1024x1024) ![0, o] S1024x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs)
      (mF (sF (shapeCast S1024x128 (View.readAt (Elt Ideal) a7.view (Rect.unit (s := S1024x1024) ![0, o] S1024x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs) MO h1 h2 h3) MO AO
      (vF (shapeCast S1024x1024 (View.readAt (Elt Ideal) a9.view (Rect.unit (s := S1024x1024) ![0, 0] S1024x1024.size inb9).toLoadRect (a9.view.rep x2)) sc3) g1 g2 g3 g4) o hs' hc hb) hq (ix3 0 r l)
      = aUp (scv x0 x1 h r') m l v (vcol x2 h l) :=
  (pF_a _ _ _ x0 x1 x2 MO AO h r l r' hr o ho hs hs' h1 h2 h3 hc hb g1 g2 g3 g4 hq
    (fun d => (congrFun (shapeCast_id (s := S1024x128) _ sc1) (ix2 r d)).trans (rd_q a7.view x0 0 o inb7 r d r' (hcol h d) hr (by simp only [ho])))
    (fun i => (congrFun (shapeCast_id (s := S1024x1024) _ sc2) i).trans (congrFun (rd_blk a8.view x1 inb8) i)) (fun i => (congrFun (shapeCast_id (s := S1024x1024) _ sc3) i).trans (congrFun (rd_blk a9.view x2 inb9) i))).trans (by rw [hv, funext hm])

/-- The stored running maximum, of the blocks as they are loaded. -/
theorem wL_m (a7 a8 : Memref sig .tc .vmem S1024x1024 .bf16) (x0 x1 : S1024x1024.Idx → Elt Ideal .bf16) (MO : FVec Ideal S1x512x128 .f32) (h : Fin 8) (r : Fin 512) (l : Fin 128) (r' : Fin 1024) (hr : r'.val = 0 + r.val) (o : ℕ) (ho : o = h.val * 128)
    (inb7 : ∀ a, (![0, o] : Fin 2 → ℕ) a + S512x128.size a ≤ S1024x1024.size a) (inb8 : ∀ a, (![0, 0] : Fin 2 → ℕ) a + S1024x1024.size a ≤ S1024x1024.size a)
    (sc1 : S512x128.ShapeCasts S512x128) (sc2 : S1024x1024.ShapeCasts S1024x1024) (hs) (i1 i0) (h1 h2 h3) (hq : S512x128.ShapeCasts S1x512x128) (v : EReal) (hv : MO (ix3 0 r l) = v) :
    shapeCast S1x512x128 (mL (sL (shapeCast S512x128 (View.readAt (Elt Ideal) a7.view (Rect.unit (s := S1024x1024) ![0, o] S512x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs i1 i0) MO h1 h2 h3) hq (ix3 0 r l)
      = mUp (scvD x0 x1 h r') v :=
  (pL_m _ _ x0 x1 MO h r l r' hr o ho hs i1 i0 h1 h2 h3 hq
    (fun d => (congrFun (shapeCast_id (s := S512x128) _ sc1) (ix2 r d)).trans (rd_q a7.view x0 0 o inb7 r d r' (hcol h d) hr (by simp only [ho])))
    (fun i => (congrFun (shapeCast_id (s := S1024x1024) _ sc2) i).trans (congrFun (rd_blk a8.view x1 inb8) i))).trans (by rw [hv])

/-- The stored running weighted sum, of the blocks as they are loaded. -/
theorem wL_a (a7 a8 a9 : Memref sig .tc .vmem S1024x1024 .bf16) (x0 x1 x2 : S1024x1024.Idx → Elt Ideal .bf16) (MO AO : FVec Ideal S1x512x128 .f32) (h : Fin 8) (r : Fin 512) (l : Fin 128) (r' : Fin 1024) (hr : r'.val = 0 + r.val) (o : ℕ) (ho : o = h.val * 128)
    (inb7 : ∀ a, (![0, o] : Fin 2 → ℕ) a + S512x128.size a ≤ S1024x1024.size a) (inb8 inb9 : ∀ a, (![0, 0] : Fin 2 → ℕ) a + S1024x1024.size a ≤ S1024x1024.size a)
    (sc1 : S512x128.ShapeCasts S512x128) (sc2 sc3 : S1024x1024.ShapeCasts S1024x1024) (hs hs') (i1 i0) (h1 h2 h3) (hc hb g1 g2 g3 g4) (hq : S512x128.ShapeCasts S1x512x128) (m : Fin 128 → EReal) (v : EReal) (hm : ∀ l, MO (ix3 0 r l) = m l) (hv : AO (ix3 0 r l) = v) :
    shapeCast S1x512x128 (aL (sL (shapeCast S512x128 (View.readAt (Elt Ideal) a7.view (Rect.unit (s := S1024x1024) ![0, o] S512x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs i1 i0)
      (mL (sL (shapeCast S512x128 (View.readAt (Elt Ideal) a7.view (Rect.unit (s := S1024x1024) ![0, o] S512x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs i1 i0) MO h1 h2 h3) MO AO
      (vF (shapeCast S1024x1024 (View.readAt (Elt Ideal) a9.view (Rect.unit (s := S1024x1024) ![0, 0] S1024x1024.size inb9).toLoadRect (a9.view.rep x2)) sc3) g1 g2 g3 g4) o hs' hc hb) hq (ix3 0 r l)
      = aUp (scvD x0 x1 h r') m l v (vcol x2 h l) :=
  (pL_a _ _ _ x0 x1 x2 MO AO h r l r' hr o ho hs hs' i1 i0 h1 h2 h3 hc hb g1 g2 g3 g4 hq
    (fun d => (congrFun (shapeCast_id (s := S512x128) _ sc1) (ix2 r d)).trans (rd_q a7.view x0 0 o inb7 r d r' (hcol h d) hr (by simp only [ho])))
    (fun i => (congrFun (shapeCast_id (s := S1024x1024) _ sc2) i).trans (congrFun (rd_blk a8.view x1 inb8) i)) (fun i => (congrFun (shapeCast_id (s := S1024x1024) _ sc3) i).trans (congrFun (rd_blk a9.view x2 inb9) i))).trans (by rw [hv, funext hm])

/-- The stored running maximum, of the blocks as they are loaded. -/
theorem wH_m (a7 a8 : Memref sig .tc .vmem S1024x1024 .bf16) (x0 x1 : S1024x1024.Idx → Elt Ideal .bf16) (MO : FVec Ideal S1x512x128 .f32) (h : Fin 8) (r : Fin 512) (l : Fin 128) (r' : Fin 1024) (hr : r'.val = 512 + r.val) (o : ℕ) (ho : o = h.val * 128)
    (inb7 : ∀ a, (![512, o] : Fin 2 → ℕ) a + S512x128.size a ≤ S1024x1024.size a) (inb8 : ∀ a, (![0, 0] : Fin 2 → ℕ) a + S1024x1024.size a ≤ S1024x1024.size a)
    (sc1 : S512x128.ShapeCasts S512x128) (sc2 : S1024x1024.ShapeCasts S1024x1024) (hs) (i1 i0) (h1 h2 h3) (hq : S512x128.ShapeCasts S1x512x128) (v : EReal) (hv : MO (ix3 0 r l) = v) :
    shapeCast S1x512x128 (mH (sH (shapeCast S512x128 (View.readAt (Elt Ideal) a7.view (Rect.unit (s := S1024x1024) ![512, o] S512x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs i1 i0) MO h1 h2 h3) hq (ix3 0 r l)
      = mUp (scvD x0 x1 h r') v :=
  (pH_m _ _ x0 x1 MO h r l r' hr o ho hs i1 i0 h1 h2 h3 hq
    (fun d => (congrFun (shapeCast_id (s := S512x128) _ sc1) (ix2 r d)).trans (rd_q a7.view x0 512 o inb7 r d r' (hcol h d) hr (by simp only [ho])))
    (fun i => (congrFun (shapeCast_id (s := S1024x1024) _ sc2) i).trans (congrFun (rd_blk a8.view x1 inb8) i))).trans (by rw [hv])

/-- The stored running weighted sum, of the blocks as they are loaded. -/
theorem wH_a (a7 a8 a9 : Memref sig .tc .vmem S1024x1024 .bf16) (x0 x1 x2 : S1024x1024.Idx → Elt Ideal .bf16) (MO AO : FVec Ideal S1x512x128 .f32) (h : Fin 8) (r : Fin 512) (l : Fin 128) (r' : Fin 1024) (hr : r'.val = 512 + r.val) (o : ℕ) (ho : o = h.val * 128)
    (inb7 : ∀ a, (![512, o] : Fin 2 → ℕ) a + S512x128.size a ≤ S1024x1024.size a) (inb8 inb9 : ∀ a, (![0, 0] : Fin 2 → ℕ) a + S1024x1024.size a ≤ S1024x1024.size a)
    (sc1 : S512x128.ShapeCasts S512x128) (sc2 sc3 : S1024x1024.ShapeCasts S1024x1024) (hs hs') (i1 i0) (h1 h2 h3) (hc hb g1 g2 g3 g4) (hq : S512x128.ShapeCasts S1x512x128) (m : Fin 128 → EReal) (v : EReal) (hm : ∀ l, MO (ix3 0 r l) = m l) (hv : AO (ix3 0 r l) = v) :
    shapeCast S1x512x128 (aH (sH (shapeCast S512x128 (View.readAt (Elt Ideal) a7.view (Rect.unit (s := S1024x1024) ![512, o] S512x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs i1 i0)
      (mH (sH (shapeCast S512x128 (View.readAt (Elt Ideal) a7.view (Rect.unit (s := S1024x1024) ![512, o] S512x128.size inb7).toLoadRect (a7.view.rep x0)) sc1)
      (shapeCast S1024x1024 (View.readAt (Elt Ideal) a8.view (Rect.unit (s := S1024x1024) ![0, 0] S1024x1024.size inb8).toLoadRect (a8.view.rep x1)) sc2) o hs i1 i0) MO h1 h2 h3) MO AO
      (vF (shapeCast S1024x1024 (View.readAt (Elt Ideal) a9.view (Rect.unit (s := S1024x1024) ![0, 0] S1024x1024.size inb9).toLoadRect (a9.view.rep x2)) sc3) g1 g2 g3 g4) o hs' hc hb) hq (ix3 0 r l)
      = aUp (scvD x0 x1 h r') m l v (vcol x2 h l) :=
  (pH_a _ _ _ x0 x1 x2 MO AO h r l r' hr o ho hs hs' i1 i0 h1 h2 h3 hc hb g1 g2 g3 g4 hq
    (fun d => (congrFun (shapeCast_id (s := S512x128) _ sc1) (ix2 r d)).trans (rd_q a7.view x0 512 o inb7 r d r' (hcol h d) hr (by simp only [ho])))
    (fun i => (congrFun (shapeCast_id (s := S1024x1024) _ sc2) i).trans (congrFun (rd_blk a8.view x1 inb8) i)) (fun i => (congrFun (shapeCast_id (s := S1024x1024) _ sc3) i).trans (congrFun (rd_blk a9.view x2 inb9) i))).trans (by rw [hv, funext hm])

end Cert.KernelIdeal.Hand
end
-- ==== Proof.V.Canon.lean ====
/- The contents a list of stores leaves, when every store is a block of one function of the index. -/
module

public import proofs.«01_k».proof.Proof.KI.Pins
public import proofs.«01_k».proof.Proof.V.Word
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

/-- Stores that cover the whole running maximum leave their canonical contents. -/
theorem writes_m (L : List (View.Piece (Elt Ideal) S8x1024x128 .f32)) (hc : ∀ y : S8x1024x128.Idx, ∃ p ∈ L, y ∈ p.1.set) :
    scM0_0.view.writes (Elt Ideal) scM0_0.view.junk L = View.canon (Val := Elt Ideal) L :=
  View.read_writes_eq_canon scM0_0.view _ L hc

/-- The same of the running weighted sum. -/
theorem writes_a (L : List (View.Piece (Elt Ideal) S8x1024x128 .f32)) (hc : ∀ y : S8x1024x128.Idx, ∃ p ∈ L, y ∈ p.1.set) :
    scM0_1.view.writes (Elt Ideal) scM0_1.view.junk L = View.canon (Val := Elt Ideal) L :=
  View.read_writes_eq_canon scM0_1.view _ L hc

/-- What a store of `R` rows of one head must write for it to be a block of `G`. -/
theorem piece3 {R : ℕ} (h0 r0 : ℕ) (inb : ∀ a, (![h0, r0, 0] : Fin 3 → ℕ) a + (![1, R, 128] : Fin 3 → ℕ) a ≤ S8x1024x128.size a)
    (w : (Rect.unit (s := S8x1024x128) ![h0, r0, 0] (![1, R, 128] : Fin 3 → ℕ) inb).shape.Idx → Elt Ideal .f32) (G : S8x1024x128.Idx → Elt Ideal .f32)
    (H : ∀ (r : Fin R) (l : Fin 128) (h' : Fin 8) (r' : Fin 1024), h'.val = h0 → r'.val = r0 + r.val → w (ix3 0 r l) = G (ix3 h' r' l)) :
    ∀ x, w x = G ((Rect.unit (s := S8x1024x128) ![h0, r0, 0] (![1, R, 128] : Fin 3 → ℕ) inb).emb x) := by
  intro x
  have b0 : h0 + 1 ≤ 8 := inb 0
  have b1 : r0 + R ≤ 1024 := inb 1
  obtain ⟨z, r, l, rfl⟩ : ∃ (z : Fin 1) (r : Fin R) (l : Fin 128), x = ix3 z r l := ⟨x 0, x 1, x 2, eq_ix3 x⟩
  obtain rfl : z = 0 := Subsingleton.elim _ _
  rw [H r l ⟨h0, by omega⟩ ⟨r0 + r.val, by omega⟩ rfl rfl]
  refine congrArg G (funext fun a => Fin.ext ?_)
  fin_cases a
  · show h0 = h0 + 1 * 0; omega
  · show r0 + r.val = r0 + 1 * r.val; omega
  · show l.val = 0 + 1 * l.val; omega

/-- The first `n` stores of a list (its last in time) are blocks of `G` and cover the index. -/
theorem canon_take {s : Shape} {e : EltTy} (G : s.Idx → Elt Ideal e) (n : ℕ) (L : List (View.Piece (Elt Ideal) s e)) (h : View.PiecesOf G (L.take n)) (y : s.Idx)
    (hc : ∃ p ∈ L.take n, y ∈ p.1.set) : View.canon (Val := Elt Ideal) L y = G y := by
  have := View.canon_append_of_piecesOf G (L.drop n) (L.take n) h y hc
  rwa [List.take_append_drop] at this

/-- The running maximum after one block with scores `S`, from the maximum `M`. -/
def Gm (S : Fin 8 → Fin 1024 → Fin 1024 → EReal) (M : S8x1024x128.Idx → EReal) : S8x1024x128.Idx → EReal :=
  fun y => mUp (S (y 0) (y 1)) (M y)

/-- The running weighted sum after it, from the sum `A`. -/
def Ga (S : Fin 8 → Fin 1024 → Fin 1024 → EReal) (W : Fin 8 → Fin 128 → Fin 1024 → EReal) (M A : S8x1024x128.Idx → EReal) : S8x1024x128.Idx → EReal :=
  fun y => aUp (S (y 0) (y 1)) (fun l => M (ix3 (y 0 : Fin 8) (y 1 : Fin 1024) l)) (y 2) (A y) (W (y 0) (y 2))

/-- The fill of the running maximum is minus infinity. -/
theorem fill_m (y : S8x1024x128.Idx) : (k0_pay1 (F := Ideal)) y = (⊥ : EReal) := mask_val

/-- The fill of the running weighted sum is zero. -/
theorem fill_a (y : S8x1024x128.Idx) : (k0_pay2 (F := Ideal)) y = (0 : EReal) := by
  have e : Ideal.ofBits .f32 0x00000000#32 = 0 := by simp [Ideal.ofBits, Ideal.ieee]
  exact e

end Cert.KernelIdeal.Hand
end
-- ==== Proof.V.C1.lean ====
/- What a diagonal block that is not the first leaves in the running weighted sum. -/
module

public import proofs.«01_k».proof.Proof.KI.Runs
public import proofs.«01_k».proof.Proof.V.Canon
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

set_option maxHeartbeats 4000000 in
theorem C_ap (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.PiecesOf (Ga (scvD x0 x1) (fun h l => vcol x2 h l) xa0 xa1) ((kernelRun0_C.sl.HS1_16 c a7 a8 a9 x0 x1 x2 xa0 xa1).take 16) := by
  unfold kernelRun0_C.sl.HS1_16
  refine ⟨piece3 7 512 (by decide) _ _ fun r l h' r' e1 e2 => ?_, piece3 6 512 (by decide) _ _ fun r l h' r' e1 e2 => ?_, piece3 5 512 (by decide) _ _ fun r l h' r' e1 e2 => ?_, piece3 4 512 (by decide) _ _ fun r l h' r' e1 e2 => ?_, piece3 3 512 (by decide) _ _ fun r l h' r' e1 e2 => ?_, piece3 2 512 (by decide) _ _ fun r l h' r' e1 e2 => ?_, piece3 1 512 (by decide) _ _ fun r l h' r' e1 e2 => ?_, piece3 0 512 (by decide) _ _ fun r l h' r' e1 e2 => ?_, piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wH_a a7 a8 a9 x0 x1 x2 (View.readAt (Elt Ideal) scM0_0.view (Rect.unit (s := S8x1024x128) ![7, 512, 0] S1x512x128.size (by decide)).toLoadRect xa0) (View.readAt (Elt Ideal) scM0_1.view (Rect.unit (s := S8x1024x128) ![7, 512, 0] S1x512x128.size (by decide)).toLoadRect xa1) h' r l r' (by omega) 896 (by omega) _ _ _ _ _ _ _ _ _ _ _ _ _ _ _ _ _ _ _ _ _ _ (fun l => rd_m scM0_0.view xa0 7 512 (by decide) r l h' r' (by omega) (by omega)) (rd_m scM0_1.view xa1 7 512 (by decide) r l h' r' (by omega) (by omega))
  · exact wH_a a7 a8 a9 x0 x1 x2 (View.readAt (Elt Ideal) scM0_0.view (Rect.unit (s := S8x1024x128) ![6, 512, 0] S1x512x128.size (by decide)).toLoadRect xa0) (View.readAt (Elt Ideal) scM0_1.view (Rect.unit (s := S8x1024x128) ![6, 512, 0] S1x512x128.size (by decide)).toLoadRect xa1) h' r l r' (by omega) 768 (by omega) _ _ _ _ _ _ _ _ _ _ _ _ _ _ _ _ _ _ _ _ _ _ (fun l => rd_m scM0_0.view xa0 6 512 (by decide) r l h' r' (by omega) (by omega)) (rd_m scM0_1.view xa1 6 512 (by decide) r l h' r' (by omega) (by omega))
  · exact wH_a a7 a8 a9 x0 x1 x2 (View.readAt (Elt Ideal) scM0_0.view (Rect.unit (s := S8x1024x128) ![5, 512, 0] S1x512x128.size (by decide)).toLoadRect xa0) (View.readAt (Elt Ideal) scM0_1.view (Rect.unit (s := S8x1024x128) ![5, 512, 0] S1x512x128.size (by decide)).toLoadRect xa1) h' r l r' (by omega) 640 (by omega) _ _ _ _ _ _ _ _ _ _ _ _ _ _ _ _ _ _ _ _ _ _ (fun l => rd_m scM0_0.view xa0 5 512 (by decide) r l h' r' (by omega) (by omega)) (rd_m scM0_1.view xa1 5 512 (by decide) r l h' r' (by omega) (by omega))
  · exact wH_a a7 a8 a9 x0 x1 x2 (View.readAt (Elt Ideal) scM0_0.view (Rect.unit (s := S8x1024x128) ![4, 512, 0] S1x512x128.size (by decide)).toLoadRect xa0) (View.readAt (Elt Ideal) scM0_1.view (Rect.unit (s := S8x1024x128) ![4, 512, 0] S1x512x128.size (by decide)).toLoadRect xa1) h' r l r' (by omega) 512 (by omega) _ _ _ _ _ _ _ _ _ _ _ _ _ _ _ _ _ _ _ _ _ _ (fun l => rd_m scM0_0.view xa0 4 512 (by decide) r l h' r' (by omega) (by omega)) (rd_m scM0_1.view xa1 4 512 (by decide) r l h' r' (by omega) (by omega))
  · exact wH_a a7 a8 a9 x0 x1 x2 (View.readAt (Elt Ideal) scM0_0.view (Rect.unit (s := S8x1024x128) ![3, 512, 0] S1x512x128.size (by decide)).toLoadRect xa0) (View.readAt (Elt Ideal) scM0_1.view (Rect.unit (s := S8x1024x128) ![3, 512, 0] S1x512x128.size (by decide)).toLoadRect xa1) h' r l r' (by omega) 384 (by omega) _ _ _ _ _ _ _ _ _ _ _ _ _ _ _ _ _ _ _ _ _ _ (fun l => rd_m scM0_0.view xa0 3 512 (by decide) r l h' r' (by omega) (by omega)) (rd_m scM0_1.view xa1 3 512 (by decide) r l h' r' (by omega) (by omega))
  · exact wH_a a7 a8 a9 x0 x1 x2 (View.readAt (Elt Ideal) scM0_0.view (Rect.unit (s := S8x1024x128) ![2, 512, 0] S1x512x128.size (by decide)).toLoadRect xa0) (View.readAt (Elt Ideal) scM0_1.view (Rect.unit (s := S8x1024x128) ![2, 512, 0] S1x512x128.size (by decide)).toLoadRect xa1) h' r l r' (by omega) 256 (by omega) _ _ _ _ _ _ _ _ _ _ _ _ _ _ _ _ _ _ _ _ _ _ (fun l => rd_m scM0_0.view xa0 2 512 (by decide) r l h' r' (by omega) (by omega)) (rd_m scM0_1.view xa1 2 512 (by decide) r l h' r' (by omega) (by omega))
  · exact wH_a a7 a8 a9 x0 x1 x2 (View.readAt (Elt Ideal) scM0_0.view (Rect.unit (s := S8x1024x128) ![1, 512, 0] S1x512x128.size (by decide)).toLoadRect xa0) (View.readAt (Elt Ideal) scM0_1.view (Rect.unit (s := S8x1024x128) ![1, 512, 0] S1x512x128.size (by decide)).toLoadRect xa1) h' r l r' (by omega) 128 (by omega) _ _ _ _ _ _ _ _ _ _ _ _ _ _ _ _ _ _ _ _ _ _ (fun l => rd_m scM0_0.view xa0 1 512 (by decide) r l h' r' (by omega) (by omega)) (rd_m scM0_1.view xa1 1 512 (by decide) r l h' r' (by omega) (by omega))
  · exact wH_a a7 a8 a9 x0 x1 x2 (View.readAt (Elt Ideal) scM0_0.view (Rect.unit (s := S8x1024x128) ![0, 512, 0] S1x512x128.size (by decide)).toLoadRect xa0) (View.readAt (Elt Ideal) scM0_1.view (Rect.unit (s := S8x1024x128) ![0, 512, 0] S1x512x128.size (by decide)).toLoadRect xa1) h' r l r' (by omega) 0 (by omega) _ _ _ _ _ _ _ _ _ _ _ _ _ _ _ _ _ _ _ _ _ _ (fun l => rd_m scM0_0.view xa0 0 512 (by decide) r l h' r' (by omega) (by omega)) (rd_m scM0_1.view xa1 0 512 (by decide) r l h' r' (by omega) (by omega))
  · exact wL_a a7 a8 a9 x0 x1 x2 (View.readAt (Elt Ideal) scM0_0.view (Rect.unit (s := S8x1024x128) ![7, 0, 0] S1x512x128.size (by decide)).toLoadRect xa0) (View.readAt (Elt Ideal) scM0_1.view (Rect.unit (s := S8x1024x128) ![7, 0, 0] S1x512x128.size (by decide)).toLoadRect xa1) h' r l r' (by omega) 896 (by omega) _ _ _ _ _ _ _ _ _ _ _ _ _ _ _ _ _ _ _ _ _ _ (fun l => rd_m scM0_0.view xa0 7 0 (by decide) r l h' r' (by omega) (by omega)) (rd_m scM0_1.view xa1 7 0 (by decide) r l h' r' (by omega) (by omega))
  · exact wL_a a7 a8 a9 x0 x1 x2 (View.readAt (Elt Ideal) scM0_0.view (Rect.unit (s := S8x1024x128) ![6, 0, 0] S1x512x128.size (by decide)).toLoadRect xa0) (View.readAt (Elt Ideal) scM0_1.view (Rect.unit (s := S8x1024x128) ![6, 0, 0] S1x512x128.size (by decide)).toLoadRect xa1) h' r l r' (by omega) 768 (by omega) _ _ _ _ _ _ _ _ _ _ _ _ _ _ _ _ _ _ _ _ _ _ (fun l => rd_m scM0_0.view xa0 6 0 (by decide) r l h' r' (by omega) (by omega)) (rd_m scM0_1.view xa1 6 0 (by decide) r l h' r' (by omega) (by omega))
  · exact wL_a a7 a8 a9 x0 x1 x2 (View.readAt (Elt Ideal) scM0_0.view (Rect.unit (s := S8x1024x128) ![5, 0, 0] S1x512x128.size (by decide)).toLoadRect xa0) (View.readAt (Elt Ideal) scM0_1.view (Rect.unit (s := S8x1024x128) ![5, 0, 0] S1x512x128.size (by decide)).toLoadRect xa1) h' r l r' (by omega) 640 (by omega) _ _ _ _ _ _ _ _ _ _ _ _ _ (show Shape.Concatenates [S512x128, S512x128, S512x128, S512x128] S512x512 1 by decide) _ _ _ _ _ _ _ _ (fun l => rd_m scM0_0.view xa0 5 0 (by decide) r l h' r' (by omega) (by omega)) (rd_m scM0_1.view xa1 5 0 (by decide) r l h' r' (by omega) (by omega))
  · exact wL_a a7 a8 a9 x0 x1 x2 (View.readAt (Elt Ideal) scM0_0.view (Rect.unit (s := S8x1024x128) ![4, 0, 0] S1x512x128.size (by decide)).toLoadRect xa0) (View.readAt (Elt Ideal) scM0_1.view (Rect.unit (s := S8x1024x128) ![4, 0, 0] S1x512x128.size (by decide)).toLoadRect xa1) h' r l r' (by omega) 512 (by omega) _ _ _ _ _ _ _ _ _ _ _ _ _ _ _ _ _ _ _ _ _ _ (fun l => rd_m scM0_0.view xa0 4 0 (by decide) r l h' r' (by omega) (by omega)) (rd_m scM0_1.view xa1 4 0 (by decide) r l h' r' (by omega) (by omega))
  · exact wL_a a7 a8 a9 x0 x1 x2 (View.readAt (Elt Ideal) scM0_0.view (Rect.unit (s := S8x1024x128) ![3, 0, 0] S1x512x128.size (by decide)).toLoadRect xa0) (View.readAt (Elt Ideal) scM0_1.view (Rect.unit (s := S8x1024x128) ![3, 0, 0] S1x512x128.size (by decide)).toLoadRect xa1) h' r l r' (by omega) 384 (by omega) _ _ _ _ _ _ _ _ _ _ _ _ _ _ _ _ _ _ _ _ _ _ (fun l => rd_m scM0_0.view xa0 3 0 (by decide) r l h' r' (by omega) (by omega)) (rd_m scM0_1.view xa1 3 0 (by decide) r l h' r' (by omega) (by omega))
  · exact wL_a a7 a8 a9 x0 x1 x2 (View.readAt (Elt Ideal) scM0_0.view (Rect.unit (s := S8x1024x128) ![2, 0, 0] S1x512x128.size (by decide)).toLoadRect xa0) (View.readAt (Elt Ideal) scM0_1.view (Rect.unit (s := S8x1024x128) ![2, 0, 0] S1x512x128.size (by decide)).toLoadRect xa1) h' r l r' (by omega) 256 (by omega) _ _ _ _ _ _ _ _ _ _ _ _ _ _ _ _ _ _ _ _ _ _ (fun l => rd_m scM0_0.view xa0 2 0 (by decide) r l h' r' (by omega) (by omega)) (rd_m scM0_1.view xa1 2 0 (by decide) r l h' r' (by omega) (by omega))
  · exact wL_a a7 a8 a9 x0 x1 x2 (View.readAt (Elt Ideal) scM0_0.view (Rect.unit (s := S8x1024x128) ![1, 0, 0] S1x512x128.size (by decide)).toLoadRect xa0) (View.readAt (Elt Ideal) scM0_1.view (Rect.unit (s := S8x1024x128) ![1, 0, 0] S1x512x128.size (by decide)).toLoadRect xa1) h' r l r' (by omega) 128 (by omega) _ _ _ _ _ _ _ _ _ _ _ _ _ _ _ _ _ _ _ _ _ _ (fun l => rd_m scM0_0.view xa0 1 0 (by decide) r l h' r' (by omega) (by omega)) (rd_m scM0_1.view xa1 1 0 (by decide) r l h' r' (by omega) (by omega))
  · exact wL_a a7 a8 a9 x0 x1 x2 (View.readAt (Elt Ideal) scM0_0.view (Rect.unit (s := S8x1024x128) ![0, 0, 0] S1x512x128.size (by decide)).toLoadRect xa0) (View.readAt (Elt Ideal) scM0_1.view (Rect.unit (s := S8x1024x128) ![0, 0, 0] S1x512x128.size (by decide)).toLoadRect xa1) h' r l r' (by omega) 0 (by omega) _ _ _ _ _ _ _ _ _ _ _ _ _ _ _ _ _ _ _ _ _ _ (fun l => rd_m scM0_0.view xa0 0 0 (by decide) r l h' r' (by omega) (by omega)) (rd_m scM0_1.view xa1 0 0 (by decide) r l h' r' (by omega) (by omega))

theorem C_ac (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.canon (Val := Elt Ideal) (kernelRun0_C.sl.HS1_16 c a7 a8 a9 x0 x1 x2 xa0 xa1) = (Ga (scvD x0 x1) (fun h l => vcol x2 h l) xa0 xa1) := by
  funext y
  exact canon_take (Ga (scvD x0 x1) (fun h l => vcol x2 h l) xa0 xa1) 16 _ (C_ap c a7 a8 a9 x0 x1 x2 xa0 xa1) y (View.cover_of_tiledL (s := S8x1024x128) ((kernelRun0_C.sl.HS1_16 c a7 a8 a9 x0 x1 x2 xa0 xa1).take 16) S1x512x128.size (by sl_kernel_rfl) y)

set_option maxHeartbeats 4000000 in
theorem C_a (c i a7 h7 a8 h8 a9 h9 a10 h10 T0 T1 T2 T3 T4 x0 x1 x2 xa0 xa1 hc0 hc1 hc2 h4) : (kernelRun0_C c i a7 h7 a8 h8 a9 h9 a10 h10 T0 T1 T2 T3 T4 x0 x1 x2 xa0 xa1 hc0 hc1 hc2 h4).2.2.1 = (Ga (scvD x0 x1) (fun h l => vcol x2 h l) xa0 xa1) := by
  have e : (kernelRun0_C c i a7 h7 a8 h8 a9 h9 a10 h10 T0 T1 T2 T3 T4 x0 x1 x2 xa0 xa1 hc0 hc1 hc2 h4).2.2.1 = View.canon (Val := Elt Ideal) (kernelRun0_C.sl.HS1_16 c a7 a8 a9 x0 x1 x2 xa0 xa1) := by
    unfold kernelRun0_C
    dsimp only
    exact writes_a _ (fun y => View.cover_of_tiledL (s := S8x1024x128) (kernelRun0_C.sl.HS1_16 c a7 a8 a9 x0 x1 x2 xa0 xa1) S1x512x128.size (by sl_kernel_rfl) y)
  rw [e, C_ac c a7 a8 a9 x0 x1 x2 xa0 xa1]

end Cert.KernelIdeal.Hand
end
-- ==== Proof.V.A0.lean ====
/- What the first block, a diagonal one leaves in the running maximum. -/
module

public import proofs.«01_k».proof.Proof.KI.Runs
public import proofs.«01_k».proof.Proof.V.Canon
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

theorem A_v47 (a7 a8 a9 : Memref sig .tc .vmem S1024x1024 .bf16) (x0 x1 x2 : S1024x1024.Idx → Elt Ideal .bf16) (r : Fin 512) (l : Fin 128) : kernelRun0_A.sl.v47 (ix3 0 r l) = ⊥ := by
  unfold kernelRun0_A.sl.v47 kernelRun0_A.sl.HS0_1
  skip
  refine (congrFun (View.readCov_fill _ _ _ _ _ (by decide)) _).trans ?_
  exact fill_m _

theorem A_v77 (a7 a8 a9 : Memref sig .tc .vmem S1024x1024 .bf16) (x0 x1 x2 : S1024x1024.Idx → Elt Ideal .bf16) (r : Fin 512) (l : Fin 128) : kernelRun0_A.sl.v77 a7 a8 x0 x1 (ix3 0 r l) = ⊥ := by
  unfold kernelRun0_A.sl.v77 kernelRun0_A.sl.HS0_2 kernelRun0_A.sl.HS0_1
  rw [View.readCov_skip _ _ _ _ _ (by rfl)]
  refine (congrFun (View.readCov_fill _ _ _ _ _ (by decide)) _).trans ?_
  exact fill_m _

theorem A_v107 (a7 a8 a9 : Memref sig .tc .vmem S1024x1024 .bf16) (x0 x1 x2 : S1024x1024.Idx → Elt Ideal .bf16) (r : Fin 512) (l : Fin 128) : kernelRun0_A.sl.v107 a7 a8 x0 x1 (ix3 0 r l) = ⊥ := by
  unfold kernelRun0_A.sl.v107 kernelRun0_A.sl.HS0_3 kernelRun0_A.sl.HS0_2 kernelRun0_A.sl.HS0_1
  rw [View.readCov_skip _ _ _ _ _ (by rfl), View.readCov_skip _ _ _ _ _ (by rfl)]
  refine (congrFun (View.readCov_fill _ _ _ _ _ (by decide)) _).trans ?_
  exact fill_m _

theorem A_v137 (a7 a8 a9 : Memref sig .tc .vmem S1024x1024 .bf16) (x0 x1 x2 : S1024x1024.Idx → Elt Ideal .bf16) (r : Fin 512) (l : Fin 128) : kernelRun0_A.sl.v137 a7 a8 x0 x1 (ix3 0 r l) = ⊥ := by
  unfold kernelRun0_A.sl.v137 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v167 (a7 a8 a9 : Memref sig .tc .vmem S1024x1024 .bf16) (x0 x1 x2 : S1024x1024.Idx → Elt Ideal .bf16) (r : Fin 512) (l : Fin 128) : kernelRun0_A.sl.v167 a7 a8 x0 x1 (ix3 0 r l) = ⊥ := by
  unfold kernelRun0_A.sl.v167 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v197 (a7 a8 a9 : Memref sig .tc .vmem S1024x1024 .bf16) (x0 x1 x2 : S1024x1024.Idx → Elt Ideal .bf16) (r : Fin 512) (l : Fin 128) : kernelRun0_A.sl.v197 a7 a8 x0 x1 (ix3 0 r l) = ⊥ := by
  unfold kernelRun0_A.sl.v197 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v227 (a7 a8 a9 : Memref sig .tc .vmem S1024x1024 .bf16) (x0 x1 x2 : S1024x1024.Idx → Elt Ideal .bf16) (r : Fin 512) (l : Fin 128) : kernelRun0_A.sl.v227 a7 a8 x0 x1 (ix3 0 r l) = ⊥ := by
  unfold kernelRun0_A.sl.v227 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v257 (a7 a8 a9 : Memref sig .tc .vmem S1024x1024 .bf16) (x0 x1 x2 : S1024x1024.Idx → Elt Ideal .bf16) (r : Fin 512) (l : Fin 128) : kernelRun0_A.sl.v257 a7 a8 x0 x1 (ix3 0 r l) = ⊥ := by
  unfold kernelRun0_A.sl.v257 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v294 (a7 a8 a9 : Memref sig .tc .vmem S1024x1024 .bf16) (x0 x1 x2 : S1024x1024.Idx → Elt Ideal .bf16) (r : Fin 512) (l : Fin 128) : kernelRun0_A.sl.v294 a7 a8 x0 x1 (ix3 0 r l) = ⊥ := by
  unfold kernelRun0_A.sl.v294 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v324 (a7 a8 a9 : Memref sig .tc .vmem S1024x1024 .bf16) (x0 x1 x2 : S1024x1024.Idx → Elt Ideal .bf16) (r : Fin 512) (l : Fin 128) : kernelRun0_A.sl.v324 a7 a8 x0 x1 (ix3 0 r l) = ⊥ := by
  unfold kernelRun0_A.sl.v324 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v354 (a7 a8 a9 : Memref sig .tc .vmem S1024x1024 .bf16) (x0 x1 x2 : S1024x1024.Idx → Elt Ideal .bf16) (r : Fin 512) (l : Fin 128) : kernelRun0_A.sl.v354 a7 a8 x0 x1 (ix3 0 r l) = ⊥ := by
  unfold kernelRun0_A.sl.v354 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v384 (a7 a8 a9 : Memref sig .tc .vmem S1024x1024 .bf16) (x0 x1 x2 : S1024x1024.Idx → Elt Ideal .bf16) (r : Fin 512) (l : Fin 128) : kernelRun0_A.sl.v384 a7 a8 x0 x1 (ix3 0 r l) = ⊥ := by
  unfold kernelRun0_A.sl.v384 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v414 (a7 a8 a9 : Memref sig .tc .vmem S1024x1024 .bf16) (x0 x1 x2 : S1024x1024.Idx → Elt Ideal .bf16) (r : Fin 512) (l : Fin 128) : kernelRun0_A.sl.v414 a7 a8 x0 x1 (ix3 0 r l) = ⊥ := by
  unfold kernelRun0_A.sl.v414 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v444 (a7 a8 a9 : Memref sig .tc .vmem S1024x1024 .bf16) (x0 x1 x2 : S1024x1024.Idx → Elt Ideal .bf16) (r : Fin 512) (l : Fin 128) : kernelRun0_A.sl.v444 a7 a8 x0 x1 (ix3 0 r l) = ⊥ := by
  unfold kernelRun0_A.sl.v444 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v474 (a7 a8 a9 : Memref sig .tc .vmem S1024x1024 .bf16) (x0 x1 x2 : S1024x1024.Idx → Elt Ideal .bf16) (r : Fin 512) (l : Fin 128) : kernelRun0_A.sl.v474 a7 a8 x0 x1 (ix3 0 r l) = ⊥ := by
  unfold kernelRun0_A.sl.v474 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem A_v504 (a7 a8 a9 : Memref sig .tc .vmem S1024x1024 .bf16) (x0 x1 x2 : S1024x1024.Idx → Elt Ideal .bf16) (r : Fin 512) (l : Fin 128) : kernelRun0_A.sl.v504 a7 a8 x0 x1 (ix3 0 r l) = ⊥ := by
  unfold kernelRun0_A.sl.v504 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

set_option maxHeartbeats 4000000 in
theorem A_mp (a7 a8 a9 : Memref sig .tc .vmem S1024x1024 .bf16) (x0 x1 x2 : S1024x1024.Idx → Elt Ideal .bf16) :
    View.PiecesOf (Gm (scvD x0 x1) (fun _ => ⊥)) ((kernelRun0_A.sl.HS0_17 a7 a8 x0 x1).take 16) := by
  unfold kernelRun0_A.sl.HS0_17 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  refine ⟨piece3 7 512 (by decide) _ _ fun r l h' r' e1 e2 => ?_, piece3 6 512 (by decide) _ _ fun r l h' r' e1 e2 => ?_, piece3 5 512 (by decide) _ _ fun r l h' r' e1 e2 => ?_, piece3 4 512 (by decide) _ _ fun r l h' r' e1 e2 => ?_, piece3 3 512 (by decide) _ _ fun r l h' r' e1 e2 => ?_, piece3 2 512 (by decide) _ _ fun r l h' r' e1 e2 => ?_, piece3 1 512 (by decide) _ _ fun r l h' r' e1 e2 => ?_, piece3 0 512 (by decide) _ _ fun r l h' r' e1 e2 => ?_, piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wH_m a7 a8 x0 x1 (kernelRun0_A.sl.v504 a7 a8 x0 x1) h' r l r' (by omega) 896 (by omega) _ _ _ _ _ _ _ _ _ _ _ _ (A_v504 a7 a8 a9 x0 x1 x2 r l)
  · exact wH_m a7 a8 x0 x1 (kernelRun0_A.sl.v474 a7 a8 x0 x1) h' r l r' (by omega) 768 (by omega) _ _ _ _ _ _ _ _ _ _ _ _ (A_v474 a7 a8 a9 x0 x1 x2 r l)
  · exact wH_m a7 a8 x0 x1 (kernelRun0_A.sl.v444 a7 a8 x0 x1) h' r l r' (by omega) 640 (by omega) _ _ _ _ _ _ _ _ _ _ _ _ (A_v444 a7 a8 a9 x0 x1 x2 r l)
  · exact wH_m a7 a8 x0 x1 (kernelRun0_A.sl.v414 a7 a8 x0 x1) h' r l r' (by omega) 512 (by omega) _ _ _ _ _ _ _ _ _ _ _ _ (A_v414 a7 a8 a9 x0 x1 x2 r l)
  · exact wH_m a7 a8 x0 x1 (kernelRun0_A.sl.v384 a7 a8 x0 x1) h' r l r' (by omega) 384 (by omega) _ _ _ _ _ _ _ _ _ _ _ _ (A_v384 a7 a8 a9 x0 x1 x2 r l)
  · exact wH_m a7 a8 x0 x1 (kernelRun0_A.sl.v354 a7 a8 x0 x1) h' r l r' (by omega) 256 (by omega) _ _ _ _ _ _ _ _ _ _ _ _ (A_v354 a7 a8 a9 x0 x1 x2 r l)
  · exact wH_m a7 a8 x0 x1 (kernelRun0_A.sl.v324 a7 a8 x0 x1) h' r l r' (by omega) 128 (by omega) _ _ _ _ _ _ _ _ _ _ _ _ (A_v324 a7 a8 a9 x0 x1 x2 r l)
  · exact wH_m a7 a8 x0 x1 (kernelRun0_A.sl.v294 a7 a8 x0 x1) h' r l r' (by omega) 0 (by omega) _ _ _ _ _ _ _ _ _ _ _ _ (A_v294 a7 a8 a9 x0 x1 x2 r l)
  · exact wL_m a7 a8 x0 x1 (kernelRun0_A.sl.v257 a7 a8 x0 x1) h' r l r' (by omega) 896 (by omega) _ _ _ _ _ _ _ _ _ _ _ _ (A_v257 a7 a8 a9 x0 x1 x2 r l)
  · exact wL_m a7 a8 x0 x1 (kernelRun0_A.sl.v227 a7 a8 x0 x1) h' r l r' (by omega) 768 (by omega) _ _ _ _ _ _ _ _ _ _ _ _ (A_v227 a7 a8 a9 x0 x1 x2 r l)
  · exact wL_m a7 a8 x0 x1 (kernelRun0_A.sl.v197 a7 a8 x0 x1) h' r l r' (by omega) 640 (by omega) _ _ _ _ _ _ _ _ _ _ _ _ (A_v197 a7 a8 a9 x0 x1 x2 r l)
  · exact wL_m a7 a8 x0 x1 (kernelRun0_A.sl.v167 a7 a8 x0 x1) h' r l r' (by omega) 512 (by omega) _ _ _ _ _ _ _ _ _ _ _ _ (A_v167 a7 a8 a9 x0 x1 x2 r l)
  · exact wL_m a7 a8 x0 x1 (kernelRun0_A.sl.v137 a7 a8 x0 x1) h' r l r' (by omega) 384 (by omega) _ _ _ _ _ _ _ _ _ _ _ _ (A_v137 a7 a8 a9 x0 x1 x2 r l)
  · exact wL_m a7 a8 x0 x1 (kernelRun0_A.sl.v107 a7 a8 x0 x1) h' r l r' (by omega) 256 (by omega) _ _ _ _ _ _ _ _ _ _ _ _ (A_v107 a7 a8 a9 x0 x1 x2 r l)
  · exact wL_m a7 a8 x0 x1 (kernelRun0_A.sl.v77 a7 a8 x0 x1) h' r l r' (by omega) 128 (by omega) _ _ _ _ _ _ _ _ _ _ _ _ (A_v77 a7 a8 a9 x0 x1 x2 r l)
  · exact wL_m a7 a8 x0 x1 (kernelRun0_A.sl.v47) h' r l r' (by omega) 0 (by omega) _ _ _ _ _ _ _ _ _ _ _ _ (A_v47 a7 a8 a9 x0 x1 x2 r l)

theorem A_mc (a7 a8 a9 : Memref sig .tc .vmem S1024x1024 .bf16) (x0 x1 x2 : S1024x1024.Idx → Elt Ideal .bf16) :
    View.canon (Val := Elt Ideal) (kernelRun0_A.sl.HS0_17 a7 a8 x0 x1) = (Gm (scvD x0 x1) (fun _ => ⊥)) := by
  funext y
  exact canon_take (Gm (scvD x0 x1) (fun _ => ⊥)) 16 _ (A_mp a7 a8 a9 x0 x1 x2) y (View.cover_of_tiledL (s := S8x1024x128) ((kernelRun0_A.sl.HS0_17 a7 a8 x0 x1).take 16) S1x512x128.size (by sl_kernel_rfl) y)

set_option maxHeartbeats 4000000 in
theorem A_m (c i a7 h7 a8 h8 a9 h9 a10 h10 T0 T1 T2 T3 T4 x0 x1 x2 hc0 hc1 hc2 h4) : (kernelRun0_A c i a7 h7 a8 h8 a9 h9 a10 h10 T0 T1 T2 T3 T4 x0 x1 x2 hc0 hc1 hc2 h4).2.1 = (Gm (scvD x0 x1) (fun _ => ⊥)) := by
  have e : (kernelRun0_A c i a7 h7 a8 h8 a9 h9 a10 h10 T0 T1 T2 T3 T4 x0 x1 x2 hc0 hc1 hc2 h4).2.1 = View.canon (Val := Elt Ideal) (kernelRun0_A.sl.HS0_17 a7 a8 x0 x1) := by
    unfold kernelRun0_A
    dsimp only
    exact writes_m _ (fun y => View.cover_of_tiledL (s := S8x1024x128) (kernelRun0_A.sl.HS0_17 a7 a8 x0 x1) S1x512x128.size (by sl_kernel_rfl) y)
  rw [e, A_mc a7 a8 a9 x0 x1 x2]

end Cert.KernelIdeal.Hand
end
-- ==== Proof.V.A1.lean ====
/- What the first block, a diagonal one leaves in the running weighted sum. -/
module

public import proofs.«01_k».proof.Proof.KI.Runs
public import proofs.«01_k».proof.Proof.V.Canon
public import proofs.«01_k».proof.Proof.V.A0
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

theorem A_v58 (a7 a8 a9 : Memref sig .tc .vmem S1024x1024 .bf16) (x0 x1 x2 : S1024x1024.Idx → Elt Ideal .bf16) (r : Fin 512) (l : Fin 128) : kernelRun0_A.sl.v58 (ix3 0 r l) = 0 := by
  unfold kernelRun0_A.sl.v58 kernelRun0_A.sl.HS1_1
  skip
  refine (congrFun (View.readCov_fill _ _ _ _ _ (by decide)) _).trans ?_
  exact fill_a _

theorem A_v88 (a7 a8 a9 : Memref sig .tc .vmem S1024x1024 .bf16) (x0 x1 x2 : S1024x1024.Idx → Elt Ideal .bf16) (r : Fin 512) (l : Fin 128) : kernelRun0_A.sl.v88 a7 a8 a9 x0 x1 x2 (ix3 0 r l) = 0 := by
  unfold kernelRun0_A.sl.v88 kernelRun0_A.sl.HS1_2 kernelRun0_A.sl.HS1_1
  rw [View.readCov_skip _ _ _ _ _ (by rfl)]
  refine (congrFun (View.readCov_fill _ _ _ _ _ (by decide)) _).trans ?_
  exact fill_a _

theorem A_v118 (a7 a8 a9 : Memref sig .tc .vmem S1024x1024 .bf16) (x0 x1 x2 : S1024x1024.Idx → Elt Ideal .bf16) (r : Fin 512) (l : Fin 128) : kernelRun0_A.sl.v118 a7 a8 a9 x0 x1 x2 (ix3 0 r l) = 0 := by
  unfold kernelRun0_A.sl.v118 kernelRun0_A.sl.HS1_3 kernelRun0_A.sl.HS1_2 kernelRun0_A.sl.HS1_1
  rw [View.readCov_skip _ _ _ _ _ (by rfl), View.readCov_skip _ _ _ _ _ (by rfl)]
  refine (congrFun (View.readCov_fill _ _ _ _ _ (by decide)) _).trans ?_
  exact fill_a _

theorem A_v148 (a7 a8 a9 : Memref sig .tc .vmem S1024x1024 .bf16) (x0 x1 x2 : S1024x1024.Idx → Elt Ideal .bf16) (r : Fin 512) (l : Fin 128) : kernelRun0_A.sl.v148 a7 a8 a9 x0 x1 x2 (ix3 0 r l) = 0 := by
  unfold kernelRun0_A.sl.v148 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v178 (a7 a8 a9 : Memref sig .tc .vmem S1024x1024 .bf16) (x0 x1 x2 : S1024x1024.Idx → Elt Ideal .bf16) (r : Fin 512) (l : Fin 128) : kernelRun0_A.sl.v178 a7 a8 a9 x0 x1 x2 (ix3 0 r l) = 0 := by
  unfold kernelRun0_A.sl.v178 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v208 (a7 a8 a9 : Memref sig .tc .vmem S1024x1024 .bf16) (x0 x1 x2 : S1024x1024.Idx → Elt Ideal .bf16) (r : Fin 512) (l : Fin 128) : kernelRun0_A.sl.v208 a7 a8 a9 x0 x1 x2 (ix3 0 r l) = 0 := by
  unfold kernelRun0_A.sl.v208 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v238 (a7 a8 a9 : Memref sig .tc .vmem S1024x1024 .bf16) (x0 x1 x2 : S1024x1024.Idx → Elt Ideal .bf16) (r : Fin 512) (l : Fin 128) : kernelRun0_A.sl.v238 a7 a8 a9 x0 x1 x2 (ix3 0 r l) = 0 := by
  unfold kernelRun0_A.sl.v238 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v268 (a7 a8 a9 : Memref sig .tc .vmem S1024x1024 .bf16) (x0 x1 x2 : S1024x1024.Idx → Elt Ideal .bf16) (r : Fin 512) (l : Fin 128) : kernelRun0_A.sl.v268 a7 a8 a9 x0 x1 x2 (ix3 0 r l) = 0 := by
  unfold kernelRun0_A.sl.v268 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v305 (a7 a8 a9 : Memref sig .tc .vmem S1024x1024 .bf16) (x0 x1 x2 : S1024x1024.Idx → Elt Ideal .bf16) (r : Fin 512) (l : Fin 128) : kernelRun0_A.sl.v305 a7 a8 a9 x0 x1 x2 (ix3 0 r l) = 0 := by
  unfold kernelRun0_A.sl.v305 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v335 (a7 a8 a9 : Memref sig .tc .vmem S1024x1024 .bf16) (x0 x1 x2 : S1024x1024.Idx → Elt Ideal .bf16) (r : Fin 512) (l : Fin 128) : kernelRun0_A.sl.v335 a7 a8 a9 x0 x1 x2 (ix3 0 r l) = 0 := by
  unfold kernelRun0_A.sl.v335 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v365 (a7 a8 a9 : Memref sig .tc .vmem S1024x1024 .bf16) (x0 x1 x2 : S1024x1024.Idx → Elt Ideal .bf16) (r : Fin 512) (l : Fin 128) : kernelRun0_A.sl.v365 a7 a8 a9 x0 x1 x2 (ix3 0 r l) = 0 := by
  unfold kernelRun0_A.sl.v365 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v395 (a7 a8 a9 : Memref sig .tc .vmem S1024x1024 .bf16) (x0 x1 x2 : S1024x1024.Idx → Elt Ideal .bf16) (r : Fin 512) (l : Fin 128) : kernelRun0_A.sl.v395 a7 a8 a9 x0 x1 x2 (ix3 0 r l) = 0 := by
  unfold kernelRun0_A.sl.v395 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v425 (a7 a8 a9 : Memref sig .tc .vmem S1024x1024 .bf16) (x0 x1 x2 : S1024x1024.Idx → Elt Ideal .bf16) (r : Fin 512) (l : Fin 128) : kernelRun0_A.sl.v425 a7 a8 a9 x0 x1 x2 (ix3 0 r l) = 0 := by
  unfold kernelRun0_A.sl.v425 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v455 (a7 a8 a9 : Memref sig .tc .vmem S1024x1024 .bf16) (x0 x1 x2 : S1024x1024.Idx → Elt Ideal .bf16) (r : Fin 512) (l : Fin 128) : kernelRun0_A.sl.v455 a7 a8 a9 x0 x1 x2 (ix3 0 r l) = 0 := by
  unfold kernelRun0_A.sl.v455 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v485 (a7 a8 a9 : Memref sig .tc .vmem S1024x1024 .bf16) (x0 x1 x2 : S1024x1024.Idx → Elt Ideal .bf16) (r : Fin 512) (l : Fin 128) : kernelRun0_A.sl.v485 a7 a8 a9 x0 x1 x2 (ix3 0 r l) = 0 := by
  unfold kernelRun0_A.sl.v485 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem A_v515 (a7 a8 a9 : Memref sig .tc .vmem S1024x1024 .bf16) (x0 x1 x2 : S1024x1024.Idx → Elt Ideal .bf16) (r : Fin 512) (l : Fin 128) : kernelRun0_A.sl.v515 a7 a8 a9 x0 x1 x2 (ix3 0 r l) = 0 := by
  unfold kernelRun0_A.sl.v515 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

set_option maxHeartbeats 4000000 in
theorem A_ap (a7 a8 a9 : Memref sig .tc .vmem S1024x1024 .bf16) (x0 x1 x2 : S1024x1024.Idx → Elt Ideal .bf16) :
    View.PiecesOf (Ga (scvD x0 x1) (fun h l => vcol x2 h l) (fun _ => ⊥) (fun _ => 0)) ((kernelRun0_A.sl.HS1_17 a7 a8 a9 x0 x1 x2).take 16) := by
  unfold kernelRun0_A.sl.HS1_17 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine ⟨piece3 7 512 (by decide) _ _ fun r l h' r' e1 e2 => ?_, piece3 6 512 (by decide) _ _ fun r l h' r' e1 e2 => ?_, piece3 5 512 (by decide) _ _ fun r l h' r' e1 e2 => ?_, piece3 4 512 (by decide) _ _ fun r l h' r' e1 e2 => ?_, piece3 3 512 (by decide) _ _ fun r l h' r' e1 e2 => ?_, piece3 2 512 (by decide) _ _ fun r l h' r' e1 e2 => ?_, piece3 1 512 (by decide) _ _ fun r l h' r' e1 e2 => ?_, piece3 0 512 (by decide) _ _ fun r l h' r' e1 e2 => ?_, piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wH_a a7 a8 a9 x0 x1 x2 (kernelRun0_A.sl.v504 a7 a8 x0 x1) (kernelRun0_A.sl.v515 a7 a8 a9 x0 x1 x2) h' r l r' (by omega) 896 (by omega) _ _ _ _ _ _ _ _ _ _ _ _ _ _ _ _ _ _ _ _ _ _ (fun l => A_v504 a7 a8 a9 x0 x1 x2 r l) (A_v515 a7 a8 a9 x0 x1 x2 r l)
  · exact wH_a a7 a8 a9 x0 x1 x2 (kernelRun0_A.sl.v474 a7 a8 x0 x1) (kernelRun0_A.sl.v485 a7 a8 a9 x0 x1 x2) h' r l r' (by omega) 768 (by omega) _ _ _ _ _ _ _ _ _ _ _ _ _ _ _ _ _ _ _ _ _ _ (fun l => A_v474 a7 a8 a9 x0 x1 x2 r l) (A_v485 a7 a8 a9 x0 x1 x2 r l)
  · exact wH_a a7 a8 a9 x0 x1 x2 (kernelRun0_A.sl.v444 a7 a8 x0 x1) (kernelRun0_A.sl.v455 a7 a8 a9 x0 x1 x2) h' r l r' (by omega) 640 (by omega) _ _ _ _ _ _ _ _ _ _ _ _ _ _ _ _ _ _ _ _ _ _ (fun l => A_v444 a7 a8 a9 x0 x1 x2 r l) (A_v455 a7 a8 a9 x0 x1 x2 r l)
  · exact wH_a a7 a8 a9 x0 x1 x2 (kernelRun0_A.sl.v414 a7 a8 x0 x1) (kernelRun0_A.sl.v425 a7 a8 a9 x0 x1 x2) h' r l r' (by omega) 512 (by omega) _ _ _ _ _ _ _ _ _ _ _ _ _ _ _ _ _ _ _ _ _ _ (fun l => A_v414 a7 a8 a9 x0 x1 x2 r l) (A_v425 a7 a8 a9 x0 x1 x2 r l)
  · exact wH_a a7 a8 a9 x0 x1 x2 (kernelRun0_A.sl.v384 a7 a8 x0 x1) (kernelRun0_A.sl.v395 a7 a8 a9 x0 x1 x2) h' r l r' (by omega) 384 (by omega) _ _ _ _ _ _ _ _ _ _ _ _ _ _ _ _ _ _ _ _ _ _ (fun l => A_v384 a7 a8 a9 x0 x1 x2 r l) (A_v395 a7 a8 a9 x0 x1 x2 r l)
  · exact wH_a a7 a8 a9 x0 x1 x2 (kernelRun0_A.sl.v354 a7 a8 x0 x1) (kernelRun0_A.sl.v365 a7 a8 a9 x0 x1 x2) h' r l r' (by omega) 256 (by omega) _ _ _ _ _ _ _ _ _ _ _ _ _ _ _ _ _ _ _ _ _ _ (fun l => A_v354 a7 a8 a9 x0 x1 x2 r l) (A_v365 a7 a8 a9 x0 x1 x2 r l)
  · exact wH_a a7 a8 a9 x0 x1 x2 (kernelRun0_A.sl.v324 a7 a8 x0 x1) (kernelRun0_A.sl.v335 a7 a8 a9 x0 x1 x2) h' r l r' (by omega) 128 (by omega) _ _ _ _ _ _ _ _ _ _ _ _ _ _ _ _ _ _ _ _ _ _ (fun l => A_v324 a7 a8 a9 x0 x1 x2 r l) (A_v335 a7 a8 a9 x0 x1 x2 r l)
  · exact wH_a a7 a8 a9 x0 x1 x2 (kernelRun0_A.sl.v294 a7 a8 x0 x1) (kernelRun0_A.sl.v305 a7 a8 a9 x0 x1 x2) h' r l r' (by omega) 0 (by omega) _ _ _ _ _ _ _ _ _ _ _ _ _ _ _ _ _ _ _ _ _ _ (fun l => A_v294 a7 a8 a9 x0 x1 x2 r l) (A_v305 a7 a8 a9 x0 x1 x2 r l)
  · exact wL_a a7 a8 a9 x0 x1 x2 (kernelRun0_A.sl.v257 a7 a8 x0 x1) (kernelRun0_A.sl.v268 a7 a8 a9 x0 x1 x2) h' r l r' (by omega) 896 (by omega) _ _ _ _ _ _ _ _ _ _ _ _ _ _ _ _ _ _ _ _ _ _ (fun l => A_v257 a7 a8 a9 x0 x1 x2 r l) (A_v268 a7 a8 a9 x0 x1 x2 r l)
  · exact wL_a a7 a8 a9 x0 x1 x2 (kernelRun0_A.sl.v227 a7 a8 x0 x1) (kernelRun0_A.sl.v238 a7 a8 a9 x0 x1 x2) h' r l r' (by omega) 768 (by omega) _ _ _ _ _ _ _ _ _ _ _ _ _ _ _ _ _ _ _ _ _ _ (fun l => A_v227 a7 a8 a9 x0 x1 x2 r l) (A_v238 a7 a8 a9 x0 x1 x2 r l)
  · exact wL_a a7 a8 a9 x0 x1 x2 (kernelRun0_A.sl.v197 a7 a8 x0 x1) (kernelRun0_A.sl.v208 a7 a8 a9 x0 x1 x2) h' r l r' (by omega) 640 (by omega) _ _ _ _ _ _ _ _ _ _ _ _ _ (show Shape.Concatenates [S512x128, S512x128, S512x128, S512x128] S512x512 1 by decide) _ _ _ _ _ _ _ _ (fun l => A_v197 a7 a8 a9 x0 x1 x2 r l) (A_v208 a7 a8 a9 x0 x1 x2 r l)
  · exact wL_a a7 a8 a9 x0 x1 x2 (kernelRun0_A.sl.v167 a7 a8 x0 x1) (kernelRun0_A.sl.v178 a7 a8 a9 x0 x1 x2) h' r l r' (by omega) 512 (by omega) _ _ _ _ _ _ _ _ _ _ _ _ _ _ _ _ _ _ _ _ _ _ (fun l => A_v167 a7 a8 a9 x0 x1 x2 r l) (A_v178 a7 a8 a9 x0 x1 x2 r l)
  · exact wL_a a7 a8 a9 x0 x1 x2 (kernelRun0_A.sl.v137 a7 a8 x0 x1) (kernelRun0_A.sl.v148 a7 a8 a9 x0 x1 x2) h' r l r' (by omega) 384 (by omega) _ _ _ _ _ _ _ _ _ _ _ _ _ _ _ _ _ _ _ _ _ _ (fun l => A_v137 a7 a8 a9 x0 x1 x2 r l) (A_v148 a7 a8 a9 x0 x1 x2 r l)
  · exact wL_a a7 a8 a9 x0 x1 x2 (kernelRun0_A.sl.v107 a7 a8 x0 x1) (kernelRun0_A.sl.v118 a7 a8 a9 x0 x1 x2) h' r l r' (by omega) 256 (by omega) _ _ _ _ _ _ _ _ _ _ _ _ _ _ _ _ _ _ _ _ _ _ (fun l => A_v107 a7 a8 a9 x0 x1 x2 r l) (A_v118 a7 a8 a9 x0 x1 x2 r l)
  · exact wL_a a7 a8 a9 x0 x1 x2 (kernelRun0_A.sl.v77 a7 a8 x0 x1) (kernelRun0_A.sl.v88 a7 a8 a9 x0 x1 x2) h' r l r' (by omega) 128 (by omega) _ _ _ _ _ _ _ _ _ _ _ _ _ _ _ _ _ _ _ _ _ _ (fun l => A_v77 a7 a8 a9 x0 x1 x2 r l) (A_v88 a7 a8 a9 x0 x1 x2 r l)
  · exact wL_a a7 a8 a9 x0 x1 x2 (kernelRun0_A.sl.v47) (kernelRun0_A.sl.v58) h' r l r' (by omega) 0 (by omega) _ _ _ _ _ _ _ _ _ _ _ _ _ _ _ _ _ _ _ _ _ _ (fun l => A_v47 a7 a8 a9 x0 x1 x2 r l) (A_v58 a7 a8 a9 x0 x1 x2 r l)

theorem A_ac (a7 a8 a9 : Memref sig .tc .vmem S1024x1024 .bf16) (x0 x1 x2 : S1024x1024.Idx → Elt Ideal .bf16) :
    View.canon (Val := Elt Ideal) (kernelRun0_A.sl.HS1_17 a7 a8 a9 x0 x1 x2) = (Ga (scvD x0 x1) (fun h l => vcol x2 h l) (fun _ => ⊥) (fun _ => 0)) := by
  funext y
  exact canon_take (Ga (scvD x0 x1) (fun h l => vcol x2 h l) (fun _ => ⊥) (fun _ => 0)) 16 _ (A_ap a7 a8 a9 x0 x1 x2) y (View.cover_of_tiledL (s := S8x1024x128) ((kernelRun0_A.sl.HS1_17 a7 a8 a9 x0 x1 x2).take 16) S1x512x128.size (by sl_kernel_rfl) y)

set_option maxHeartbeats 4000000 in
theorem A_a (c i a7 h7 a8 h8 a9 h9 a10 h10 T0 T1 T2 T3 T4 x0 x1 x2 hc0 hc1 hc2 h4) : (kernelRun0_A c i a7 h7 a8 h8 a9 h9 a10 h10 T0 T1 T2 T3 T4 x0 x1 x2 hc0 hc1 hc2 h4).2.2.1 = (Ga (scvD x0 x1) (fun h l => vcol x2 h l) (fun _ => ⊥) (fun _ => 0)) := by
  have e : (kernelRun0_A c i a7 h7 a8 h8 a9 h9 a10 h10 T0 T1 T2 T3 T4 x0 x1 x2 hc0 hc1 hc2 h4).2.2.1 = View.canon (Val := Elt Ideal) (kernelRun0_A.sl.HS1_17 a7 a8 a9 x0 x1 x2) := by
    unfold kernelRun0_A
    dsimp only
    exact writes_a _ (fun y => View.cover_of_tiledL (s := S8x1024x128) (kernelRun0_A.sl.HS1_17 a7 a8 a9 x0 x1 x2) S1x512x128.size (by sl_kernel_rfl) y)
  rw [e, A_ac a7 a8 a9 x0 x1 x2]

end Cert.KernelIdeal.Hand
end
-- ==== Proof.V.Out.lean ====
/- The block of the result that a diagonal block writes, from the running weighted sum it leaves. -/
module

public import proofs.«01_k».proof.Proof.KI.Runs
public import proofs.«01_k».proof.Proof.V.C1
public import proofs.«01_k».proof.Proof.V.A1
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

/-- One head's part of the result: its weighted sum over its denominator, which is lane 64. -/
theorem pay9_apply (X : FVec Ideal S1x1024x128 .f32) (r : Fin 1024) (d : Fin 64) :
    k0_pay9 (F := Ideal) X (ix2 r d) = X (ix3 0 r (⟨d.val, by omega⟩ : Fin 128)) * Ideal.div 1 (X (ix3 0 r (64 : Fin 128))) := by
  have e1 : Ideal.ofBits .f32 0x3F800000#32 = 1 := by
    simp [Ideal.ofBits, Ideal.ieee]
    norm_num
    rw [← EReal.coe_mul]
    norm_num
  have h : k0_pay9 (F := Ideal) X (ix2 r d) = X (ix3 0 r (⟨d.val, by omega⟩ : Fin 128)) * Ideal.div (Ideal.ofBits .f32 0x3F800000#32) (X (ix3 0 r (64 : Fin 128))) := by
    unfold k0_pay9
    pointwise
  rw [h, e1]

/-- The result block of a running weighted sum. -/
def Go (A : S8x1024x128.Idx → EReal) : S1024x512.Idx → EReal := fun y =>
  A (ix3 (⟨(y 1).val / 64, Nat.div_lt_of_lt_mul (y 1).isLt⟩ : Fin 8) (y 0 : Fin 1024) (⟨(y 1).val % 64, by omega⟩ : Fin 128))
    * Ideal.div 1 (A (ix3 (⟨(y 1).val / 64, Nat.div_lt_of_lt_mul (y 1).isLt⟩ : Fin 8) (y 0 : Fin 1024) (64 : Fin 128)))

theorem Go_at (A : S8x1024x128.Idx → EReal) (r : Fin 1024) (c : Fin 512) (h : Fin 8) (d : Fin 64) (e : c.val = h.val * 64 + d.val) :
    Go A (ix2 r c) = A (ix3 h r (⟨d.val, by omega⟩ : Fin 128)) * Ideal.div 1 (A (ix3 h r (64 : Fin 128))) := by
  have e1 : (⟨c.val / 64, Nat.div_lt_of_lt_mul c.isLt⟩ : Fin 8) = h := Fin.ext (by show c.val / 64 = h.val; omega)
  have e2 : (⟨c.val % 64, by omega⟩ : Fin 128) = (⟨d.val, by omega⟩ : Fin 128) := Fin.ext (by show c.val % 64 = d.val; omega)
  show A (ix3 (⟨c.val / 64, _⟩ : Fin 8) r (⟨c.val % 64, _⟩ : Fin 128)) * Ideal.div 1 (A (ix3 (⟨c.val / 64, _⟩ : Fin 8) r (64 : Fin 128))) = _
  rw [e1, e2]

/-- What a store of 64 columns of the result must write for it to be a block of `G`. -/
theorem pieceO (c0 : ℕ) (inb : ∀ a, (![0, c0] : Fin 2 → ℕ) a + (![1024, 64] : Fin 2 → ℕ) a ≤ S1024x512.size a)
    (w : (Rect.unit (s := S1024x512) ![0, c0] (![1024, 64] : Fin 2 → ℕ) inb).shape.Idx → Elt Ideal .bf16) (G : S1024x512.Idx → Elt Ideal .bf16)
    (H : ∀ (r : Fin 1024) (d : Fin 64) (c : Fin 512), c.val = c0 + d.val → w (ix2 r d) = G (ix2 r c)) :
    ∀ x, w x = G ((Rect.unit (s := S1024x512) ![0, c0] (![1024, 64] : Fin 2 → ℕ) inb).emb x) := by
  intro x
  have b1 : c0 + 64 ≤ 512 := inb 1
  obtain ⟨r, d, rfl⟩ : ∃ (r : Fin 1024) (d : Fin 64), x = ix2 r d := ⟨x 0, x 1, eq_ix2 x⟩
  rw [H r d ⟨c0 + d.val, by omega⟩ rfl]
  refine congrArg G (funext fun a => Fin.ext ?_)
  fin_cases a
  · show r.val = 0 + 1 * r.val; omega
  · show c0 + d.val = c0 + 1 * d.val; omega

/-- A load of one head of the running weighted sum after a list of stores. -/
theorem rdc (L : List (View.Piece (Elt Ideal) S8x1024x128 .f32)) (G : S8x1024x128.Idx → EReal) (hG : View.canon (Val := Elt Ideal) L = G) (h0 : ℕ) (inb : ∀ a, (![h0, 0, 0] : Fin 3 → ℕ) a + S1x1024x128.size a ≤ S8x1024x128.size a) (h : Fin 8) (hh : h.val = h0) (r : Fin 1024) (l : Fin 128) :
    scM0_1.view.readCov (Val := Elt Ideal) L (Rect.unit (s := S8x1024x128) ![h0, 0, 0] S1x1024x128.size inb).toLoadRect (ix3 (0 : Fin 1) r l) = G (ix3 h r l) := by
  rw [View.readCov_eq_canon', hG]
  refine congrArg G (funext fun a => Fin.ext ?_)
  fin_cases a
  · show h0 + 1 * 0 = h.val; omega
  · show 0 + 1 * r.val = r.val; omega
  · show 0 + 1 * l.val = l.val; omega

set_option maxHeartbeats 4000000 in
theorem A_op (a7 a8 a9 : Memref sig .tc .vmem S1024x1024 .bf16) (x0 x1 x2 : S1024x1024.Idx → Elt Ideal .bf16) : View.PiecesOf (Go (Ga (scvD x0 x1) (fun h l => vcol x2 h l) (fun _ => ⊥) (fun _ => 0))) ((kernelRun0_A.sl.HO3_8 a7 a8 a9 x0 x1 x2).take 8) := by
  unfold kernelRun0_A.sl.HO3_8
  refine ⟨pieceO 448 (by decide) _ _ fun r d cc e => ?_, pieceO 384 (by decide) _ _ fun r d cc e => ?_, pieceO 320 (by decide) _ _ fun r d cc e => ?_, pieceO 256 (by decide) _ _ fun r d cc e => ?_, pieceO 192 (by decide) _ _ fun r d cc e => ?_, pieceO 128 (by decide) _ _ fun r d cc e => ?_, pieceO 64 (by decide) _ _ fun r d cc e => ?_, pieceO 0 (by decide) _ _ fun r d cc e => ?_, trivial⟩
  · refine (pay9_apply (scM0_1.view.readCov (Val := Elt Ideal) (kernelRun0_A.sl.HS1_17 a7 a8 a9 x0 x1 x2) (Rect.unit (s := S8x1024x128) ![7, 0, 0] S1x1024x128.size (by decide)).toLoadRect) r d).trans ?_
    rw [rdc _ _ (A_ac a7 a8 a9 x0 x1 x2) 7 (by decide) 7 rfl, rdc _ _ (A_ac a7 a8 a9 x0 x1 x2) 7 (by decide) 7 rfl]
    exact (Go_at _ r cc 7 d (by rw [e]; rfl)).symm
  · refine (pay9_apply (scM0_1.view.readCov (Val := Elt Ideal) (kernelRun0_A.sl.HS1_17 a7 a8 a9 x0 x1 x2) (Rect.unit (s := S8x1024x128) ![6, 0, 0] S1x1024x128.size (by decide)).toLoadRect) r d).trans ?_
    rw [rdc _ _ (A_ac a7 a8 a9 x0 x1 x2) 6 (by decide) 6 rfl, rdc _ _ (A_ac a7 a8 a9 x0 x1 x2) 6 (by decide) 6 rfl]
    exact (Go_at _ r cc 6 d (by rw [e]; rfl)).symm
  · refine (pay9_apply (scM0_1.view.readCov (Val := Elt Ideal) (kernelRun0_A.sl.HS1_17 a7 a8 a9 x0 x1 x2) (Rect.unit (s := S8x1024x128) ![5, 0, 0] S1x1024x128.size (by decide)).toLoadRect) r d).trans ?_
    rw [rdc _ _ (A_ac a7 a8 a9 x0 x1 x2) 5 (by decide) 5 rfl, rdc _ _ (A_ac a7 a8 a9 x0 x1 x2) 5 (by decide) 5 rfl]
    exact (Go_at _ r cc 5 d (by rw [e]; rfl)).symm
  · refine (pay9_apply (scM0_1.view.readCov (Val := Elt Ideal) (kernelRun0_A.sl.HS1_17 a7 a8 a9 x0 x1 x2) (Rect.unit (s := S8x1024x128) ![4, 0, 0] S1x1024x128.size (by decide)).toLoadRect) r d).trans ?_
    rw [rdc _ _ (A_ac a7 a8 a9 x0 x1 x2) 4 (by decide) 4 rfl, rdc _ _ (A_ac a7 a8 a9 x0 x1 x2) 4 (by decide) 4 rfl]
    exact (Go_at _ r cc 4 d (by rw [e]; rfl)).symm
  · refine (pay9_apply (scM0_1.view.readCov (Val := Elt Ideal) (kernelRun0_A.sl.HS1_17 a7 a8 a9 x0 x1 x2) (Rect.unit (s := S8x1024x128) ![3, 0, 0] S1x1024x128.size (by decide)).toLoadRect) r d).trans ?_
    rw [rdc _ _ (A_ac a7 a8 a9 x0 x1 x2) 3 (by decide) 3 rfl, rdc _ _ (A_ac a7 a8 a9 x0 x1 x2) 3 (by decide) 3 rfl]
    exact (Go_at _ r cc 3 d (by rw [e]; rfl)).symm
  · refine (pay9_apply (scM0_1.view.readCov (Val := Elt Ideal) (kernelRun0_A.sl.HS1_17 a7 a8 a9 x0 x1 x2) (Rect.unit (s := S8x1024x128) ![2, 0, 0] S1x1024x128.size (by decide)).toLoadRect) r d).trans ?_
    rw [rdc _ _ (A_ac a7 a8 a9 x0 x1 x2) 2 (by decide) 2 rfl, rdc _ _ (A_ac a7 a8 a9 x0 x1 x2) 2 (by decide) 2 rfl]
    exact (Go_at _ r cc 2 d (by rw [e]; rfl)).symm
  · refine (pay9_apply (scM0_1.view.readCov (Val := Elt Ideal) (kernelRun0_A.sl.HS1_17 a7 a8 a9 x0 x1 x2) (Rect.unit (s := S8x1024x128) ![1, 0, 0] S1x1024x128.size (by decide)).toLoadRect) r d).trans ?_
    rw [rdc _ _ (A_ac a7 a8 a9 x0 x1 x2) 1 (by decide) 1 rfl, rdc _ _ (A_ac a7 a8 a9 x0 x1 x2) 1 (by decide) 1 rfl]
    exact (Go_at _ r cc 1 d (by rw [e]; rfl)).symm
  · refine (pay9_apply (scM0_1.view.readCov (Val := Elt Ideal) (kernelRun0_A.sl.HS1_17 a7 a8 a9 x0 x1 x2) (Rect.unit (s := S8x1024x128) ![0, 0, 0] S1x1024x128.size (by decide)).toLoadRect) r d).trans ?_
    rw [rdc _ _ (A_ac a7 a8 a9 x0 x1 x2) 0 (by decide) 0 rfl, rdc _ _ (A_ac a7 a8 a9 x0 x1 x2) 0 (by decide) 0 rfl]
    exact (Go_at _ r cc 0 d (by rw [e]; rfl)).symm

set_option maxHeartbeats 4000000 in
theorem A_o (c i a7 h7 a8 h8 a9 h9 a10 h10 T0 T1 T2 T3 T4 x0 x1 x2 hc0 hc1 hc2 h4) : out0_A_3 c i a7 h7 a8 h8 a9 h9 a10 h10 T0 T1 T2 T3 T4 x0 x1 x2 hc0 hc1 hc2 h4 = Go (Ga (scvD x0 x1) (fun h l => vcol x2 h l) (fun _ => ⊥) (fun _ => 0)) := by
  have e : out0_A_3 c i a7 h7 a8 h8 a9 h9 a10 h10 T0 T1 T2 T3 T4 x0 x1 x2 hc0 hc1 hc2 h4 = View.canon (Val := Elt Ideal) (kernelRun0_A.sl.HO3_8 a7 a8 a9 x0 x1 x2) := by
    unfold out0_A_3 kernelRun0_A
    dsimp only
    exact View.read_writes_eq_canon VO0_3 _ _ (fun y => View.cover_of_tiledL (s := S1024x512) (kernelRun0_A.sl.HO3_8 a7 a8 a9 x0 x1 x2) S1024x64.size (by sl_kernel_rfl) y)
  rw [e]
  funext y
  exact canon_take (Go (Ga (scvD x0 x1) (fun h l => vcol x2 h l) (fun _ => ⊥) (fun _ => 0))) 8 _ (A_op a7 a8 a9 x0 x1 x2) y (View.cover_of_tiledL (s := S1024x512) ((kernelRun0_A.sl.HO3_8 a7 a8 a9 x0 x1 x2).take 8) S1024x64.size (by sl_kernel_rfl) y)

set_option maxHeartbeats 4000000 in
theorem C_op (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) : View.PiecesOf (Go (Ga (scvD x0 x1) (fun h l => vcol x2 h l) xa0 xa1)) ((kernelRun0_C.sl.HO3_8 c a7 a8 a9 x0 x1 x2 xa0 xa1).take 8) := by
  unfold kernelRun0_C.sl.HO3_8
  refine ⟨pieceO 448 (by decide) _ _ fun r d cc e => ?_, pieceO 384 (by decide) _ _ fun r d cc e => ?_, pieceO 320 (by decide) _ _ fun r d cc e => ?_, pieceO 256 (by decide) _ _ fun r d cc e => ?_, pieceO 192 (by decide) _ _ fun r d cc e => ?_, pieceO 128 (by decide) _ _ fun r d cc e => ?_, pieceO 64 (by decide) _ _ fun r d cc e => ?_, pieceO 0 (by decide) _ _ fun r d cc e => ?_, trivial⟩
  · refine (pay9_apply (scM0_1.view.readCov (Val := Elt Ideal) (kernelRun0_C.sl.HS1_16 c a7 a8 a9 x0 x1 x2 xa0 xa1) (Rect.unit (s := S8x1024x128) ![7, 0, 0] S1x1024x128.size (by decide)).toLoadRect) r d).trans ?_
    rw [rdc _ _ (C_ac c a7 a8 a9 x0 x1 x2 xa0 xa1) 7 (by decide) 7 rfl, rdc _ _ (C_ac c a7 a8 a9 x0 x1 x2 xa0 xa1) 7 (by decide) 7 rfl]
    exact (Go_at _ r cc 7 d (by rw [e]; rfl)).symm
  · refine (pay9_apply (scM0_1.view.readCov (Val := Elt Ideal) (kernelRun0_C.sl.HS1_16 c a7 a8 a9 x0 x1 x2 xa0 xa1) (Rect.unit (s := S8x1024x128) ![6, 0, 0] S1x1024x128.size (by decide)).toLoadRect) r d).trans ?_
    rw [rdc _ _ (C_ac c a7 a8 a9 x0 x1 x2 xa0 xa1) 6 (by decide) 6 rfl, rdc _ _ (C_ac c a7 a8 a9 x0 x1 x2 xa0 xa1) 6 (by decide) 6 rfl]
    exact (Go_at _ r cc 6 d (by rw [e]; rfl)).symm
  · refine (pay9_apply (scM0_1.view.readCov (Val := Elt Ideal) (kernelRun0_C.sl.HS1_16 c a7 a8 a9 x0 x1 x2 xa0 xa1) (Rect.unit (s := S8x1024x128) ![5, 0, 0] S1x1024x128.size (by decide)).toLoadRect) r d).trans ?_
    rw [rdc _ _ (C_ac c a7 a8 a9 x0 x1 x2 xa0 xa1) 5 (by decide) 5 rfl, rdc _ _ (C_ac c a7 a8 a9 x0 x1 x2 xa0 xa1) 5 (by decide) 5 rfl]
    exact (Go_at _ r cc 5 d (by rw [e]; rfl)).symm
  · refine (pay9_apply (scM0_1.view.readCov (Val := Elt Ideal) (kernelRun0_C.sl.HS1_16 c a7 a8 a9 x0 x1 x2 xa0 xa1) (Rect.unit (s := S8x1024x128) ![4, 0, 0] S1x1024x128.size (by decide)).toLoadRect) r d).trans ?_
    rw [rdc _ _ (C_ac c a7 a8 a9 x0 x1 x2 xa0 xa1) 4 (by decide) 4 rfl, rdc _ _ (C_ac c a7 a8 a9 x0 x1 x2 xa0 xa1) 4 (by decide) 4 rfl]
    exact (Go_at _ r cc 4 d (by rw [e]; rfl)).symm
  · refine (pay9_apply (scM0_1.view.readCov (Val := Elt Ideal) (kernelRun0_C.sl.HS1_16 c a7 a8 a9 x0 x1 x2 xa0 xa1) (Rect.unit (s := S8x1024x128) ![3, 0, 0] S1x1024x128.size (by decide)).toLoadRect) r d).trans ?_
    rw [rdc _ _ (C_ac c a7 a8 a9 x0 x1 x2 xa0 xa1) 3 (by decide) 3 rfl, rdc _ _ (C_ac c a7 a8 a9 x0 x1 x2 xa0 xa1) 3 (by decide) 3 rfl]
    exact (Go_at _ r cc 3 d (by rw [e]; rfl)).symm
  · refine (pay9_apply (scM0_1.view.readCov (Val := Elt Ideal) (kernelRun0_C.sl.HS1_16 c a7 a8 a9 x0 x1 x2 xa0 xa1) (Rect.unit (s := S8x1024x128) ![2, 0, 0] S1x1024x128.size (by decide)).toLoadRect) r d).trans ?_
    rw [rdc _ _ (C_ac c a7 a8 a9 x0 x1 x2 xa0 xa1) 2 (by decide) 2 rfl, rdc _ _ (C_ac c a7 a8 a9 x0 x1 x2 xa0 xa1) 2 (by decide) 2 rfl]
    exact (Go_at _ r cc 2 d (by rw [e]; rfl)).symm
  · refine (pay9_apply (scM0_1.view.readCov (Val := Elt Ideal) (kernelRun0_C.sl.HS1_16 c a7 a8 a9 x0 x1 x2 xa0 xa1) (Rect.unit (s := S8x1024x128) ![1, 0, 0] S1x1024x128.size (by decide)).toLoadRect) r d).trans ?_
    rw [rdc _ _ (C_ac c a7 a8 a9 x0 x1 x2 xa0 xa1) 1 (by decide) 1 rfl, rdc _ _ (C_ac c a7 a8 a9 x0 x1 x2 xa0 xa1) 1 (by decide) 1 rfl]
    exact (Go_at _ r cc 1 d (by rw [e]; rfl)).symm
  · refine (pay9_apply (scM0_1.view.readCov (Val := Elt Ideal) (kernelRun0_C.sl.HS1_16 c a7 a8 a9 x0 x1 x2 xa0 xa1) (Rect.unit (s := S8x1024x128) ![0, 0, 0] S1x1024x128.size (by decide)).toLoadRect) r d).trans ?_
    rw [rdc _ _ (C_ac c a7 a8 a9 x0 x1 x2 xa0 xa1) 0 (by decide) 0 rfl, rdc _ _ (C_ac c a7 a8 a9 x0 x1 x2 xa0 xa1) 0 (by decide) 0 rfl]
    exact (Go_at _ r cc 0 d (by rw [e]; rfl)).symm

set_option maxHeartbeats 4000000 in
theorem C_o (c i a7 h7 a8 h8 a9 h9 a10 h10 T0 T1 T2 T3 T4 x0 x1 x2 xa0 xa1 hc0 hc1 hc2 h4) : out0_C_3 c i a7 h7 a8 h8 a9 h9 a10 h10 T0 T1 T2 T3 T4 x0 x1 x2 xa0 xa1 hc0 hc1 hc2 h4 = Go (Ga (scvD x0 x1) (fun h l => vcol x2 h l) xa0 xa1) := by
  have e : out0_C_3 c i a7 h7 a8 h8 a9 h9 a10 h10 T0 T1 T2 T3 T4 x0 x1 x2 xa0 xa1 hc0 hc1 hc2 h4 = View.canon (Val := Elt Ideal) (kernelRun0_C.sl.HO3_8 c a7 a8 a9 x0 x1 x2 xa0 xa1) := by
    unfold out0_C_3 kernelRun0_C
    dsimp only
    exact View.read_writes_eq_canon VO0_3 _ _ (fun y => View.cover_of_tiledL (s := S1024x512) (kernelRun0_C.sl.HO3_8 c a7 a8 a9 x0 x1 x2 xa0 xa1) S1024x64.size (by sl_kernel_rfl) y)
  rw [e]
  funext y
  exact canon_take (Go (Ga (scvD x0 x1) (fun h l => vcol x2 h l) xa0 xa1)) 8 _ (C_op c a7 a8 a9 x0 x1 x2 xa0 xa1) y (View.cover_of_tiledL (s := S1024x512) ((kernelRun0_C.sl.HO3_8 c a7 a8 a9 x0 x1 x2 xa0 xa1).take 8) S1024x64.size (by sl_kernel_rfl) y)

end Cert.KernelIdeal.Hand
end
-- ==== Proof.V.D0.lean ====
/- What a plain block (neither first nor diagonal) leaves in the running maximum. -/
module

public import proofs.«01_k».proof.Proof.KI.Runs
public import proofs.«01_k».proof.Proof.V.Canon
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

set_option maxHeartbeats 4000000 in
theorem D_mp (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.PiecesOf (Gm (scv x0 x1) xa0) ((kernelRun0_D.sl.HS0_8 c a7 a8 x0 x1 xa0).take 8) := by
  unfold kernelRun0_D.sl.HS0_8
  refine ⟨piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wF_m a7 a8 x0 x1 (View.readAt (Elt Ideal) scM0_0.view (Rect.unit (s := S8x1024x128) ![7, 0, 0] S1x1024x128.size (by decide)).toLoadRect xa0) h' r l r' (by omega) 896 (by omega) _ _ _ _ _ _ _ _ _ _ (rd_m scM0_0.view xa0 7 0 (by decide) r l h' r' (by omega) (by omega))
  · exact wF_m a7 a8 x0 x1 (View.readAt (Elt Ideal) scM0_0.view (Rect.unit (s := S8x1024x128) ![6, 0, 0] S1x1024x128.size (by decide)).toLoadRect xa0) h' r l r' (by omega) 768 (by omega) _ _ _ _ _ _ _ _ _ _ (rd_m scM0_0.view xa0 6 0 (by decide) r l h' r' (by omega) (by omega))
  · exact wF_m a7 a8 x0 x1 (View.readAt (Elt Ideal) scM0_0.view (Rect.unit (s := S8x1024x128) ![5, 0, 0] S1x1024x128.size (by decide)).toLoadRect xa0) h' r l r' (by omega) 640 (by omega) _ _ _ _ _ _ _ _ _ _ (rd_m scM0_0.view xa0 5 0 (by decide) r l h' r' (by omega) (by omega))
  · exact wF_m a7 a8 x0 x1 (View.readAt (Elt Ideal) scM0_0.view (Rect.unit (s := S8x1024x128) ![4, 0, 0] S1x1024x128.size (by decide)).toLoadRect xa0) h' r l r' (by omega) 512 (by omega) _ _ _ _ _ _ _ _ _ _ (rd_m scM0_0.view xa0 4 0 (by decide) r l h' r' (by omega) (by omega))
  · exact wF_m a7 a8 x0 x1 (View.readAt (Elt Ideal) scM0_0.view (Rect.unit (s := S8x1024x128) ![3, 0, 0] S1x1024x128.size (by decide)).toLoadRect xa0) h' r l r' (by omega) 384 (by omega) _ _ _ _ _ _ _ _ _ _ (rd_m scM0_0.view xa0 3 0 (by decide) r l h' r' (by omega) (by omega))
  · exact wF_m a7 a8 x0 x1 (View.readAt (Elt Ideal) scM0_0.view (Rect.unit (s := S8x1024x128) ![2, 0, 0] S1x1024x128.size (by decide)).toLoadRect xa0) h' r l r' (by omega) 256 (by omega) _ _ _ _ _ _ _ _ _ _ (rd_m scM0_0.view xa0 2 0 (by decide) r l h' r' (by omega) (by omega))
  · exact wF_m a7 a8 x0 x1 (View.readAt (Elt Ideal) scM0_0.view (Rect.unit (s := S8x1024x128) ![1, 0, 0] S1x1024x128.size (by decide)).toLoadRect xa0) h' r l r' (by omega) 128 (by omega) _ _ _ _ _ _ _ _ _ _ (rd_m scM0_0.view xa0 1 0 (by decide) r l h' r' (by omega) (by omega))
  · exact wF_m a7 a8 x0 x1 (View.readAt (Elt Ideal) scM0_0.view (Rect.unit (s := S8x1024x128) ![0, 0, 0] S1x1024x128.size (by decide)).toLoadRect xa0) h' r l r' (by omega) 0 (by omega) _ _ _ _ _ _ _ _ _ _ (rd_m scM0_0.view xa0 0 0 (by decide) r l h' r' (by omega) (by omega))

theorem D_mc (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.canon (Val := Elt Ideal) (kernelRun0_D.sl.HS0_8 c a7 a8 x0 x1 xa0) = (Gm (scv x0 x1) xa0) := by
  funext y
  exact canon_take (Gm (scv x0 x1) xa0) 8 _ (D_mp c a7 a8 a9 x0 x1 x2 xa0 xa1) y (View.cover_of_tiledL (s := S8x1024x128) ((kernelRun0_D.sl.HS0_8 c a7 a8 x0 x1 xa0).take 8) S1x1024x128.size (by sl_kernel_rfl) y)

set_option maxHeartbeats 4000000 in
theorem D_m (c i a7 h7 a8 h8 a9 h9 a10 h10 T0 T1 T2 T3 T4 x0 x1 x2 xa0 xa1 hc0 hc1 hc2 h4) : (kernelRun0_D c i a7 h7 a8 h8 a9 h9 a10 h10 T0 T1 T2 T3 T4 x0 x1 x2 xa0 xa1 hc0 hc1 hc2 h4).1 = (Gm (scv x0 x1) xa0) := by
  have e : (kernelRun0_D c i a7 h7 a8 h8 a9 h9 a10 h10 T0 T1 T2 T3 T4 x0 x1 x2 xa0 xa1 hc0 hc1 hc2 h4).1 = View.canon (Val := Elt Ideal) (kernelRun0_D.sl.HS0_8 c a7 a8 x0 x1 xa0) := by
    unfold kernelRun0_D
    dsimp only
    exact writes_m _ (fun y => View.cover_of_tiledL (s := S8x1024x128) (kernelRun0_D.sl.HS0_8 c a7 a8 x0 x1 xa0) S1x1024x128.size (by sl_kernel_rfl) y)
  rw [e, D_mc c a7 a8 a9 x0 x1 x2 xa0 xa1]

end Cert.KernelIdeal.Hand
end
-- ==== Proof.V.D1.lean ====
/- What a plain block (neither first nor diagonal) leaves in the running weighted sum. -/
module

public import proofs.«01_k».proof.Proof.KI.Runs
public import proofs.«01_k».proof.Proof.V.Canon
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

set_option maxHeartbeats 4000000 in
theorem D_ap (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.PiecesOf (Ga (scv x0 x1) (fun h l => vcol x2 h l) xa0 xa1) ((kernelRun0_D.sl.HS1_8 c a7 a8 a9 x0 x1 x2 xa0 xa1).take 8) := by
  unfold kernelRun0_D.sl.HS1_8
  refine ⟨piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wF_a a7 a8 a9 x0 x1 x2 (View.readAt (Elt Ideal) scM0_0.view (Rect.unit (s := S8x1024x128) ![7, 0, 0] S1x1024x128.size (by decide)).toLoadRect xa0) (View.readAt (Elt Ideal) scM0_1.view (Rect.unit (s := S8x1024x128) ![7, 0, 0] S1x1024x128.size (by decide)).toLoadRect xa1) h' r l r' (by omega) 896 (by omega) _ _ _ _ _ _ _ _ _ _ _ _ _ _ _ _ _ _ _ _ (fun l => rd_m scM0_0.view xa0 7 0 (by decide) r l h' r' (by omega) (by omega)) (rd_m scM0_1.view xa1 7 0 (by decide) r l h' r' (by omega) (by omega))
  · exact wF_a a7 a8 a9 x0 x1 x2 (View.readAt (Elt Ideal) scM0_0.view (Rect.unit (s := S8x1024x128) ![6, 0, 0] S1x1024x128.size (by decide)).toLoadRect xa0) (View.readAt (Elt Ideal) scM0_1.view (Rect.unit (s := S8x1024x128) ![6, 0, 0] S1x1024x128.size (by decide)).toLoadRect xa1) h' r l r' (by omega) 768 (by omega) _ _ _ _ _ _ _ _ _ _ _ _ _ _ _ _ _ _ _ _ (fun l => rd_m scM0_0.view xa0 6 0 (by decide) r l h' r' (by omega) (by omega)) (rd_m scM0_1.view xa1 6 0 (by decide) r l h' r' (by omega) (by omega))
  · exact wF_a a7 a8 a9 x0 x1 x2 (View.readAt (Elt Ideal) scM0_0.view (Rect.unit (s := S8x1024x128) ![5, 0, 0] S1x1024x128.size (by decide)).toLoadRect xa0) (View.readAt (Elt Ideal) scM0_1.view (Rect.unit (s := S8x1024x128) ![5, 0, 0] S1x1024x128.size (by decide)).toLoadRect xa1) h' r l r' (by omega) 640 (by omega) _ _ _ _ _ _ _ _ _ _ _ _ _ _ _ _ _ _ _ _ (fun l => rd_m scM0_0.view xa0 5 0 (by decide) r l h' r' (by omega) (by omega)) (rd_m scM0_1.view xa1 5 0 (by decide) r l h' r' (by omega) (by omega))
  · exact wF_a a7 a8 a9 x0 x1 x2 (View.readAt (Elt Ideal) scM0_0.view (Rect.unit (s := S8x1024x128) ![4, 0, 0] S1x1024x128.size (by decide)).toLoadRect xa0) (View.readAt (Elt Ideal) scM0_1.view (Rect.unit (s := S8x1024x128) ![4, 0, 0] S1x1024x128.size (by decide)).toLoadRect xa1) h' r l r' (by omega) 512 (by omega) _ _ _ _ _ _ _ _ _ _ _ _ _ _ _ _ _ _ _ _ (fun l => rd_m scM0_0.view xa0 4 0 (by decide) r l h' r' (by omega) (by omega)) (rd_m scM0_1.view xa1 4 0 (by decide) r l h' r' (by omega) (by omega))
  · exact wF_a a7 a8 a9 x0 x1 x2 (View.readAt (Elt Ideal) scM0_0.view (Rect.unit (s := S8x1024x128) ![3, 0, 0] S1x1024x128.size (by decide)).toLoadRect xa0) (View.readAt (Elt Ideal) scM0_1.view (Rect.unit (s := S8x1024x128) ![3, 0, 0] S1x1024x128.size (by decide)).toLoadRect xa1) h' r l r' (by omega) 384 (by omega) _ _ _ _ _ _ _ _ _ _ _ _ _ _ _ _ _ _ _ _ (fun l => rd_m scM0_0.view xa0 3 0 (by decide) r l h' r' (by omega) (by omega)) (rd_m scM0_1.view xa1 3 0 (by decide) r l h' r' (by omega) (by omega))
  · exact wF_a a7 a8 a9 x0 x1 x2 (View.readAt (Elt Ideal) scM0_0.view (Rect.unit (s := S8x1024x128) ![2, 0, 0] S1x1024x128.size (by decide)).toLoadRect xa0) (View.readAt (Elt Ideal) scM0_1.view (Rect.unit (s := S8x1024x128) ![2, 0, 0] S1x1024x128.size (by decide)).toLoadRect xa1) h' r l r' (by omega) 256 (by omega) _ _ _ _ _ _ _ _ _ _ _ _ _ _ _ _ _ _ _ _ (fun l => rd_m scM0_0.view xa0 2 0 (by decide) r l h' r' (by omega) (by omega)) (rd_m scM0_1.view xa1 2 0 (by decide) r l h' r' (by omega) (by omega))
  · exact wF_a a7 a8 a9 x0 x1 x2 (View.readAt (Elt Ideal) scM0_0.view (Rect.unit (s := S8x1024x128) ![1, 0, 0] S1x1024x128.size (by decide)).toLoadRect xa0) (View.readAt (Elt Ideal) scM0_1.view (Rect.unit (s := S8x1024x128) ![1, 0, 0] S1x1024x128.size (by decide)).toLoadRect xa1) h' r l r' (by omega) 128 (by omega) _ _ _ _ _ _ _ _ _ _ _ _ _ _ _ _ _ _ _ _ (fun l => rd_m scM0_0.view xa0 1 0 (by decide) r l h' r' (by omega) (by omega)) (rd_m scM0_1.view xa1 1 0 (by decide) r l h' r' (by omega) (by omega))
  · exact wF_a a7 a8 a9 x0 x1 x2 (View.readAt (Elt Ideal) scM0_0.view (Rect.unit (s := S8x1024x128) ![0, 0, 0] S1x1024x128.size (by decide)).toLoadRect xa0) (View.readAt (Elt Ideal) scM0_1.view (Rect.unit (s := S8x1024x128) ![0, 0, 0] S1x1024x128.size (by decide)).toLoadRect xa1) h' r l r' (by omega) 0 (by omega) _ _ _ _ _ _ _ _ _ _ _ _ _ _ _ _ _ _ _ _ (fun l => rd_m scM0_0.view xa0 0 0 (by decide) r l h' r' (by omega) (by omega)) (rd_m scM0_1.view xa1 0 0 (by decide) r l h' r' (by omega) (by omega))

theorem D_ac (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.canon (Val := Elt Ideal) (kernelRun0_D.sl.HS1_8 c a7 a8 a9 x0 x1 x2 xa0 xa1) = (Ga (scv x0 x1) (fun h l => vcol x2 h l) xa0 xa1) := by
  funext y
  exact canon_take (Ga (scv x0 x1) (fun h l => vcol x2 h l) xa0 xa1) 8 _ (D_ap c a7 a8 a9 x0 x1 x2 xa0 xa1) y (View.cover_of_tiledL (s := S8x1024x128) ((kernelRun0_D.sl.HS1_8 c a7 a8 a9 x0 x1 x2 xa0 xa1).take 8) S1x1024x128.size (by sl_kernel_rfl) y)

set_option maxHeartbeats 4000000 in
theorem D_a (c i a7 h7 a8 h8 a9 h9 a10 h10 T0 T1 T2 T3 T4 x0 x1 x2 xa0 xa1 hc0 hc1 hc2 h4) : (kernelRun0_D c i a7 h7 a8 h8 a9 h9 a10 h10 T0 T1 T2 T3 T4 x0 x1 x2 xa0 xa1 hc0 hc1 hc2 h4).2.1 = (Ga (scv x0 x1) (fun h l => vcol x2 h l) xa0 xa1) := by
  have e : (kernelRun0_D c i a7 h7 a8 h8 a9 h9 a10 h10 T0 T1 T2 T3 T4 x0 x1 x2 xa0 xa1 hc0 hc1 hc2 h4).2.1 = View.canon (Val := Elt Ideal) (kernelRun0_D.sl.HS1_8 c a7 a8 a9 x0 x1 x2 xa0 xa1) := by
    unfold kernelRun0_D
    dsimp only
    exact writes_a _ (fun y => View.cover_of_tiledL (s := S8x1024x128) (kernelRun0_D.sl.HS1_8 c a7 a8 a9 x0 x1 x2 xa0 xa1) S1x1024x128.size (by sl_kernel_rfl) y)
  rw [e, D_ac c a7 a8 a9 x0 x1 x2 xa0 xa1]

end Cert.KernelIdeal.Hand
end
-- ==== Proof.V.C0.lean ====
/- What a diagonal block that is not the first leaves in the running maximum. -/
module

public import proofs.«01_k».proof.Proof.KI.Runs
public import proofs.«01_k».proof.Proof.V.Canon
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

set_option maxHeartbeats 4000000 in
theorem C_mp (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.PiecesOf (Gm (scvD x0 x1) xa0) ((kernelRun0_C.sl.HS0_16 c a7 a8 x0 x1 xa0).take 16) := by
  unfold kernelRun0_C.sl.HS0_16
  refine ⟨piece3 7 512 (by decide) _ _ fun r l h' r' e1 e2 => ?_, piece3 6 512 (by decide) _ _ fun r l h' r' e1 e2 => ?_, piece3 5 512 (by decide) _ _ fun r l h' r' e1 e2 => ?_, piece3 4 512 (by decide) _ _ fun r l h' r' e1 e2 => ?_, piece3 3 512 (by decide) _ _ fun r l h' r' e1 e2 => ?_, piece3 2 512 (by decide) _ _ fun r l h' r' e1 e2 => ?_, piece3 1 512 (by decide) _ _ fun r l h' r' e1 e2 => ?_, piece3 0 512 (by decide) _ _ fun r l h' r' e1 e2 => ?_, piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wH_m a7 a8 x0 x1 (View.readAt (Elt Ideal) scM0_0.view (Rect.unit (s := S8x1024x128) ![7, 512, 0] S1x512x128.size (by decide)).toLoadRect xa0) h' r l r' (by omega) 896 (by omega) _ _ _ _ _ _ _ _ _ _ _ _ (rd_m scM0_0.view xa0 7 512 (by decide) r l h' r' (by omega) (by omega))
  · exact wH_m a7 a8 x0 x1 (View.readAt (Elt Ideal) scM0_0.view (Rect.unit (s := S8x1024x128) ![6, 512, 0] S1x512x128.size (by decide)).toLoadRect xa0) h' r l r' (by omega) 768 (by omega) _ _ _ _ _ _ _ _ _ _ _ _ (rd_m scM0_0.view xa0 6 512 (by decide) r l h' r' (by omega) (by omega))
  · exact wH_m a7 a8 x0 x1 (View.readAt (Elt Ideal) scM0_0.view (Rect.unit (s := S8x1024x128) ![5, 512, 0] S1x512x128.size (by decide)).toLoadRect xa0) h' r l r' (by omega) 640 (by omega) _ _ _ _ _ _ _ _ _ _ _ _ (rd_m scM0_0.view xa0 5 512 (by decide) r l h' r' (by omega) (by omega))
  · exact wH_m a7 a8 x0 x1 (View.readAt (Elt Ideal) scM0_0.view (Rect.unit (s := S8x1024x128) ![4, 512, 0] S1x512x128.size (by decide)).toLoadRect xa0) h' r l r' (by omega) 512 (by omega) _ _ _ _ _ _ _ _ _ _ _ _ (rd_m scM0_0.view xa0 4 512 (by decide) r l h' r' (by omega) (by omega))
  · exact wH_m a7 a8 x0 x1 (View.readAt (Elt Ideal) scM0_0.view (Rect.unit (s := S8x1024x128) ![3, 512, 0] S1x512x128.size (by decide)).toLoadRect xa0) h' r l r' (by omega) 384 (by omega) _ _ _ _ _ _ _ _ _ _ _ _ (rd_m scM0_0.view xa0 3 512 (by decide) r l h' r' (by omega) (by omega))
  · exact wH_m a7 a8 x0 x1 (View.readAt (Elt Ideal) scM0_0.view (Rect.unit (s := S8x1024x128) ![2, 512, 0] S1x512x128.size (by decide)).toLoadRect xa0) h' r l r' (by omega) 256 (by omega) _ _ _ _ _ _ _ _ _ _ _ _ (rd_m scM0_0.view xa0 2 512 (by decide) r l h' r' (by omega) (by omega))
  · exact wH_m a7 a8 x0 x1 (View.readAt (Elt Ideal) scM0_0.view (Rect.unit (s := S8x1024x128) ![1, 512, 0] S1x512x128.size (by decide)).toLoadRect xa0) h' r l r' (by omega) 128 (by omega) _ _ _ _ _ _ _ _ _ _ _ _ (rd_m scM0_0.view xa0 1 512 (by decide) r l h' r' (by omega) (by omega))
  · exact wH_m a7 a8 x0 x1 (View.readAt (Elt Ideal) scM0_0.view (Rect.unit (s := S8x1024x128) ![0, 512, 0] S1x512x128.size (by decide)).toLoadRect xa0) h' r l r' (by omega) 0 (by omega) _ _ _ _ _ _ _ _ _ _ _ _ (rd_m scM0_0.view xa0 0 512 (by decide) r l h' r' (by omega) (by omega))
  · exact wL_m a7 a8 x0 x1 (View.readAt (Elt Ideal) scM0_0.view (Rect.unit (s := S8x1024x128) ![7, 0, 0] S1x512x128.size (by decide)).toLoadRect xa0) h' r l r' (by omega) 896 (by omega) _ _ _ _ _ _ _ _ _ _ _ _ (rd_m scM0_0.view xa0 7 0 (by decide) r l h' r' (by omega) (by omega))
  · exact wL_m a7 a8 x0 x1 (View.readAt (Elt Ideal) scM0_0.view (Rect.unit (s := S8x1024x128) ![6, 0, 0] S1x512x128.size (by decide)).toLoadRect xa0) h' r l r' (by omega) 768 (by omega) _ _ _ _ _ _ _ _ _ _ _ _ (rd_m scM0_0.view xa0 6 0 (by decide) r l h' r' (by omega) (by omega))
  · exact wL_m a7 a8 x0 x1 (View.readAt (Elt Ideal) scM0_0.view (Rect.unit (s := S8x1024x128) ![5, 0, 0] S1x512x128.size (by decide)).toLoadRect xa0) h' r l r' (by omega) 640 (by omega) _ _ _ _ _ _ _ _ _ _ _ _ (rd_m scM0_0.view xa0 5 0 (by decide) r l h' r' (by omega) (by omega))
  · exact wL_m a7 a8 x0 x1 (View.readAt (Elt Ideal) scM0_0.view (Rect.unit (s := S8x1024x128) ![4, 0, 0] S1x512x128.size (by decide)).toLoadRect xa0) h' r l r' (by omega) 512 (by omega) _ _ _ _ _ _ _ _ _ _ _ _ (rd_m scM0_0.view xa0 4 0 (by decide) r l h' r' (by omega) (by omega))
  · exact wL_m a7 a8 x0 x1 (View.readAt (Elt Ideal) scM0_0.view (Rect.unit (s := S8x1024x128) ![3, 0, 0] S1x512x128.size (by decide)).toLoadRect xa0) h' r l r' (by omega) 384 (by omega) _ _ _ _ _ _ _ _ _ _ _ _ (rd_m scM0_0.view xa0 3 0 (by decide) r l h' r' (by omega) (by omega))
  · exact wL_m a7 a8 x0 x1 (View.readAt (Elt Ideal) scM0_0.view (Rect.unit (s := S8x1024x128) ![2, 0, 0] S1x512x128.size (by decide)).toLoadRect xa0) h' r l r' (by omega) 256 (by omega) _ _ _ _ _ _ _ _ _ _ _ _ (rd_m scM0_0.view xa0 2 0 (by decide) r l h' r' (by omega) (by omega))
  · exact wL_m a7 a8 x0 x1 (View.readAt (Elt Ideal) scM0_0.view (Rect.unit (s := S8x1024x128) ![1, 0, 0] S1x512x128.size (by decide)).toLoadRect xa0) h' r l r' (by omega) 128 (by omega) _ _ _ _ _ _ _ _ _ _ _ _ (rd_m scM0_0.view xa0 1 0 (by decide) r l h' r' (by omega) (by omega))
  · exact wL_m a7 a8 x0 x1 (View.readAt (Elt Ideal) scM0_0.view (Rect.unit (s := S8x1024x128) ![0, 0, 0] S1x512x128.size (by decide)).toLoadRect xa0) h' r l r' (by omega) 0 (by omega) _ _ _ _ _ _ _ _ _ _ _ _ (rd_m scM0_0.view xa0 0 0 (by decide) r l h' r' (by omega) (by omega))

theorem C_mc (c : Dev nD) (a7 a8 a9 : Memref sig .tc .vmem S1024x1024 .bf16) (x0 x1 x2 : S1024x1024.Idx → Elt Ideal .bf16) (xa0 : Buf (Elt Ideal) ((c : Thread nD τ).loc cc0_scratch0)) (xa1 : Buf (Elt Ideal) ((c : Thread nD τ).loc cc0_scratch1)) :
    View.canon (Val := Elt Ideal) (kernelRun0_C.sl.HS0_16 c a7 a8 x0 x1 xa0) = (Gm (scvD x0 x1) xa0) := by
  funext y
  exact canon_take (Gm (scvD x0 x1) xa0) 16 _ (C_mp c a7 a8 a9 x0 x1 x2 xa0 xa1) y (View.cover_of_tiledL (s := S8x1024x128) ((kernelRun0_C.sl.HS0_16 c a7 a8 x0 x1 xa0).take 16) S1x512x128.size (by sl_kernel_rfl) y)

set_option maxHeartbeats 4000000 in
theorem C_m (c i a7 h7 a8 h8 a9 h9 a10 h10 T0 T1 T2 T3 T4 x0 x1 x2 xa0 xa1 hc0 hc1 hc2 h4) : (kernelRun0_C c i a7 h7 a8 h8 a9 h9 a10 h10 T0 T1 T2 T3 T4 x0 x1 x2 xa0 xa1 hc0 hc1 hc2 h4).2.1 = (Gm (scvD x0 x1) xa0) := by
  have e : (kernelRun0_C c i a7 h7 a8 h8 a9 h9 a10 h10 T0 T1 T2 T3 T4 x0 x1 x2 xa0 xa1 hc0 hc1 hc2 h4).2.1 = View.canon (Val := Elt Ideal) (kernelRun0_C.sl.HS0_16 c a7 a8 x0 x1 xa0) := by
    unfold kernelRun0_C
    dsimp only
    exact writes_m _ (fun y => View.cover_of_tiledL (s := S8x1024x128) (kernelRun0_C.sl.HS0_16 c a7 a8 x0 x1 xa0) S1x512x128.size (by sl_kernel_rfl) y)
  rw [e, C_mc c a7 a8 a9 x0 x1 x2 xa0 xa1]

end Cert.KernelIdeal.Hand
end
-- ==== Proof.V.B0.lean ====
/- What a query row's first block, not a diagonal one leaves in the running maximum. -/
module

public import proofs.«01_k».proof.Proof.KI.Runs
public import proofs.«01_k».proof.Proof.V.Canon
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

theorem B_v38 (a7 a8 a9 : Memref sig .tc .vmem S1024x1024 .bf16) (x0 x1 x2 : S1024x1024.Idx → Elt Ideal .bf16) (r : Fin 1024) (l : Fin 128) : kernelRun0_B.sl.v38 (ix3 0 r l) = ⊥ := by
  unfold kernelRun0_B.sl.v38 kernelRun0_B.sl.HS0_1
  skip
  refine (congrFun (View.readCov_fill _ _ _ _ _ (by decide)) _).trans ?_
  exact fill_m _

theorem B_v66 (a7 a8 a9 : Memref sig .tc .vmem S1024x1024 .bf16) (x0 x1 x2 : S1024x1024.Idx → Elt Ideal .bf16) (r : Fin 1024) (l : Fin 128) : kernelRun0_B.sl.v66 a7 a8 x0 x1 (ix3 0 r l) = ⊥ := by
  unfold kernelRun0_B.sl.v66 kernelRun0_B.sl.HS0_2 kernelRun0_B.sl.HS0_1
  rw [View.readCov_skip _ _ _ _ _ (by rfl)]
  refine (congrFun (View.readCov_fill _ _ _ _ _ (by decide)) _).trans ?_
  exact fill_m _

theorem B_v94 (a7 a8 a9 : Memref sig .tc .vmem S1024x1024 .bf16) (x0 x1 x2 : S1024x1024.Idx → Elt Ideal .bf16) (r : Fin 1024) (l : Fin 128) : kernelRun0_B.sl.v94 a7 a8 x0 x1 (ix3 0 r l) = ⊥ := by
  unfold kernelRun0_B.sl.v94 kernelRun0_B.sl.HS0_3 kernelRun0_B.sl.HS0_2 kernelRun0_B.sl.HS0_1
  rw [View.readCov_skip _ _ _ _ _ (by rfl), View.readCov_skip _ _ _ _ _ (by rfl)]
  refine (congrFun (View.readCov_fill _ _ _ _ _ (by decide)) _).trans ?_
  exact fill_m _

theorem B_v122 (a7 a8 a9 : Memref sig .tc .vmem S1024x1024 .bf16) (x0 x1 x2 : S1024x1024.Idx → Elt Ideal .bf16) (r : Fin 1024) (l : Fin 128) : kernelRun0_B.sl.v122 a7 a8 x0 x1 (ix3 0 r l) = ⊥ := by
  unfold kernelRun0_B.sl.v122 kernelRun0_B.sl.HS0_4 kernelRun0_B.sl.HS0_3 kernelRun0_B.sl.HS0_2 kernelRun0_B.sl.HS0_1
  rw [View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem B_v150 (a7 a8 a9 : Memref sig .tc .vmem S1024x1024 .bf16) (x0 x1 x2 : S1024x1024.Idx → Elt Ideal .bf16) (r : Fin 1024) (l : Fin 128) : kernelRun0_B.sl.v150 a7 a8 x0 x1 (ix3 0 r l) = ⊥ := by
  unfold kernelRun0_B.sl.v150 kernelRun0_B.sl.HS0_5 kernelRun0_B.sl.HS0_4 kernelRun0_B.sl.HS0_3 kernelRun0_B.sl.HS0_2 kernelRun0_B.sl.HS0_1
  rw [View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem B_v178 (a7 a8 a9 : Memref sig .tc .vmem S1024x1024 .bf16) (x0 x1 x2 : S1024x1024.Idx → Elt Ideal .bf16) (r : Fin 1024) (l : Fin 128) : kernelRun0_B.sl.v178 a7 a8 x0 x1 (ix3 0 r l) = ⊥ := by
  unfold kernelRun0_B.sl.v178 kernelRun0_B.sl.HS0_6 kernelRun0_B.sl.HS0_5 kernelRun0_B.sl.HS0_4 kernelRun0_B.sl.HS0_3 kernelRun0_B.sl.HS0_2 kernelRun0_B.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem B_v206 (a7 a8 a9 : Memref sig .tc .vmem S1024x1024 .bf16) (x0 x1 x2 : S1024x1024.Idx → Elt Ideal .bf16) (r : Fin 1024) (l : Fin 128) : kernelRun0_B.sl.v206 a7 a8 x0 x1 (ix3 0 r l) = ⊥ := by
  unfold kernelRun0_B.sl.v206 kernelRun0_B.sl.HS0_7 kernelRun0_B.sl.HS0_6 kernelRun0_B.sl.HS0_5 kernelRun0_B.sl.HS0_4 kernelRun0_B.sl.HS0_3 kernelRun0_B.sl.HS0_2 kernelRun0_B.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

theorem B_v234 (a7 a8 a9 : Memref sig .tc .vmem S1024x1024 .bf16) (x0 x1 x2 : S1024x1024.Idx → Elt Ideal .bf16) (r : Fin 1024) (l : Fin 128) : kernelRun0_B.sl.v234 a7 a8 x0 x1 (ix3 0 r l) = ⊥ := by
  unfold kernelRun0_B.sl.v234 kernelRun0_B.sl.HS0_8 kernelRun0_B.sl.HS0_7 kernelRun0_B.sl.HS0_6 kernelRun0_B.sl.HS0_5 kernelRun0_B.sl.HS0_4 kernelRun0_B.sl.HS0_3 kernelRun0_B.sl.HS0_2 kernelRun0_B.sl.HS0_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_m _

set_option maxHeartbeats 4000000 in
theorem B_mp (a7 a8 a9 : Memref sig .tc .vmem S1024x1024 .bf16) (x0 x1 x2 : S1024x1024.Idx → Elt Ideal .bf16) :
    View.PiecesOf (Gm (scv x0 x1) (fun _ => ⊥)) ((kernelRun0_B.sl.HS0_9 a7 a8 x0 x1).take 8) := by
  unfold kernelRun0_B.sl.HS0_9 kernelRun0_B.sl.HS0_8 kernelRun0_B.sl.HS0_7 kernelRun0_B.sl.HS0_6 kernelRun0_B.sl.HS0_5 kernelRun0_B.sl.HS0_4 kernelRun0_B.sl.HS0_3 kernelRun0_B.sl.HS0_2 kernelRun0_B.sl.HS0_1
  refine ⟨piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wF_m a7 a8 x0 x1 (kernelRun0_B.sl.v234 a7 a8 x0 x1) h' r l r' (by omega) 896 (by omega) _ _ _ _ _ _ _ _ _ _ (B_v234 a7 a8 a9 x0 x1 x2 r l)
  · exact wF_m a7 a8 x0 x1 (kernelRun0_B.sl.v206 a7 a8 x0 x1) h' r l r' (by omega) 768 (by omega) _ _ _ _ _ _ _ _ _ _ (B_v206 a7 a8 a9 x0 x1 x2 r l)
  · exact wF_m a7 a8 x0 x1 (kernelRun0_B.sl.v178 a7 a8 x0 x1) h' r l r' (by omega) 640 (by omega) _ _ _ _ _ _ _ _ _ _ (B_v178 a7 a8 a9 x0 x1 x2 r l)
  · exact wF_m a7 a8 x0 x1 (kernelRun0_B.sl.v150 a7 a8 x0 x1) h' r l r' (by omega) 512 (by omega) _ _ _ _ _ _ _ _ _ _ (B_v150 a7 a8 a9 x0 x1 x2 r l)
  · exact wF_m a7 a8 x0 x1 (kernelRun0_B.sl.v122 a7 a8 x0 x1) h' r l r' (by omega) 384 (by omega) _ _ _ _ _ _ _ _ _ _ (B_v122 a7 a8 a9 x0 x1 x2 r l)
  · exact wF_m a7 a8 x0 x1 (kernelRun0_B.sl.v94 a7 a8 x0 x1) h' r l r' (by omega) 256 (by omega) _ _ _ _ _ _ _ _ _ _ (B_v94 a7 a8 a9 x0 x1 x2 r l)
  · exact wF_m a7 a8 x0 x1 (kernelRun0_B.sl.v66 a7 a8 x0 x1) h' r l r' (by omega) 128 (by omega) _ _ _ _ _ _ _ _ _ _ (B_v66 a7 a8 a9 x0 x1 x2 r l)
  · exact wF_m a7 a8 x0 x1 (kernelRun0_B.sl.v38) h' r l r' (by omega) 0 (by omega) _ _ _ _ _ _ _ _ _ _ (B_v38 a7 a8 a9 x0 x1 x2 r l)

theorem B_mc (a7 a8 a9 : Memref sig .tc .vmem S1024x1024 .bf16) (x0 x1 x2 : S1024x1024.Idx → Elt Ideal .bf16) :
    View.canon (Val := Elt Ideal) (kernelRun0_B.sl.HS0_9 a7 a8 x0 x1) = (Gm (scv x0 x1) (fun _ => ⊥)) := by
  funext y
  exact canon_take (Gm (scv x0 x1) (fun _ => ⊥)) 8 _ (B_mp a7 a8 a9 x0 x1 x2) y (View.cover_of_tiledL (s := S8x1024x128) ((kernelRun0_B.sl.HS0_9 a7 a8 x0 x1).take 8) S1x1024x128.size (by sl_kernel_rfl) y)

set_option maxHeartbeats 4000000 in
theorem B_m (c i a7 h7 a8 h8 a9 h9 a10 h10 T0 T1 T2 T3 T4 x0 x1 x2 hc0 hc1 hc2 h4) : (kernelRun0_B c i a7 h7 a8 h8 a9 h9 a10 h10 T0 T1 T2 T3 T4 x0 x1 x2 hc0 hc1 hc2 h4).1 = (Gm (scv x0 x1) (fun _ => ⊥)) := by
  have e : (kernelRun0_B c i a7 h7 a8 h8 a9 h9 a10 h10 T0 T1 T2 T3 T4 x0 x1 x2 hc0 hc1 hc2 h4).1 = View.canon (Val := Elt Ideal) (kernelRun0_B.sl.HS0_9 a7 a8 x0 x1) := by
    unfold kernelRun0_B
    dsimp only
    exact writes_m _ (fun y => View.cover_of_tiledL (s := S8x1024x128) (kernelRun0_B.sl.HS0_9 a7 a8 x0 x1) S1x1024x128.size (by sl_kernel_rfl) y)
  rw [e, B_mc a7 a8 a9 x0 x1 x2]

end Cert.KernelIdeal.Hand
end
-- ==== Proof.V.B1.lean ====
/- What a query row's first block, not a diagonal one leaves in the running weighted sum. -/
module

public import proofs.«01_k».proof.Proof.KI.Runs
public import proofs.«01_k».proof.Proof.V.Canon
public import proofs.«01_k».proof.Proof.V.B0
public import Idealize.ShloMosaic.Lib.Pipeline.ReadBack
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.Tactic Idealize.ShloMosaic.TcCoe

theorem B_v49 (a7 a8 a9 : Memref sig .tc .vmem S1024x1024 .bf16) (x0 x1 x2 : S1024x1024.Idx → Elt Ideal .bf16) (r : Fin 1024) (l : Fin 128) : kernelRun0_B.sl.v49 (ix3 0 r l) = 0 := by
  unfold kernelRun0_B.sl.v49 kernelRun0_B.sl.HS1_1
  skip
  refine (congrFun (View.readCov_fill _ _ _ _ _ (by decide)) _).trans ?_
  exact fill_a _

theorem B_v77 (a7 a8 a9 : Memref sig .tc .vmem S1024x1024 .bf16) (x0 x1 x2 : S1024x1024.Idx → Elt Ideal .bf16) (r : Fin 1024) (l : Fin 128) : kernelRun0_B.sl.v77 a7 a8 a9 x0 x1 x2 (ix3 0 r l) = 0 := by
  unfold kernelRun0_B.sl.v77 kernelRun0_B.sl.HS1_2 kernelRun0_B.sl.HS1_1
  rw [View.readCov_skip _ _ _ _ _ (by rfl)]
  refine (congrFun (View.readCov_fill _ _ _ _ _ (by decide)) _).trans ?_
  exact fill_a _

theorem B_v105 (a7 a8 a9 : Memref sig .tc .vmem S1024x1024 .bf16) (x0 x1 x2 : S1024x1024.Idx → Elt Ideal .bf16) (r : Fin 1024) (l : Fin 128) : kernelRun0_B.sl.v105 a7 a8 a9 x0 x1 x2 (ix3 0 r l) = 0 := by
  unfold kernelRun0_B.sl.v105 kernelRun0_B.sl.HS1_3 kernelRun0_B.sl.HS1_2 kernelRun0_B.sl.HS1_1
  rw [View.readCov_skip _ _ _ _ _ (by rfl), View.readCov_skip _ _ _ _ _ (by rfl)]
  refine (congrFun (View.readCov_fill _ _ _ _ _ (by decide)) _).trans ?_
  exact fill_a _

theorem B_v133 (a7 a8 a9 : Memref sig .tc .vmem S1024x1024 .bf16) (x0 x1 x2 : S1024x1024.Idx → Elt Ideal .bf16) (r : Fin 1024) (l : Fin 128) : kernelRun0_B.sl.v133 a7 a8 a9 x0 x1 x2 (ix3 0 r l) = 0 := by
  unfold kernelRun0_B.sl.v133 kernelRun0_B.sl.HS1_4 kernelRun0_B.sl.HS1_3 kernelRun0_B.sl.HS1_2 kernelRun0_B.sl.HS1_1
  rw [View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem B_v161 (a7 a8 a9 : Memref sig .tc .vmem S1024x1024 .bf16) (x0 x1 x2 : S1024x1024.Idx → Elt Ideal .bf16) (r : Fin 1024) (l : Fin 128) : kernelRun0_B.sl.v161 a7 a8 a9 x0 x1 x2 (ix3 0 r l) = 0 := by
  unfold kernelRun0_B.sl.v161 kernelRun0_B.sl.HS1_5 kernelRun0_B.sl.HS1_4 kernelRun0_B.sl.HS1_3 kernelRun0_B.sl.HS1_2 kernelRun0_B.sl.HS1_1
  rw [View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem B_v189 (a7 a8 a9 : Memref sig .tc .vmem S1024x1024 .bf16) (x0 x1 x2 : S1024x1024.Idx → Elt Ideal .bf16) (r : Fin 1024) (l : Fin 128) : kernelRun0_B.sl.v189 a7 a8 a9 x0 x1 x2 (ix3 0 r l) = 0 := by
  unfold kernelRun0_B.sl.v189 kernelRun0_B.sl.HS1_6 kernelRun0_B.sl.HS1_5 kernelRun0_B.sl.HS1_4 kernelRun0_B.sl.HS1_3 kernelRun0_B.sl.HS1_2 kernelRun0_B.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem B_v217 (a7 a8 a9 : Memref sig .tc .vmem S1024x1024 .bf16) (x0 x1 x2 : S1024x1024.Idx → Elt Ideal .bf16) (r : Fin 1024) (l : Fin 128) : kernelRun0_B.sl.v217 a7 a8 a9 x0 x1 x2 (ix3 0 r l) = 0 := by
  unfold kernelRun0_B.sl.v217 kernelRun0_B.sl.HS1_7 kernelRun0_B.sl.HS1_6 kernelRun0_B.sl.HS1_5 kernelRun0_B.sl.HS1_4 kernelRun0_B.sl.HS1_3 kernelRun0_B.sl.HS1_2 kernelRun0_B.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

theorem B_v245 (a7 a8 a9 : Memref sig .tc .vmem S1024x1024 .bf16) (x0 x1 x2 : S1024x1024.Idx → Elt Ideal .bf16) (r : Fin 1024) (l : Fin 128) : kernelRun0_B.sl.v245 a7 a8 a9 x0 x1 x2 (ix3 0 r l) = 0 := by
  unfold kernelRun0_B.sl.v245 kernelRun0_B.sl.HS1_8 kernelRun0_B.sl.HS1_7 kernelRun0_B.sl.HS1_6 kernelRun0_B.sl.HS1_5 kernelRun0_B.sl.HS1_4 kernelRun0_B.sl.HS1_3 kernelRun0_B.sl.HS1_2 kernelRun0_B.sl.HS1_1
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  refine (congrFun (View.readCov_fill _ _ _ _ _ (by decide)) _).trans ?_
  exact fill_a _

set_option maxHeartbeats 4000000 in
theorem B_ap (a7 a8 a9 : Memref sig .tc .vmem S1024x1024 .bf16) (x0 x1 x2 : S1024x1024.Idx → Elt Ideal .bf16) :
    View.PiecesOf (Ga (scv x0 x1) (fun h l => vcol x2 h l) (fun _ => ⊥) (fun _ => 0)) ((kernelRun0_B.sl.HS1_9 a7 a8 a9 x0 x1 x2).take 8) := by
  unfold kernelRun0_B.sl.HS1_9 kernelRun0_B.sl.HS1_8 kernelRun0_B.sl.HS1_7 kernelRun0_B.sl.HS1_6 kernelRun0_B.sl.HS1_5 kernelRun0_B.sl.HS1_4 kernelRun0_B.sl.HS1_3 kernelRun0_B.sl.HS1_2 kernelRun0_B.sl.HS1_1
  refine ⟨piece3 7 0 (by decide) _ _ fun r l h' r' e1 e2 => ?_, piece3 6 0 (by decide) _ _ fun r l h' r' e1 e2 => ?_, piece3 5 0 (by decide) _ _ fun r l h' r' e1 e2 => ?_, piece3 4 0 (by decide) _ _ fun r l h' r' e1 e2 => ?_, piece3 3 0 (by decide) _ _ fun r l h' r' e1 e2 => ?_, piece3 2 0 (by decide) _ _ fun r l h' r' e1 e2 => ?_, piece3 1 0 (by decide) _ _ fun r l h' r' e1 e2 => ?_, piece3 0 0 (by decide) _ _ fun r l h' r' e1 e2 => ?_, trivial⟩
  · exact wF_a a7 a8 a9 x0 x1 x2 (kernelRun0_B.sl.v234 a7 a8 x0 x1) (kernelRun0_B.sl.v245 a7 a8 a9 x0 x1 x2) h' r l r' (by omega) 896 (by omega) _ _ _ _ _ _ _ _ _ _ _ _ _ _ _ _ _ _ _ _ (fun l => B_v234 a7 a8 a9 x0 x1 x2 r l) (B_v245 a7 a8 a9 x0 x1 x2 r l)
  · exact wF_a a7 a8 a9 x0 x1 x2 (kernelRun0_B.sl.v206 a7 a8 x0 x1) (kernelRun0_B.sl.v217 a7 a8 a9 x0 x1 x2) h' r l r' (by omega) 768 (by omega) _ _ _ _ _ _ _ _ _ _ _ _ _ _ _ _ _ _ _ _ (fun l => B_v206 a7 a8 a9 x0 x1 x2 r l) (B_v217 a7 a8 a9 x0 x1 x2 r l)
  · exact wF_a a7 a8 a9 x0 x1 x2 (kernelRun0_B.sl.v178 a7 a8 x0 x1) (kernelRun0_B.sl.v189 a7 a8 a9 x0 x1 x2) h' r l r' (by omega) 640 (by omega) _ _ _ _ _ _ _ _ _ _ _ _ _ _ _ _ _ _ _ _ (fun l => B_v178 a7 a8 a9 x0 x1 x2 r l) (B_v189 a7 a8 a9 x0 x1 x2 r l)
  · exact wF_a a7 a8 a9 x0 x1 x2 (kernelRun0_B.sl.v150 a7 a8 x0 x1) (kernelRun0_B.sl.v161 a7 a8 a9 x0 x1 x2) h' r l r' (by omega) 512 (by omega) _ _ _ _ _ _ _ _ _ _ _ _ _ _ _ _ _ _ _ _ (fun l => B_v150 a7 a8 a9 x0 x1 x2 r l) (B_v161 a7 a8 a9 x0 x1 x2 r l)
  · exact wF_a a7 a8 a9 x0 x1 x2 (kernelRun0_B.sl.v122 a7 a8 x0 x1) (kernelRun0_B.sl.v133 a7 a8 a9 x0 x1 x2) h' r l r' (by omega) 384 (by omega) _ _ _ _ _ _ _ _ _ _ _ _ _ _ _ _ _ _ _ _ (fun l => B_v122 a7 a8 a9 x0 x1 x2 r l) (B_v133 a7 a8 a9 x0 x1 x2 r l)
  · exact wF_a a7 a8 a9 x0 x1 x2 (kernelRun0_B.sl.v94 a7 a8 x0 x1) (kernelRun0_B.sl.v105 a7 a8 a9 x0 x1 x2) h' r l r' (by omega) 256 (by omega) _ _ _ _ _ _ _ _ _ _ _ _ _ _ _ _ _ _ _ _ (fun l => B_v94 a7 a8 a9 x0 x1 x2 r l) (B_v105 a7 a8 a9 x0 x1 x2 r l)
  · exact wF_a a7 a8 a9 x0 x1 x2 (kernelRun0_B.sl.v66 a7 a8 x0 x1) (kernelRun0_B.sl.v77 a7 a8 a9 x0 x1 x2) h' r l r' (by omega) 128 (by omega) _ _ _ _ _ _ _ _ _ _ _ _ _ _ _ _ _ _ _ _ (fun l => B_v66 a7 a8 a9 x0 x1 x2 r l) (B_v77 a7 a8 a9 x0 x1 x2 r l)
  · exact wF_a a7 a8 a9 x0 x1 x2 (kernelRun0_B.sl.v38) (kernelRun0_B.sl.v49) h' r l r' (by omega) 0 (by omega) _ _ _ _ _ _ _ _ _ _ _ _ _ _ _ _ _ _ _ _ (fun l => B_v38 a7 a8 a9 x0 x1 x2 r l) (B_v49 a7 a8 a9 x0 x1 x2 r l)

theorem B_ac (a7 a8 a9 : Memref sig .tc .vmem S1024x1024 .bf16) (x0 x1 x2 : S1024x1024.Idx → Elt Ideal .bf16) :
    View.canon (Val := Elt Ideal) (kernelRun0_B.sl.HS1_9 a7 a8 a9 x0 x1 x2) = (Ga (scv x0 x1) (fun h l => vcol x2 h l) (fun _ => ⊥) (fun _ => 0)) := by
  funext y
  exact canon_take (Ga (scv x0 x1) (fun h l => vcol x2 h l) (fun _ => ⊥) (fun _ => 0)) 8 _ (B_ap a7 a8 a9 x0 x1 x2) y (View.cover_of_tiledL (s := S8x1024x128) ((kernelRun0_B.sl.HS1_9 a7 a8 a9 x0 x1 x2).take 8) S1x1024x128.size (by sl_kernel_rfl) y)

set_option maxHeartbeats 4000000 in
theorem B_a (c i a7 h7 a8 h8 a9 h9 a10 h10 T0 T1 T2 T3 T4 x0 x1 x2 hc0 hc1 hc2 h4) : (kernelRun0_B c i a7 h7 a8 h8 a9 h9 a10 h10 T0 T1 T2 T3 T4 x0 x1 x2 hc0 hc1 hc2 h4).2.1 = (Ga (scv x0 x1) (fun h l => vcol x2 h l) (fun _ => ⊥) (fun _ => 0)) := by
  have e : (kernelRun0_B c i a7 h7 a8 h8 a9 h9 a10 h10 T0 T1 T2 T3 T4 x0 x1 x2 hc0 hc1 hc2 h4).2.1 = View.canon (Val := Elt Ideal) (kernelRun0_B.sl.HS1_9 a7 a8 a9 x0 x1 x2) := by
    unfold kernelRun0_B
    dsimp only
    exact writes_a _ (fun y => View.cover_of_tiledL (s := S8x1024x128) (kernelRun0_B.sl.HS1_9 a7 a8 a9 x0 x1 x2) S1x1024x128.size (by sl_kernel_rfl) y)
  rw [e, B_ac a7 a8 a9 x0 x1 x2]

end Cert.KernelIdeal.Hand
end
-- ==== Proof.V.Inv.lean ====
/- What the running maximum and the running weighted sum hold after each point: the maximum and the weighted sum of all keys seen. -/
module

public import proofs.«01_k».proof.Proof.V.Blk
public import proofs.«01_k».proof.Proof.V.Soft
public import proofs.«01_k».proof.Proof.V.Out
public import proofs.«01_k».proof.Proof.V.D0
public import proofs.«01_k».proof.Proof.V.D1
public import proofs.«01_k».proof.Proof.V.C0
public import proofs.«01_k».proof.Proof.V.B1
public import proofs.«01_k».proof.Proof.KI.Frame
public import Idealize.ShloMosaic.Lib.Pipeline.ValueKit.Geometry
public import proofs.«01_k».proof.Proof.V.Rd

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

variable (m : (ℓ : Loc nD τ sig) → Buf (Elt Ideal) ℓ) (ρ : Dev nD → PrngReg)

/-- The score of query `i` with key `j` in head `h`; minus infinity for a later key. -/
def Sq (c : Dev nD) (h : Fin 8) (i : Fin 16384) (j : ℕ) : EReal :=
  if hj : j ≤ i.val then ∑ d : Fin 128, (show EReal from m ((c : Thread nD τ).loc main_v8) (ix2 i (hcol h d))) * (show EReal from m ((c : Thread nD τ).loc main_v12) (ix2 (⟨j, Nat.lt_of_le_of_lt hj i.isLt⟩ : Fin 16384) (hcol h d))) else ⊥

/-- The value of key `j` at lane `l` of head `h`, with the column of ones at lane 64. -/
def Vq (c : Dev nD) (h : Fin 8) (l : Fin 128) (j : ℕ) : EReal :=
  if hj : j < 16384 then (show EReal from m ((c : Thread nD τ).loc main_v16) (ix2 (⟨j, hj⟩ : Fin 16384) (hcol h l))) + (if l.val = 64 then 1 else 0) else 0

/-- One block of keys. -/
theorem step_val (s v : ℕ → EReal) (hs : ∀ j, s j ≠ ⊤) (h0 : s 0 ≠ ⊥) (n : ℕ) (S W : Fin 1024 → EReal) (hS : ∀ j, S j = s (n + j.val)) (hW : ∀ j, W j = v (n + j.val))
    (mm : Fin 128 → EReal) (hm : ∀ l, mm l = Mx s n) (l : Fin 128) (a : EReal) (ha : a = Ac s v n) :
    mUp S (mm l) = Mx s (n + 1024) ∧ aUp S mm l a W = Ac s v (n + 1024) := by
  obtain rfl : S = fun j => s (n + j.val) := funext hS
  obtain rfl : W = fun j => v (n + j.val) := funext hW
  have e : ∀ l, mUp (fun j => s (n + j.val)) (mm l) = Mx s (n + 1024) := fun l => by
    unfold mUp; rw [hm, Mx_add]
  refine ⟨e l, ?_⟩
  unfold aUp
  simp only [e]
  rw [hm, ha, Ac_add s v hs h0 n 1024 (by norm_num)]

theorem scv_eq (c : Dev nD) (t : Fin (cfgA 0).N) (hk : kjT t < qiT t) (h : Fin 8) (r j : Fin 1024) :
    scv (iblk 0 m ρ c (0 : Fin 4) t) (iblk 0 m ρ c (1 : Fin 4) t) h r j = Sq m c h (row (qiT t) (grid_at t).1.1 r) (1024 * kjT t + j.val) := by
  have hj : 1024 * kjT t + j.val ≤ (row (qiT t) (grid_at t).1.1 r).val := by
    show 1024 * kjT t + j.val ≤ 1024 * qiT t + r.val
    have := j.isLt; omega
  unfold scv Sq
  rw [dif_pos hj]
  refine Finset.sum_congr rfl fun d _ => ?_
  exact congrArg₂ (fun a b : EReal => a * b) (blk_0 m ρ c t r (hcol h d)) (blk_1 m ρ c t j (hcol h d))

theorem scvD_eq (c : Dev nD) (t : Fin (cfgA 0).N) (hk : kjT t = qiT t) (h : Fin 8) (r j : Fin 1024) :
    scvD (iblk 0 m ρ c (0 : Fin 4) t) (iblk 0 m ρ c (1 : Fin 4) t) h r j = Sq m c h (row (qiT t) (grid_at t).1.1 r) (1024 * kjT t + j.val) := by
  unfold scvD
  by_cases hj : j.val ≤ r.val
  · rw [if_pos hj]
    have hj : 1024 * kjT t + j.val ≤ (row (qiT t) (grid_at t).1.1 r).val := by
      show 1024 * kjT t + j.val ≤ 1024 * qiT t + r.val
      omega
    unfold scv Sq
    rw [dif_pos hj]
    refine Finset.sum_congr rfl fun d _ => ?_
    exact congrArg₂ (fun a b : EReal => a * b) (blk_0 m ρ c t r (hcol h d)) (blk_1 m ρ c t j (hcol h d))
  · rw [if_neg hj]
    unfold Sq
    rw [dif_neg]
    show ¬ 1024 * kjT t + j.val ≤ 1024 * qiT t + r.val
    omega

theorem vcol_eq (c : Dev nD) (t : Fin (cfgA 0).N) (h : Fin 8) (l : Fin 128) (j : Fin 1024) :
    vcol (iblk 0 m ρ c (2 : Fin 4) t) h l j = Vq m c h l (1024 * kjT t + j.val) := by
  have hj : 1024 * kjT t + j.val < 16384 := by have := kj_lt t; have := j.isLt; omega
  unfold vcol Vq
  rw [dif_pos hj]
  exact congrArg (fun a : EReal => a + (if l.val = 64 then 1 else 0)) (blk_2 m ρ c t j (hcol h l))

/-- What the scratches hold after point `t`. -/
def InvAt (c : Dev nD) (t : Fin (cfgA 0).N) (X : Buf (Elt Ideal) ((c : Thread nD τ).loc cc0_scratch0)) (Y : Buf (Elt Ideal) ((c : Thread nD τ).loc cc0_scratch1)) : Prop :=
  ∀ (h : Fin 8) (r : Fin 1024) (l : Fin 128),
    (show EReal from X (ix3 h r l)) = Mx (Sq m c h (row (qiT t) (grid_at t).1.1 r)) (1024 * (kjT t + 1))
    ∧ (show EReal from Y (ix3 h r l)) = Ac (Sq m c h (row (qiT t) (grid_at t).1.1 r)) (Vq m c h l) (1024 * (kjT t + 1))

theorem inv_of_eq (c : Dev nD) (t : Fin (cfgA 0).N) {Z : (S1024x512.Idx → Elt Ideal .bf16) × Buf (Elt Ideal) ((c : Thread nD τ).loc cc0_scratch0) × Buf (Elt Ideal) ((c : Thread nD τ).loc cc0_scratch1)} {o : S1024x512.Idx → Elt Ideal .bf16}
    {X : Buf (Elt Ideal) ((c : Thread nD τ).loc cc0_scratch0)} {Y : Buf (Elt Ideal) ((c : Thread nD τ).loc cc0_scratch1)} {X' : Buf (Elt Ideal) ((c : Thread nD τ).loc cc0_scratch0)} {Y' : Buf (Elt Ideal) ((c : Thread nD τ).loc cc0_scratch1)}
    (e : Z = (o, X, Y)) (hX : X = X') (hY : Y = Y') (h : InvAt m c t X' Y') : InvAt m c t Z.2.1 Z.2.2 := by
  subst e hX hY; exact h

theorem out_of_eq (c : Dev nD) {Z : (S1024x512.Idx → Elt Ideal .bf16) × Buf (Elt Ideal) ((c : Thread nD τ).loc cc0_scratch0) × Buf (Elt Ideal) ((c : Thread nD τ).loc cc0_scratch1)} {o : S1024x512.Idx → Elt Ideal .bf16}
    {X : Buf (Elt Ideal) ((c : Thread nD τ).loc cc0_scratch0)} {Y : Buf (Elt Ideal) ((c : Thread nD τ).loc cc0_scratch1)} {Y' : S8x1024x128.Idx → EReal}
    (e : Z = (o, X, Y)) (h : o = Go Y') (hY : Y = Y') : Z.1 = Go Z.2.2 := by
  subst e h hY; rfl

/-- One point, from a state that has seen the earlier blocks. -/
theorem inv_step (c : Dev nD) (hs : ∀ h i j, Sq m c h i j ≠ ⊤) (h0 : ∀ h i, Sq m c h i 0 ≠ ⊥) (t : Fin (cfgA 0).N)
    (S : Fin 8 → Fin 1024 → Fin 1024 → EReal) (hS : ∀ h r j, S h r j = Sq m c h (row (qiT t) (grid_at t).1.1 r) (1024 * kjT t + j.val))
    (M A : S8x1024x128.Idx → EReal)
    (hM : ∀ h r l, M (ix3 h r l) = Mx (Sq m c h (row (qiT t) (grid_at t).1.1 r)) (1024 * kjT t))
    (hA : ∀ h r l, A (ix3 h r l) = Ac (Sq m c h (row (qiT t) (grid_at t).1.1 r)) (Vq m c h l) (1024 * kjT t)) :
    InvAt m c t (Gm S M) (Ga S (fun h l => vcol (iblk 0 m ρ c (2 : Fin 4) t) h l) M A) := by
  intro h r l
  have := step_val (Sq m c h (row (qiT t) (grid_at t).1.1 r)) (Vq m c h l) (hs h _) (h0 h _) (1024 * kjT t) (S h r) (vcol (iblk 0 m ρ c (2 : Fin 4) t) h l)
    (hS h r) (vcol_eq m ρ c t h l) (fun l => M (ix3 h r l)) (hM h r) l (A (ix3 h r l)) (hA h r l)
  exact this

theorem inv_0 (c : Dev nD) (t : Fin (cfgA 0).N) (hk : kjT t = 0) (h : Fin 8) (r : Fin 1024) (l : Fin 128) :
    (⊥ : EReal) = Mx (Sq m c h (row (qiT t) (grid_at t).1.1 r)) (1024 * kjT t) ∧ (0 : EReal) = Ac (Sq m c h (row (qiT t) (grid_at t).1.1 r)) (Vq m c h l) (1024 * kjT t) := by
  have e : 1024 * kjT t = 0 := by rw [hk]
  rw [e]; exact ⟨(Mx_zero _).symm, (Ac_zero _ _).symm⟩

theorem inv_prev (c : Dev nD) (t : Fin (cfgA 0).N) (hk : kjT t ≠ 0)
    (ih : ∀ t' : Fin (cfgA 0).N, t'.val < t.val → InvAt m c t' (traj0 0 m ρ c t'.val t'.isLt).2.1 (traj0 0 m ρ c t'.val t'.isLt).2.2) (h : Fin 8) (r : Fin 1024) (l : Fin 128) :
    (show EReal from (prev0 0 m ρ c t).2.1 (ix3 h r l)) = Mx (Sq m c h (row (qiT t) (grid_at t).1.1 r)) (1024 * kjT t)
    ∧ (show EReal from (prev0 0 m ρ c t).2.2 (ix3 h r l)) = Ac (Sq m c h (row (qiT t) (grid_at t).1.1 r)) (Vq m c h l) (1024 * kjT t) := by
  obtain ⟨ht, eq, ek⟩ := (grid_at t).2.2.2.2.2.2.1.resolve_left hk
  have := ih ⟨t.val - 1, Nat.lt_of_le_of_lt (Nat.sub_le _ _) t.isLt⟩ (by show t.val - 1 < t.val; omega) h r l
  have er : row (qiT ⟨t.val - 1, Nat.lt_of_le_of_lt (Nat.sub_le _ _) t.isLt⟩) (grid_at _).1.1 r = row (qiT t) (grid_at t).1.1 r :=
    Fin.ext (by show 1024 * _ + r.val = 1024 * _ + r.val; rw [eq])
  have en : 1024 * (kjT ⟨t.val - 1, Nat.lt_of_le_of_lt (Nat.sub_le _ _) t.isLt⟩ + 1) = 1024 * kjT t := by rw [ek]
  rw [er, en] at this
  unfold prev0
  rw [dif_neg (by omega)]
  exact this

theorem inv_A (c : Dev nD) (hs : ∀ h i j, Sq m c h i j ≠ ⊤) (h0 : ∀ h i, Sq m c h i 0 ≠ ⊥) (t : Fin (cfgA 0).N) (q0 : P0_0 0 t) (q1 : ¬P0_1 0 t) :
    InvAt m c t (traj0 0 m ρ c t.val t.isLt).2.1 (traj0 0 m ρ c t.val t.isLt).2.2 := by
  rw [traj0_eq]
  refine inv_of_eq m c t (step0_A 0 m ρ c t _ q0 q1) (A_m _ _ _ _ _ _ _ _ _ _ _ _ _ _ _ _ _ _ _ _ _ _) (A_a _ _ _ _ _ _ _ _ _ _ _ _ _ _ _ _ _ _ _ _ _ _) ?_
  exact inv_step m ρ c hs h0 t _ (scvD_eq m ρ c t (not_not.mp (fun hne => q1 ((grid_at t).2.2.2.2.2.1.mpr hne)))) (fun _ => ⊥) (fun _ => 0) (fun h r l => (inv_0 m c t ((grid_at t).2.2.2.2.1.mp q0) h r l).1) (fun h r l => (inv_0 m c t ((grid_at t).2.2.2.2.1.mp q0) h r l).2)

theorem inv_B (c : Dev nD) (hs : ∀ h i j, Sq m c h i j ≠ ⊤) (h0 : ∀ h i, Sq m c h i 0 ≠ ⊥) (t : Fin (cfgA 0).N) (q0 : P0_0 0 t) (q1 : P0_1 0 t) :
    InvAt m c t (traj0 0 m ρ c t.val t.isLt).2.1 (traj0 0 m ρ c t.val t.isLt).2.2 := by
  rw [traj0_eq]
  refine inv_of_eq m c t (step0_B 0 m ρ c t _ q0 q1) (B_m _ _ _ _ _ _ _ _ _ _ _ _ _ _ _ _ _ _ _ _ _ _) (B_a _ _ _ _ _ _ _ _ _ _ _ _ _ _ _ _ _ _ _ _ _ _) ?_
  exact inv_step m ρ c hs h0 t _ (scv_eq m ρ c t (Nat.lt_of_le_of_ne (grid_at t).1.2 ((grid_at t).2.2.2.2.2.1.mp q1))) (fun _ => ⊥) (fun _ => 0) (fun h r l => (inv_0 m c t ((grid_at t).2.2.2.2.1.mp q0) h r l).1) (fun h r l => (inv_0 m c t ((grid_at t).2.2.2.2.1.mp q0) h r l).2)

theorem inv_C (c : Dev nD) (hs : ∀ h i j, Sq m c h i j ≠ ⊤) (h0 : ∀ h i, Sq m c h i 0 ≠ ⊥) (t : Fin (cfgA 0).N) (q0 : ¬P0_0 0 t) (q1 : ¬P0_1 0 t)
    (ih : ∀ t' : Fin (cfgA 0).N, t'.val < t.val → InvAt m c t' (traj0 0 m ρ c t'.val t'.isLt).2.1 (traj0 0 m ρ c t'.val t'.isLt).2.2) :
    InvAt m c t (traj0 0 m ρ c t.val t.isLt).2.1 (traj0 0 m ρ c t.val t.isLt).2.2 := by
  rw [traj0_eq]
  refine inv_of_eq m c t (step0_C 0 m ρ c t _ q0 q1) (C_m _ _ _ _ _ _ _ _ _ _ _ _ _ _ _ _ _ _ _ _ _ _ _ _) (C_a _ _ _ _ _ _ _ _ _ _ _ _ _ _ _ _ _ _ _ _ _ _ _ _) ?_
  exact inv_step m ρ c hs h0 t _ (scvD_eq m ρ c t (not_not.mp (fun hne => q1 ((grid_at t).2.2.2.2.2.1.mpr hne)))) (prev0 0 m ρ c t).2.1 (prev0 0 m ρ c t).2.2 (fun h r l => (inv_prev m ρ c t (fun h => q0 ((grid_at t).2.2.2.2.1.mpr h)) ih h r l).1) (fun h r l => (inv_prev m ρ c t (fun h => q0 ((grid_at t).2.2.2.2.1.mpr h)) ih h r l).2)

theorem inv_D (c : Dev nD) (hs : ∀ h i j, Sq m c h i j ≠ ⊤) (h0 : ∀ h i, Sq m c h i 0 ≠ ⊥) (t : Fin (cfgA 0).N) (q0 : ¬P0_0 0 t) (q1 : P0_1 0 t)
    (ih : ∀ t' : Fin (cfgA 0).N, t'.val < t.val → InvAt m c t' (traj0 0 m ρ c t'.val t'.isLt).2.1 (traj0 0 m ρ c t'.val t'.isLt).2.2) :
    InvAt m c t (traj0 0 m ρ c t.val t.isLt).2.1 (traj0 0 m ρ c t.val t.isLt).2.2 := by
  rw [traj0_eq]
  refine inv_of_eq m c t (step0_D 0 m ρ c t _ q0 q1) (D_m _ _ _ _ _ _ _ _ _ _ _ _ _ _ _ _ _ _ _ _ _ _ _ _) (D_a _ _ _ _ _ _ _ _ _ _ _ _ _ _ _ _ _ _ _ _ _ _ _ _) ?_
  exact inv_step m ρ c hs h0 t _ (scv_eq m ρ c t (Nat.lt_of_le_of_ne (grid_at t).1.2 ((grid_at t).2.2.2.2.2.1.mp q1))) (prev0 0 m ρ c t).2.1 (prev0 0 m ρ c t).2.2 (fun h r l => (inv_prev m ρ c t (fun h => q0 ((grid_at t).2.2.2.2.1.mpr h)) ih h r l).1) (fun h r l => (inv_prev m ρ c t (fun h => q0 ((grid_at t).2.2.2.2.1.mpr h)) ih h r l).2)

theorem inv (c : Dev nD) (hs : ∀ h i j, Sq m c h i j ≠ ⊤) (h0 : ∀ h i, Sq m c h i 0 ≠ ⊥) : ∀ (n : ℕ) (t : Fin (cfgA 0).N), t.val = n →
    InvAt m c t (traj0 0 m ρ c t.val t.isLt).2.1 (traj0 0 m ρ c t.val t.isLt).2.2 := by
  intro n
  induction n using Nat.strong_induction_on with
  | _ n ihn =>
    intro t e
    have ih : ∀ t' : Fin (cfgA 0).N, t'.val < t.val → InvAt m c t' (traj0 0 m ρ c t'.val t'.isLt).2.1 (traj0 0 m ρ c t'.val t'.isLt).2.2 := fun t' h => ihn t'.val (e ▸ h) t' rfl
    by_cases q0 : P0_0 0 t
    · by_cases q1 : P0_1 0 t
      · exact inv_B m ρ c hs h0 t q0 q1
      · exact inv_A m ρ c hs h0 t q0 q1
    · by_cases q1 : P0_1 0 t
      · exact inv_D m ρ c hs h0 t q0 q1 ih
      · exact inv_C m ρ c hs h0 t q0 q1 ih

/-- At a diagonal point the block of the result is the quotient of what the running sum then holds. -/
theorem out_point (c : Dev nD) (t : Fin (cfgA 0).N) (q1 : ¬P0_1 0 t) :
    (traj0 0 m ρ c t.val t.isLt).1 = Go (traj0 0 m ρ c t.val t.isLt).2.2 := by
  by_cases q0 : P0_0 0 t
  · rw [traj0_eq]
    exact out_of_eq c (step0_A 0 m ρ c t _ q0 q1) (A_o _ _ _ _ _ _ _ _ _ _ _ _ _ _ _ _ _ _ _ _ _ _) (A_a _ _ _ _ _ _ _ _ _ _ _ _ _ _ _ _ _ _ _ _ _ _)
  · rw [traj0_eq]
    exact out_of_eq c (step0_C 0 m ρ c t _ q0 q1) (C_o _ _ _ _ _ _ _ _ _ _ _ _ _ _ _ _ _ _ _ _ _ _ _ _) (C_a _ _ _ _ _ _ _ _ _ _ _ _ _ _ _ _ _ _ _ _ _ _ _ _)

/-- The result array. -/
def Gres (c : Dev nD) : S16384x512.Idx → EReal := fun y =>
  Ac (Sq m c (⟨(y 1).val / 64, Nat.div_lt_of_lt_mul (y 1).isLt⟩ : Fin 8) (y 0 : Fin 16384)) (Vq m c (⟨(y 1).val / 64, Nat.div_lt_of_lt_mul (y 1).isLt⟩ : Fin 8) (⟨(y 1).val % 64, by omega⟩ : Fin 128)) (1024 * ((y 0).val / 1024 + 1))
    * Ideal.div 1 (Ac (Sq m c (⟨(y 1).val / 64, Nat.div_lt_of_lt_mul (y 1).isLt⟩ : Fin 8) (y 0 : Fin 16384)) (Vq m c (⟨(y 1).val / 64, Nat.div_lt_of_lt_mul (y 1).isLt⟩ : Fin 8) (64 : Fin 128)) (1024 * ((y 0).val / 1024 + 1)))

theorem out_arr (c : Dev nD) (hs : ∀ h i j, Sq m c h i j ≠ ⊤) (h0 : ∀ h i, Sq m c h i 0 ≠ ⊥) :
    (dats 0 m ρ 0 c).arrAt (3 : Fin 4) (cfgA 0).N = Gres m c := by
  refine (dats 0 m ρ 0 c).arrAt_eq_of_covers (3 : Fin 4) (Gres m c) out_covers fun t hf y => ?_
  obtain ⟨r, l, rfl⟩ : ∃ (r : Fin 1024) (l : Fin 512), y = ix2 r l := ⟨y 0, y 1, eq_ix2 y⟩
  have hk : kjT t = qiT t := (grid_at t).2.2.2.2.2.2.2 hf
  have q1 : ¬P0_1 0 t := fun h => (grid_at t).2.2.2.2.2.1.mp h hk
  rw [out_emb t r l]
  show (traj0 0 m ρ c t.val t.isLt).1 (ix2 r l) = _
  rw [out_point m ρ c t q1]
  have I := inv m ρ c hs h0 t.val t rfl (⟨l.val / 64, Nat.div_lt_of_lt_mul l.isLt⟩ : Fin 8) r
  have e : (row (qiT t) (grid_at t).1.1 r).val / 1024 = kjT t := by
    show (1024 * qiT t + r.val) / 1024 = kjT t
    have := r.isLt; omega
  show _ = Ac (Sq m c (⟨l.val / 64, _⟩ : Fin 8) (row (qiT t) (grid_at t).1.1 r)) (Vq m c (⟨l.val / 64, _⟩ : Fin 8) (⟨l.val % 64, _⟩ : Fin 128)) (1024 * ((row (qiT t) (grid_at t).1.1 r).val / 1024 + 1))
    * Ideal.div 1 (Ac (Sq m c (⟨l.val / 64, _⟩ : Fin 8) (row (qiT t) (grid_at t).1.1 r)) (Vq m c (⟨l.val / 64, _⟩ : Fin 8) (64 : Fin 128)) (1024 * ((row (qiT t) (grid_at t).1.1 r).val / 1024 + 1)))
  rw [e]
  exact congrArg₂ (fun a b : EReal => a * Ideal.div 1 b) (I (⟨l.val % 64, by omega⟩ : Fin 128)).2 (I (64 : Fin 128)).2

end Cert.KernelIdeal.Hand

end
-- ==== Proof.V.Host.lean ====
/- What the host writes into the three arrays the kernel reads, entry by entry: the scaled queries, the keys and the values, each head in 128 lanes with zeros behind. -/
module

public import proofs.«01_k».proof.Proof.KI.Frame
public import proofs.«01_k».proof.Proof.V.Rd
public import Idealize.ShloMosaic.Lib.KernelVsHost

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic

/-- An array of 8 heads of `n` entries, padded to 128 lanes a head and laid out in rows of 1024: lane `d` of head `h`. -/
theorem slots {n p : ℕ} {α : Type} (x : (⟨4, ![1, 16384, 8, n]⟩ : Shape).Idx → α) (z : S_.Idx → α)
    (h1 : (⟨4, ![1, 16384, 8, n]⟩ : Shape).ShapeCasts (⟨3, ![16384, 8, n]⟩ : Shape))
    (h2 : (⟨3, ![16384, 8, n]⟩ : Shape).Pads ![0, 0, 0] ![0, 0, p] ![0, 0, 0] S16384x8x128) (h3 : 0 < S_.numel)
    (h4 : S16384x8x128.ShapeCasts S16384x1024) (i : Fin 16384) (h : Fin 8) (d : Fin 128) :
    shapeCast S16384x1024 (pad S16384x8x128 ![0, 0, 0] ![0, 0, p] ![0, 0, 0] (shapeCast (⟨3, ![16384, 8, n]⟩ : Shape) x h1) z h2 h3) h4 (ix2 i (hcol h d))
      = if hd : d.val < n then x (ix4 (0 : Fin 1) i h (⟨d.val, hd⟩ : Fin n)) else z (Shape.Idx.first h3) := by
  rw [shapeCast_apply _ h4 (ix2 i (hcol h d)) (ix3 i h d) (by
    rewrite [Shape.rowMajor_val_three, Shape.rowMajor_val_two]
    show (i.val * 8 + h.val) * 128 + d.val = i.val * 1024 + (h.val * 128 + d.val)
    omega)]
  split
  · rename_i hd
    rw [pad_apply_of_inside _ _ _ _ z h2 h3 (ix3 i h d) (ix3 i h (⟨d.val, hd⟩ : Fin n)) (fun a => by
      match a with
      | ⟨0, _⟩ => show i.val = 0 + i.val * (0 + 1); omega
      | ⟨1, _⟩ => show h.val = 0 + h.val * (0 + 1); omega
      | ⟨2, _⟩ => show d.val = 0 + d.val * (0 + 1); omega)]
    exact shapeCast_apply x h1 (ix3 i h (⟨d.val, hd⟩ : Fin n)) (ix4 (0 : Fin 1) i h (⟨d.val, hd⟩ : Fin n)) (by
      rewrite [Shape.rowMajor_val_four, Shape.rowMajor_val_three]
      show ((0 * 16384 + i.val) * 8 + h.val) * n + d.val = (i.val * 8 + h.val) * n + d.val
      rw [Nat.zero_mul, Nat.zero_add])
  · rename_i hd
    exact pad_apply_of_not_inside _ _ _ _ z h2 h3 (ix3 i h d) (2 : Fin 3) (fun hin => hd (by
      have := hin.2.2
      change (d.val - 0) / (0 + 1) < n at this
      simpa using this))

/-- The factor the problem scales the queries by, as the number its 32-bit word denotes. -/
def cS : EReal := Ideal.ofBits .f32 0x3DD105EC#32

theorem zero_bf : Ideal.ofBits .bf16 0x0000#16 = 0 := by simp [Ideal.ofBits, Ideal.ieee]

variable (m : (ℓ : Loc nD τ sig) → Buf (Elt Ideal) ℓ) (c : Dev nD)

/-- The three arguments. -/
def aQ : S1x16384x8x96.Idx → EReal := m ((c : Thread nD τ).loc main_arg0)
def aK : S1x16384x8x96.Idx → EReal := m ((c : Thread nD τ).loc main_arg1)
def aV : S1x16384x8x64.Idx → EReal := m ((c : Thread nD τ).loc main_arg2)

set_option maxHeartbeats 2000000 in
theorem mE_v8 (i : Fin 16384) (h : Fin 8) (d : Fin 128) : (show EReal from mE m ((c : Thread nD τ).loc main_v8) (ix2 i (hcol h d)))
    = if hd : d.val < 96 then Ideal.div (aQ m c (ix4 (0 : Fin 1) i h (⟨d.val, hd⟩ : Fin 96)) * cS) (Ideal.log (Ideal.ofBits .f32 0x40000000#32)) else 0 := by
  have e : mE m ((c : Thread nD τ).loc main_v8) = shapeCast S16384x1024 (pad S16384x8x128 ![0, 0, 0] ![0, 0, 32] ![0, 0, 0] (shapeCast S16384x8x96 (fun y : S1x16384x8x96.Idx => Ideal.div (aQ m c y * cS) (Ideal.log (Ideal.ofBits .f32 0x40000000#32))) shapeCasts_S1x16384x8x96_S16384x8x96) (fun _ => (Ideal.ofBits .bf16 0x0000#16 : EReal)) pads_S16384x8x96_S16384x8x128_000_000_0320 h_S_) shapeCasts_S16384x8x128_S16384x1024 := by
    change StableHlo.after hostOps0 (fun b => m (c, b)) (Proc.devRef .tc main_v8) = _
    after_results_simp
    rfl
  rw [e]
  refine (slots _ _ _ _ _ _ i h d).trans ?_
  simp only [zero_bf]

set_option maxHeartbeats 2000000 in
theorem mE_v12 (i : Fin 16384) (h : Fin 8) (d : Fin 128) : (show EReal from mE m ((c : Thread nD τ).loc main_v12) (ix2 i (hcol h d)))
    = if hd : d.val < 96 then aK m c (ix4 (0 : Fin 1) i h (⟨d.val, hd⟩ : Fin 96)) else 0 := by
  have e : mE m ((c : Thread nD τ).loc main_v12) = shapeCast S16384x1024 (pad S16384x8x128 ![0, 0, 0] ![0, 0, 32] ![0, 0, 0] (shapeCast S16384x8x96 (aK m c) shapeCasts_S1x16384x8x96_S16384x8x96) (fun _ => (Ideal.ofBits .bf16 0x0000#16 : EReal)) pads_S16384x8x96_S16384x8x128_000_000_0320 h_S_) shapeCasts_S16384x8x128_S16384x1024 := by
    change StableHlo.after hostOps0 (fun b => m (c, b)) (Proc.devRef .tc main_v12) = _
    after_results_simp
    rfl
  rw [e]
  refine (slots _ _ _ _ _ _ i h d).trans ?_
  simp only [zero_bf]

set_option maxHeartbeats 2000000 in
theorem mE_v16 (i : Fin 16384) (h : Fin 8) (d : Fin 128) : (show EReal from mE m ((c : Thread nD τ).loc main_v16) (ix2 i (hcol h d)))
    = if hd : d.val < 64 then aV m c (ix4 (0 : Fin 1) i h (⟨d.val, hd⟩ : Fin 64)) else 0 := by
  have e : mE m ((c : Thread nD τ).loc main_v16) = shapeCast S16384x1024 (pad S16384x8x128 ![0, 0, 0] ![0, 0, 64] ![0, 0, 0] (shapeCast S16384x8x64 (aV m c) shapeCasts_S1x16384x8x64_S16384x8x64) (fun _ => (Ideal.ofBits .bf16 0x0000#16 : EReal)) pads_S16384x8x64_S16384x8x128_000_000_0640 h_S_) shapeCasts_S16384x8x128_S16384x1024 := by
    change StableHlo.after hostOps0 (fun b => m (c, b)) (Proc.devRef .tc main_v16) = _
    after_results_simp
    rfl
  rw [e]
  refine (slots _ _ _ _ _ _ i h d).trans ?_
  simp only [zero_bf]

end Cert.KernelIdeal.Hand
end
-- ==== Proof.V.Ref.lean ====
/- The reference's result at an index: the softmax of the scores of the keys at or before the query, weighting the values. -/
module

public import proofs.«01_k».proof.Proof.Gen.ReferenceIdeal.Read
public import Idealize.ShloMosaic.PureOps.Reduce
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe

variable (x0 x1 : S1x16384x8x96.Idx → EReal) (x2 : S1x16384x8x64.Idx → EReal)

/-- The score of query row `i` against key row `k` in head `h`. -/
def scR (h : Fin 8) (i k : Fin 16384) : EReal :=
  ∑ d : Fin 96, x0 (ix4 (0 : Fin 1) i h d) * Ideal.ofBits .f32 0x3DD105EC#32 * x1 (ix4 (0 : Fin 1) k h d)

/-- The same with the keys behind the query left out. -/
def yR (h : Fin 8) (i k : Fin 16384) : EReal := if k.val ≤ i.val then scR x0 x1 h i k else ⊥

theorem idx0 (i : Fin 16384) (h : Fin 8) (d : Fin 96) (y : S16384x8x96.Idx) (h0 : (y 0).val = i.val) (h1 : (y 1).val = h.val) (h2 : (y 2).val = d.val) :
    idx_main_v0 y = ix4 (0 : Fin 1) i h d := funext fun a => Fin.ext (by
  match a with
  | ⟨0, _⟩ => rfl
  | ⟨1, _⟩ => show (((y 0).val * 8 + (y 1).val) * 96 + (y 2).val) / 768 % 16384 = i.val; omega
  | ⟨2, _⟩ => show (((y 0).val * 8 + (y 1).val) * 96 + (y 2).val) / 96 % 8 = h.val; omega
  | ⟨3, _⟩ => show (((y 0).val * 8 + (y 1).val) * 96 + (y 2).val) % 96 = d.val; omega)

theorem v4_at (h : Fin 8) (i k : Fin 16384) : val_main_v4 (F := Ideal) x0 x1 (ix3 h i k) = scR x0 x1 h i k := by
  rw [val_main_v4_apply]
  refine Finset.sum_congr rfl fun d _ => ?_
  have e0 : val_main_v2 (F := Ideal) x0 (lidx_main_v4 (ix3 h i k) d) = x0 (ix4 (0 : Fin 1) i h d) * Ideal.ofBits .f32 0x3DD105EC#32 := by
    rw [val_main_v2_apply, val_main_v0_apply, idx0 i h d _ rfl rfl rfl, val_main_v1_apply]
    rfl
  have e1 : val_main_v3 (F := Ideal) x1 (ridx_main_v4 (ix3 h i k) d) = x1 (ix4 (0 : Fin 1) k h d) := by
    rw [val_main_v3_apply]
    exact congrArg x1 (idx0 k h d (ridx_main_v4 (ix3 h i k) d) rfl rfl rfl)
  rw [e0, e1]

theorem le_word (a b : ℕ) (ha : a < 16384) (hb : b < 16384) : IntOp.cmpi .sle (BitVec.ofNat 32 a) (BitVec.ofNat 32 b) = if a ≤ b then 1#1 else 0#1 := by
  have ta : (BitVec.ofNat 32 a).toInt = a := by
    rw [BitVec.toInt_eq_toNat_of_lt] <;> simp [BitVec.toNat_ofNat] <;> omega
  have tb : (BitVec.ofNat 32 b).toInt = b := by
    rw [BitVec.toInt_eq_toNat_of_lt] <;> simp [BitVec.toNat_ofNat] <;> omega
  by_cases h : a ≤ b
  · rw [if_pos h]; simp [IntOp.cmpi, BitVec.sle, ta, tb, h]
  · rw [if_neg h]; simp [IntOp.cmpi, BitVec.sle, ta, tb, h]

theorem ninf : Ideal.ofBits .f32 0xFF800000#32 = ⊥ := by simp [Ideal.ofBits, Ideal.ieee]
theorem zero_f : Ideal.ofBits .f32 0x00000000#32 = 0 := by simp [Ideal.ofBits, Ideal.ieee]

theorem v9_at (h : Fin 8) (i k : Fin 16384) : val_main_v9 (F := Ideal) x0 x1 (ix3 h i k) = yR x0 x1 h i k := by
  rw [val_main_v9_apply, val_main_v7_apply, v4_at, val_main_v8_apply, val_main_v6_apply, val_main_v5_apply]
  have e : IntOp.cmpi .sle (BitVec.ofNat 32 ((ix3 h i k : S8x16384x16384.Idx) 2).val) (BitVec.ofNat 32 ((ix3 h i k : S8x16384x16384.Idx) 1).val) = if k.val ≤ i.val then 1#1 else 0#1 := le_word k.val i.val k.isLt i.isLt
  have eb : val_main_cst_0 (F := Ideal) (idx_main_v8 (ix3 h i k)) = (⊥ : EReal) := ninf
  rw [e, eb]
  unfold yR
  by_cases hk : k.val ≤ i.val
  · rw [if_pos hk, if_pos hk]; rfl
  · rw [if_neg hk, if_neg hk]; rfl

theorem v10_at (h : Fin 8) (i : Fin 16384) : val_main_v10 (F := Ideal) x0 x1 (ix2 h i) = Finset.univ.sup fun k : Fin 16384 => yR x0 x1 h i k := by
  have g : ∀ y : S8x16384x16384.Idx → EReal, Host.reduce (max : EReal → EReal → EReal) y (fun _ : S_.Idx => (⊥ : EReal)) reducesTo_S8x16384x16384_S8x16384_d2 h_S_ (ix2 h i) = Finset.univ.sup fun k : Fin 16384 => y (ix3 h i k) := fun y => by
    rw [Host.reduce_eq_fold_single _ _ _ reducesTo_S8x16384x16384_S8x16384_d2 (by decide)]
    show Finset.univ.fold max ⊥ _ = _
    rw [Finset.sup]
    refine Finset.fold_congr fun k _ => ?_
    exact congrArg y (funext fun a => Fin.ext (by match a with | ⟨0, _⟩ => rfl | ⟨1, _⟩ => rfl | ⟨2, _⟩ => rfl))
  have e : val_main_v10 (F := Ideal) x0 x1 = Host.reduce (max : EReal → EReal → EReal) (val_main_v9 (F := Ideal) x0 x1) (fun _ : S_.Idx => (⊥ : EReal)) reducesTo_S8x16384x16384_S8x16384_d2 h_S_ := by
    unfold val_main_v10
    rw [show val_main_cst_1 (F := Ideal) = fun _ : S_.Idx => (⊥ : EReal) from funext fun _ => ninf]
    rfl
  rw [e, g]
  exact Finset.sup_congr rfl fun k _ => v9_at x0 x1 h i k

theorem v14_at (h : Fin 8) (i k : Fin 16384) : val_main_v14 (F := Ideal) x0 x1 (ix3 h i k) = Ideal.exp (yR x0 x1 h i k - Finset.univ.sup fun k : Fin 16384 => yR x0 x1 h i k) := by
  rw [val_main_v14_apply, val_main_v13_apply, v9_at, val_main_v12_apply, val_main_v11_apply]
  have e : idx_main_v11 (idx_main_v12 (ix3 h i k)) = (ix2 h i : S8x16384.Idx) := funext fun a => Fin.ext (by match a with | ⟨0, _⟩ => rfl | ⟨1, _⟩ => rfl)
  rw [e, v10_at]
  rfl

theorem v17_at (k : Fin 16384) (h : Fin 8) (d : Fin 64) : val_main_v17 (F := Ideal) x2 (ix3 k h d) = x2 (ix4 (0 : Fin 1) k h d) := by
  rw [val_main_v17_apply]
  refine congrArg x2 (funext fun a => Fin.ext ?_)
  match a with
  | ⟨0, _⟩ => rfl
  | ⟨1, _⟩ => show ((k.val * 8 + h.val) * 64 + d.val) / 512 % 16384 = k.val; omega
  | ⟨2, _⟩ => show ((k.val * 8 + h.val) * 64 + d.val) / 64 % 8 = h.val; omega
  | ⟨3, _⟩ => show ((k.val * 8 + h.val) * 64 + d.val) % 64 = d.val; omega

theorem v20_at (h : Fin 8) (i : Fin 16384) (d : Fin 64) : val_main_v20 (F := Ideal) x0 x1 x2 (ix3 h i d)
    = Ideal.div (∑ k : Fin 16384, Ideal.exp (yR x0 x1 h i k - Finset.univ.sup fun k : Fin 16384 => yR x0 x1 h i k) * x2 (ix4 (0 : Fin 1) k h d))
        (0 + ∑ k : Fin 16384, Ideal.exp (yR x0 x1 h i k - Finset.univ.sup fun k : Fin 16384 => yR x0 x1 h i k)) := by
  rw [val_main_v20_apply, val_main_v18_apply, val_main_v19_apply, val_main_v16_apply]
  have e : idx_main_v16 (idx_main_v19 (ix3 h i d)) = (ix2 h i : S8x16384.Idx) := funext fun a => Fin.ext (by match a with | ⟨0, _⟩ => rfl | ⟨1, _⟩ => rfl)
  rw [e, val_main_v15_apply]
  have ec : val_main_cst_2 (F := Ideal) (Shape.Idx.first h_S_) = (0 : EReal) := zero_f
  have el : ∀ k : Fin 16384, lidx_main_v18 (ix3 h i d) k = (ix3 h i k : S8x16384x16384.Idx) := fun k => funext fun a => Fin.ext (by match a with | ⟨0, _⟩ => rfl | ⟨1, _⟩ => rfl | ⟨2, _⟩ => rfl)
  have er : ∀ k : Fin 16384, ridx_main_v18 (ix3 h i d) k = (ix3 k h d : S16384x8x64.Idx) := fun k => funext fun a => Fin.ext (by match a with | ⟨0, _⟩ => rfl | ⟨1, _⟩ => rfl | ⟨2, _⟩ => rfl)
  have es : ∀ k : Fin 16384, idx_main_v15 (ix2 h i) k = (ix3 h i k : S8x16384x16384.Idx) := fun k => funext fun a => Fin.ext (by match a with | ⟨0, _⟩ => rfl | ⟨1, _⟩ => rfl | ⟨2, _⟩ => rfl)
  simp only [el, er, es, v14_at, v17_at, ec]
  rfl

/-- The reference's result in row `i`, column `64 h + d`. -/
theorem v23_at (i : Fin 16384) (l : Fin 512) (h : Fin 8) (d : Fin 64) (hl : l.val = h.val * 64 + d.val) : val_main_v23 (F := Ideal) x0 x1 x2 (ix2 i l)
    = Ideal.div (∑ k : Fin 16384, Ideal.exp (yR x0 x1 h i k - Finset.univ.sup fun k : Fin 16384 => yR x0 x1 h i k) * x2 (ix4 (0 : Fin 1) k h d))
        (0 + ∑ k : Fin 16384, Ideal.exp (yR x0 x1 h i k - Finset.univ.sup fun k : Fin 16384 => yR x0 x1 h i k)) := by
  rw [val_main_v23_apply, val_main_v22_apply, val_main_v21_apply]
  have e : idx_main_v21 (idx_main_v22 (ix2 i l)) = (ix3 h i d : S8x16384x64.Idx) := funext fun a => Fin.ext (by
    match a with
    | ⟨0, _⟩ => show (i.val * 512 + l.val) / 64 % 8 = h.val; omega
    | ⟨1, _⟩ => show (i.val * 512 + l.val) / 512 = i.val; omega
    | ⟨2, _⟩ => show (i.val * 512 + l.val) % 64 = d.val; omega)
  rw [e, v20_at]
  rfl

end Cert.ReferenceIdeal.Hand
end
-- ==== Proof.V.Alg.lean ====
/- The kernel's result equals the reference's when every query and key is a finite number. -/
module

public import proofs.«01_k».proof.Defs
public import proofs.«01_k».proof.Proof.V.Inv
public import proofs.«01_k».proof.Proof.V.Host
public import proofs.«01_k».proof.Proof.V.Ref
public import Idealize.ShloMosaic.Lib.ReduceAll
public import Idealize.ShloMosaic.Lib.Pointwise

@[expose] public section

set_option maxRecDepth 16384

noncomputable section

namespace Cert.KernelIdeal.Hand

open Cert.KernelIdeal Cert.KernelIdeal.Gen
open Idealize.ShloMosaic Idealize.SL.Sem
open Idealize.ShloMosaic.TcCoe Idealize.ShloMosaic.Tactic

/-- The side conditions of the precondition's program. -/
theorem preFacts : Cert.Pre_finite_qk.Facts := ⟨by decide, by decide, by decide⟩

theorem inf_f : Ideal.ofBits .f32 0x7F800000#32 = ⊤ := by simp [Ideal.ofBits, Ideal.ieee]

theorem and_one : ∀ a b : BitVec 1, a &&& b = 1#1 → a = 1#1 ∧ b = 1#1 := by decide

/-- An extended real whose absolute value is below infinity is a real number. -/
theorem real_of_abs (x : EReal) (h : Ideal.cmp .olt (max x (-x)) (Ideal.ofBits .f32 0x7F800000#32) = 1#1) : ∃ r : ℝ, x = r := by
  rw [inf_f] at h
  have h' : max x (-x) < ⊤ := (Ideal.cmp_olt_eq_one _ _).mp h
  induction x with
  | bot => simp at h'
  | top => simp at h'
  | coe r => exact ⟨r, rfl⟩

/-- What the precondition says of the queries and keys. -/
theorem finite_of_pre (q k : S1x16384x8x96.Idx → EReal) (v : S1x16384x8x64.Idx → EReal)
    (h : (haveI := preFacts; Cert.Pre_finite_qk.fn (F := Ideal) q k v) = fun _ => 1#1) :
    (∀ y, ∃ r : ℝ, q y = r) ∧ (∀ y, ∃ r : ℝ, k y = r) := by
  haveI := preFacts
  haveI : Subsingleton Cert.Pre_finite_qk.S_.Idx := ⟨fun a b => funext fun x => x.elim0⟩
  have h0 := congrFun h (fun a => a.elim0)
  obtain ⟨a, b⟩ := and_one _ _ h0
  exact ⟨fun y => real_of_abs _ (Host.reduce_andi_all _ _ _ _ _ a y), fun y => real_of_abs _ (Host.reduce_andi_all _ _ _ _ _ b y)⟩

theorem cS_real : ∃ r : ℝ, cS = r := by
  refine ⟨EReal.toReal cS, (EReal.coe_toReal ?_ ?_).symm⟩ <;> · unfold cS; simp [Ideal.ofBits, Ideal.ieee]; norm_num; rw [← EReal.coe_mul]; first | exact EReal.coe_ne_top _ | exact EReal.coe_ne_bot _

theorem two_f : Ideal.ofBits .f32 0x40000000#32 = ((2 : ℝ) : EReal) := by
  simp [Ideal.ofBits, Ideal.ieee]
  norm_num
  rw [← EReal.coe_mul]
  norm_num

theorem log_two : Ideal.log (Ideal.ofBits .f32 0x40000000#32) = ((Real.log 2 : ℝ) : EReal) := by
  rw [two_f, Ideal.log_coe, if_neg (by norm_num)]

theorem split128 (f : Fin 128 → EReal) : ∑ d, f d = (∑ d : Fin 96, f ⟨d.val, by omega⟩) + ∑ d : Fin 32, f ⟨96 + d.val, by omega⟩ :=
  Fin.sum_univ_add (a := 96) (b := 32) f

section
variable (m : (ℓ : Loc nD τ sig) → Buf (Elt Ideal) ℓ) (c : Dev nD)
variable (q k : S1x16384x8x96.Idx → ℝ) (r : ℝ)

/-- The real score of query row `i` against key `j` in head `h`. -/
def xR (h : Fin 8) (i : Fin 16384) (j : ℕ) : ℝ :=
  if hj : j < 16384 then ∑ d : Fin 96, q (ix4 (0 : Fin 1) i h d) * r * k (ix4 (0 : Fin 1) (⟨j, hj⟩ : Fin 16384) h d) else 0

variable (hq : ∀ y, aQ m c y = (q y : EReal)) (hk : ∀ y, aK m c y = (k y : EReal)) (hr : cS = (r : EReal))
include hq hk hr

theorem Sq_real (h : Fin 8) (i : Fin 16384) (j : ℕ) : Sq (mE m) c h i j = if j ≤ i.val then ((xR q k r h i j / Real.log 2 : ℝ) : EReal) else ⊥ := by
  have hl : Real.log 2 ≠ 0 := (Real.log_pos (by norm_num)).ne'
  unfold Sq
  by_cases hj : j ≤ i.val
  · rw [dif_pos hj, if_pos hj, split128]
    have hj' : j < 16384 := Nat.lt_of_le_of_lt hj i.isLt
    have e1 : ∀ d : Fin 96, (show EReal from mE m ((c : Thread nD τ).loc main_v8) (ix2 i (hcol h (⟨d.val, by omega⟩ : Fin 128)))) * (show EReal from mE m ((c : Thread nD τ).loc main_v12) (ix2 (⟨j, hj'⟩ : Fin 16384) (hcol h (⟨d.val, by omega⟩ : Fin 128))))
        = ((q (ix4 (0 : Fin 1) i h d) * r * k (ix4 (0 : Fin 1) (⟨j, hj'⟩ : Fin 16384) h d) / Real.log 2 : ℝ) : EReal) := fun d => by
      rw [mE_v8, mE_v12, dif_pos d.isLt, dif_pos d.isLt, log_two, Ideal.div_coe hl, hq, hk, hr, ← EReal.coe_mul, ← EReal.coe_mul, ← EReal.coe_mul]
      refine congrArg _ ?_
      ring
    have e2 : ∀ d : Fin 32, (show EReal from mE m ((c : Thread nD τ).loc main_v8) (ix2 i (hcol h (⟨96 + d.val, by omega⟩ : Fin 128)))) * (show EReal from mE m ((c : Thread nD τ).loc main_v12) (ix2 (⟨j, hj'⟩ : Fin 16384) (hcol h (⟨96 + d.val, by omega⟩ : Fin 128))))
        = 0 := fun d => by
      rw [mE_v8, mE_v12, dif_neg (show ¬(96 + d.val < 96) by omega), dif_neg (show ¬(96 + d.val < 96) by omega), mul_zero]
    rw [Finset.sum_congr rfl fun d _ => e1 d, Finset.sum_congr rfl fun d _ => e2 d, Finset.sum_const_zero, add_zero, coe_sum]
    refine congrArg _ ?_
    unfold xR
    rw [dif_pos hj', Finset.sum_div]
  · rw [dif_neg hj, if_neg hj]

theorem yR_real (h : Fin 8) (i j : Fin 16384) : Cert.ReferenceIdeal.Hand.yR (aQ m c) (aK m c) h i j = if j.val ≤ i.val then ((xR q k r h i j.val : ℝ) : EReal) else ⊥ := by
  unfold Cert.ReferenceIdeal.Hand.yR
  by_cases hj : j.val ≤ i.val
  · rw [if_pos hj, if_pos hj]
    unfold Cert.ReferenceIdeal.Hand.scR xR
    rw [dif_pos j.isLt, ← coe_sum]
    refine Finset.sum_congr rfl fun d _ => ?_
    rw [hq, hk]
    show _ * cS * _ = _
    rw [hr, ← EReal.coe_mul, ← EReal.coe_mul]
  · rw [if_neg hj, if_neg hj]

/-- Entry by entry, the kernel's result is the reference's. -/
theorem result_at (i : Fin 16384) (l : Fin 512) : Gres (mE m) c (ix2 i l) = Cert.ReferenceIdeal.Read.val_main_v23 (F := Ideal) (aQ m c) (aK m c) (aV m c) (ix2 i l) := by
  have hh : l.val / 64 < 8 := by omega
  have hd : l.val % 64 < 64 := by omega
  rw [Cert.ReferenceIdeal.Hand.v23_at (aQ m c) (aK m c) (aV m c) i l ⟨l.val / 64, hh⟩ ⟨l.val % 64, hd⟩ (by show l.val = l.val / 64 * 64 + l.val % 64; omega)]
  generalize hH : (⟨l.val / 64, hh⟩ : Fin 8) = h
  have hn : 1024 * (i.val / 1024 + 1) ≤ 16384 := by omega
  have hi : i.val < 1024 * (i.val / 1024 + 1) := by omega
  have key := softmax_eq (1024 * (i.val / 1024 + 1)) 16384 (by omega) hn (xR q k r h i) i.val hi (Sq (mE m) c h i)
    (fun j => if j ≤ i.val then ((xR q k r h i j : ℝ) : EReal) else ⊥) (Vq (mE m) c h (⟨l.val % 64, by omega⟩ : Fin 128)) (Sq_real m c q k r hq hk hr h i) (fun _ => rfl)
  have e1 : Ac (Sq (mE m) c h i) (Vq (mE m) c h (64 : Fin 128)) (1024 * (i.val / 1024 + 1)) = Ac (Sq (mE m) c h i) (fun _ => 1) (1024 * (i.val / 1024 + 1)) := by
    unfold Ac
    refine Finset.sum_congr rfl fun j hj => ?_
    have hj' : j < 16384 := Nat.lt_of_lt_of_le (Finset.mem_range.mp hj) hn
    have : Vq (mE m) c h (64 : Fin 128) j = 1 := by
      unfold Vq
      rw [dif_pos hj', mE_v16, dif_neg (show ¬((64 : Fin 128).val < 64) by decide), if_pos (show (64 : Fin 128).val = 64 by decide), zero_add]
    rw [this]
  have e2 : ∀ j : Fin 16384, Vq (mE m) c h (⟨l.val % 64, by omega⟩ : Fin 128) j.val = aV m c (ix4 (0 : Fin 1) j h (⟨l.val % 64, hd⟩ : Fin 64)) := fun j => by
    unfold Vq
    rw [dif_pos j.isLt, mE_v16, dif_pos hd, if_neg (show ¬(l.val % 64 = 64) by omega), add_zero]
  have e3 : ∀ j : Fin 16384, Cert.ReferenceIdeal.Hand.yR (aQ m c) (aK m c) h i j = if j.val ≤ i.val then ((xR q k r h i j.val : ℝ) : EReal) else ⊥ := yR_real m c q k r hq hk hr h i
  have eG : Gres (mE m) c (ix2 i l) = Ac (Sq (mE m) c h i) (Vq (mE m) c h (⟨l.val % 64, by omega⟩ : Fin 128)) (1024 * (i.val / 1024 + 1)) * Ideal.div 1 (Ac (Sq (mE m) c h i) (Vq (mE m) c h (64 : Fin 128)) (1024 * (i.val / 1024 + 1))) := by
    rw [← hH]; rfl
  rw [eG, e1, key]
  simp only [e2, e3]

/-- The scores are never plus infinity, and the first key's is never minus infinity. -/
theorem Sq_ne (h : Fin 8) (i : Fin 16384) (j : ℕ) : Sq (mE m) c h i j ≠ ⊤ := by
  rw [Sq_real m c q k r hq hk hr]
  split
  · exact EReal.coe_ne_top _
  · exact bot_ne_top

theorem Sq_zero (h : Fin 8) (i : Fin 16384) : Sq (mE m) c h i 0 ≠ ⊥ := by
  rw [Sq_real m c q k r hq hk hr, if_pos (Nat.zero_le _)]
  exact EReal.coe_ne_bot _

end

/-- The kernel's array after the run, under the precondition, is the reference's result. -/
theorem final (m : (ℓ : Loc nD τ sig) → Buf (Elt Ideal) ℓ) (g : Dev nD → PrngReg) (c : Dev nD) (hq : ∀ y, ∃ r : ℝ, aQ m c y = r) (hk : ∀ y, ∃ r : ℝ, aK m c y = r) :
    (dats 0 (mE m) g 0 c).arrAt (3 : Fin 4) (cfgA 0).N = Cert.ReferenceIdeal.Read.val_main_v23 (F := Ideal) (aQ m c) (aK m c) (aV m c) := by
  choose q hq using hq
  choose k hk using hk
  obtain ⟨r, hr⟩ := cS_real
  rw [out_arr (mE m) g c (Sq_ne m c q k r hq hk hr) (Sq_zero m c q k r hq hk hr)]
  funext y
  rw [eq_ix2 y]
  exact result_at m c q k r hq hk hr _ _

end Cert.KernelIdeal.Hand
end
-- ==== Proof.V.Merge.lean ====
/- The merge gates' projection: what each grid point writes is its block of x·w + b, the blocks fill the array, and the reference's slice of its combined projection is the same array. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit.Geometry

@[expose] public section

set_option maxRecDepth 16384

noncomputable section

namespace Cert.Kernel2Ideal.Hand

open Cert.Kernel2Ideal Cert.Kernel2Ideal.Gen
open Idealize.ShloMosaic
open Idealize.ShloMosaic.TcCoe Idealize.ShloMosaic.Tactic

/-- One grid point's product of its two blocks with the bias row added, entry by entry. -/
theorem pay_apply (A : Vec Ideal S2048x2048 .bf16) (B : Vec Ideal S2048x1024 .bf16) (z : Vec Ideal S1x1024 .f32) (p : Fin 2048) (q : Fin 1024) :
    (show EReal from k0_pay1 A B z (ix2 p q)) = (∑ k : Fin 2048, (show EReal from A (ix2 p k)) * (show EReal from B (ix2 k q))) + (show EReal from z (ix2 0 q)) := by
  unfold k0_pay1
  pointwise
  try simp only [zero_add]
  try rfl

theorem hz : (![0, 0] : Fin 2 → Nat) = fun _ => 0 := funext fun a => by fin_cases a <;> rfl

/-- The one store covers the whole block, and the loads read whole blocks. -/
theorem out_eq (A : Vec Ideal S2048x2048 .bf16) (B : Vec Ideal S2048x1024 .bf16) (z : Vec Ideal S1x1024 .f32) :
    out0_3 A B z = k0_pay1 A B z := by
  unfold out0_3
  rw [View.canon_unit_zero hz, View.ld_unit_zero hz, View.ld_unit_zero hz, View.ld_unit_zero hz]

/-- Which block each window is at, at every grid point. -/
theorem at0 : ∀ t : Fin cfg0.N, win0_0.index t (0 : Fin 2) = win0_3.index t (0 : Fin 2) ∧ win0_0.index t (1 : Fin 2) = 0 :=
  (by decide +kernel : ∀ t : Fin grid0.N, _)
theorem at1 : ∀ t : Fin cfg0.N, win0_1.index t (0 : Fin 2) = 0 ∧ win0_1.index t (1 : Fin 2) = win0_3.index t (1 : Fin 2) :=
  (by decide +kernel : ∀ t : Fin grid0.N, _)
theorem at2 : ∀ t : Fin cfg0.N, win0_2.index t (0 : Fin 2) = 0 ∧ win0_2.index t (1 : Fin 2) = win0_3.index t (1 : Fin 2) :=
  (by decide +kernel : ∀ t : Fin grid0.N, _)

variable (m : (ℓ : Loc nD τ sig) → Buf (Elt Ideal) ℓ) (ρ : Dev nD → PrngReg) (c : Dev nD)

/-- The three arguments: the layer's input, the whole input projection's weights, its bias. -/
def aX : S1x16384x2048.Idx → EReal := m ((c : Thread nD τ).loc main_arg0)
def aW : S2048x11832.Idx → EReal := m ((c : Thread nD τ).loc main_arg1)
def aB : S11832.Idx → EReal := m ((c : Thread nD τ).loc main_arg2)

/-- Column `j` of the merge gates, among all the columns of the projection. -/
def mcol (j : Fin 8192) : Fin 11832 := ⟨3640 + j.val, by omega⟩

set_option maxHeartbeats 2000000 in
theorem V_x (i : Fin 16384) (k : Fin 2048) : (show EReal from V m c main_v1 (ix2 i k)) = aX m c (ix3 (0 : Fin 1) i k) := by
  have e : V m c main_v1 = shapeCast S16384x2048 (aX m c) shapeCasts_S1x16384x2048_S16384x2048 := by
    change StableHlo.after hostOps0 (fun b => m (c, b)) (Proc.devRef .tc main_v1) = _
    after_results_simp
    rfl
  rw [e]
  exact shapeCast_apply _ _ (ix2 i k) (ix3 (0 : Fin 1) i k) (by
    rewrite [Shape.rowMajor_val_three, Shape.rowMajor_val_two]
    show (0 * 16384 + i.val) * 2048 + k.val = i.val * 2048 + k.val
    omega)

set_option maxHeartbeats 2000000 in
theorem V_w (k : Fin 2048) (j : Fin 8192) : (show EReal from V m c main_v3 (ix2 k j)) = aW m c (ix2 k (mcol j)) := by
  have e : V m c main_v3 = extractStridedSlice S2048x8192 ![0, 3640] (aW m c) slices_S2048x11832_S2048x8192_0_3640 := by
    change StableHlo.after hostOps0 (fun b => m (c, b)) (Proc.devRef .tc main_v3) = _
    after_results_simp
    rfl
  rw [e]
  exact extractStridedSlice_apply _ _ _ (ix2 k j) (ix2 k (mcol j)) (fun a => by
    match a with
    | ⟨0, _⟩ => show k.val = 0 + k.val; omega
    | ⟨1, _⟩ => show 3640 + j.val = 3640 + j.val; rfl)

set_option maxHeartbeats 2000000 in
theorem V_b (j : Fin 8192) : (show EReal from V m c main_v5 (ix2 0 j)) = aB m c (ix1 (mcol j)) := by
  have e : V m c main_v5 = broadcastInDim S1x8192 ![1] bcast_S8192_S1x8192_1 (extractStridedSlice S8192 ![3640] (aB m c) slices_S11832_S8192_3640) := by
    change StableHlo.after hostOps0 (fun b => m (c, b)) (Proc.devRef .tc main_v5) = _
    after_results_simp
    rfl
  rw [e]
  refine (broadcastInDim_apply _ bcast_S8192_S1x8192_1 _ (ix2 0 j) (ix1 j) (fun a => by
    match a with
    | ⟨0, _⟩ => show j.val = if (8192 : Nat) = 1 then 0 else j.val; rw [if_neg (by decide)])).trans ?_
  exact extractStridedSlice_apply _ _ _ (ix1 j) (ix1 (mcol j)) (fun a => by
    match a with
    | ⟨0, _⟩ => show 3640 + j.val = 3640 + j.val; rfl)

/-- The whole result, entry by entry. -/
def merge : S16384x8192.Idx → EReal := fun i =>
  (∑ k : Fin 2048, aX m c (ix3 (0 : Fin 1) (⟨(i 0).val, (i 0).isLt⟩ : Fin 16384) k) * aW m c (ix2 k (mcol ⟨(i 1).val, (i 1).isLt⟩)))
    + aB m c (ix1 (mcol ⟨(i 1).val, (i 1).isLt⟩))

theorem blk0 (t : Fin cfg0.N) (p k : Fin 2048) (i : Fin 16384) (hi : i.val = win0_3.index t (0 : Fin 2) * 2048 + p.val) :
    (show EReal from iblk m c 0 t (ix2 p k)) = aX m c (ix3 (0 : Fin 1) i k) := by
  obtain ⟨e0, e1⟩ := at0 t
  refine Eq.trans ?_ (V_x m c i k)
  show V m c main_v1 (((cfg0.win 0).blk t).view.emb (ix2 p k)) = V m c main_v1 (ix2 i k)
  congr 1
  funext a; apply Fin.ext
  match a with
  | ⟨0, _⟩ => show win0_0.index t (0 : Fin 2) * 2048 + 1 * p.val = i.val; omega
  | ⟨1, _⟩ => show win0_0.index t (1 : Fin 2) * 2048 + 1 * k.val = k.val; omega

theorem blk1 (t : Fin cfg0.N) (k : Fin 2048) (q : Fin 1024) (j : Fin 8192) (hj : j.val = win0_3.index t (1 : Fin 2) * 1024 + q.val) :
    (show EReal from iblk m c 1 t (ix2 k q)) = aW m c (ix2 k (mcol j)) := by
  obtain ⟨e0, e1⟩ := at1 t
  refine Eq.trans ?_ (V_w m c k j)
  show V m c main_v3 (((cfg0.win 1).blk t).view.emb (ix2 k q)) = V m c main_v3 (ix2 k j)
  congr 1
  funext a; apply Fin.ext
  match a with
  | ⟨0, _⟩ => show win0_1.index t (0 : Fin 2) * 2048 + 1 * k.val = k.val; omega
  | ⟨1, _⟩ => show win0_1.index t (1 : Fin 2) * 1024 + 1 * q.val = j.val; omega

theorem blk2 (t : Fin cfg0.N) (q : Fin 1024) (j : Fin 8192) (hj : j.val = win0_3.index t (1 : Fin 2) * 1024 + q.val) :
    (show EReal from iblk m c 2 t (ix2 0 q)) = aB m c (ix1 (mcol j)) := by
  obtain ⟨e0, e1⟩ := at2 t
  refine Eq.trans ?_ (V_b m c j)
  show V m c main_v5 (((cfg0.win 2).blk t).view.emb (ix2 0 q)) = V m c main_v5 (ix2 0 j)
  congr 1
  funext a; apply Fin.ext
  match a with
  | ⟨0, _⟩ => show win0_2.index t (0 : Fin 2) * 1 + 1 * 0 = 0; omega
  | ⟨1, _⟩ => show win0_2.index t (1 : Fin 2) * 1024 + 1 * q.val = j.val; omega

/-- What grid point `t` leaves at `(p, q)` of its block is the result at the place the block puts it. -/
theorem point (t : Fin cfg0.N) (p : Fin 2048) (q : Fin 1024) :
    (show EReal from out0_3 (iblk m c 0 t) (iblk m c 1 t) (iblk m c 2 t) (ix2 p q)) = merge m c (((cfg0.win 3).blk t).view.emb (ix2 p q)) := by
  have h0 : ((((cfg0.win 3).blk t).view.emb (ix2 p q)) (0 : Fin 2)).val = win0_3.index t (0 : Fin 2) * 2048 + p.val := by
    show win0_3.index t (0 : Fin 2) * 2048 + 1 * p.val = _; omega
  have h1 : ((((cfg0.win 3).blk t).view.emb (ix2 p q)) (1 : Fin 2)).val = win0_3.index t (1 : Fin 2) * 1024 + q.val := by
    show win0_3.index t (1 : Fin 2) * 1024 + 1 * q.val = _; omega
  rw [out_eq]
  refine (pay_apply _ _ _ p q).trans ?_
  unfold merge
  refine congrArg₂ (· + ·) (Finset.sum_congr rfl fun k _ => congrArg₂ (· * ·) (blk0 m c t p k _ h0) (blk1 m c t k q _ h1)) (blk2 m c t q _ h1)

theorem covers : (cfg0.win 3).Covers := by decide +kernel

/-- The result array after the run. -/
theorem final : (dats m 0 c).arrAt 3 cfg0.N = merge m c := by
  refine (dats m 0 c).arrAt_eq_of_cover 3 (merge m c) (fun t _ => ?_) (covers.cover _ (Memref.isWhole_whole _))
  rw [Value.flushed3]
  funext y
  obtain ⟨p, q, rfl⟩ : ∃ (p : Fin 2048) (q : Fin 1024), y = ix2 p q := ⟨y 0, y 1, eq_ix2 y⟩
  exact point m c t p q

/-- The reference's result is the same array. -/
theorem ref_eq : Cert.Reference2Ideal.Read.val_main_v6 (F := Ideal) (aX m c) (aW m c) (aB m c) = merge m c := by
  funext i
  have h0 : (i 0).val < 16384 := (i 0).isLt
  have h1 : (i 1).val < 8192 := (i 1).isLt
  rw [Cert.Reference2Ideal.Read.val_main_v6_apply]
  show Cert.Reference2Ideal.Read.val_main_v5 (F := Ideal) (aX m c) (aW m c) (aB m c) i = _
  rw [Cert.Reference2Ideal.Read.val_main_v5_apply, Cert.Reference2Ideal.Read.val_main_v4_apply, Cert.Reference2Ideal.Read.val_main_v3_apply,
    Cert.Reference2Ideal.Read.val_main_v0_apply, Cert.Reference2Ideal.Read.val_main_v2_apply, Cert.Reference2Ideal.Read.val_main_v1_apply]
  unfold merge
  refine congrArg₂ (· + ·) (Finset.sum_congr rfl fun k _ => congrArg₂ (· * ·) (congrArg (aX m c) (funext fun a => Fin.ext ?_)) (congrArg (aW m c) (funext fun a => Fin.ext ?_)))
    (congrArg (aB m c) (funext fun a => Fin.ext ?_))
  · match a with
    | ⟨0, _⟩ => rfl
    | ⟨1, _⟩ => show ((i 0).val * 8192 + (i 1).val) / 8192 % 16384 = (i 0).val; omega
    | ⟨2, _⟩ => rfl
  · match a with
    | ⟨0, _⟩ => rfl
    | ⟨1, _⟩ => show 3640 + ((i 0).val * 8192 + (i 1).val) % 8192 = 3640 + (i 1).val; omega
  · match a with
    | ⟨0, _⟩ => show 3640 + ((i 0).val * 8192 + (i 1).val) % 8192 = 3640 + (i 1).val; omega

end Cert.Kernel2Ideal.Hand

end
-- ==== Proof.V.Norm.lean ====
/- The output projection with its residual and layer norm: what each grid point writes is its rows of the norm of a·x + y·w, the rows fill the arrays, and the reference's two results are the same arrays. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Geometry

@[expose] public section

set_option maxRecDepth 16384

noncomputable section

namespace Cert.Kernel3Ideal.Hand

open Cert.Kernel3Ideal Cert.Kernel3Ideal.Gen
open Idealize.ShloMosaic
open Idealize.ShloMosaic.TcCoe Idealize.ShloMosaic.Tactic

/-- The mean of a row. -/
def mean (z : Fin 2048 → EReal) : EReal := Ideal.div (∑ k : Fin 2048, z k) (Ideal.ofBits .f32 0x45000000#32)

/-- A row normalised, scaled by `g` and shifted by `b`, at column `j`. -/
def norm (z g b : Fin 2048 → EReal) (j : Fin 2048) : EReal :=
  (z j - mean z) * Ideal.rsqrt (mean (fun k => (z k - mean z) * (z k - mean z)) + Ideal.ofBits .f32 0x3727C5AC#32) * g j + b j

/-- The residual factor. -/
def alpha : EReal := Ideal.ofBits .f32 0x3FB504F3#32

theorem zero_f : Ideal.ofBits .f32 0x00000000#32 = 0 := by simp [Ideal.ofBits, Ideal.ieee]

abbrev zF (A : FVec Ideal S512x2048 .bf16) (W : FVec Ideal S2048x2048 .bf16) (X : FVec Ideal S512x2048 .f32) : FVec Ideal S512x2048 .f32 :=
  addf (mulf (broadcast S512x2048 (Scalar.ofBits (F := Ideal) .f32 0x3FB504F3#32)) X) (matmul dot_S512x2048_S2048x2048_S512x2048_1_0_0_1_n_n none A W (constant S512x2048 .f32 0x00000000#32))

theorem zF_apply (A : FVec Ideal S512x2048 .bf16) (W : FVec Ideal S2048x2048 .bf16) (X : FVec Ideal S512x2048 .f32) (p : Fin 512) (q : Fin 2048) :
    zF A W X (ix2 p q) = alpha * X (ix2 p q) + ∑ k : Fin 2048, A (ix2 p k) * W (ix2 k q) := by
  pointwise
  try simp only [zero_add]
  try rfl

abbrev meanF (z : FVec Ideal S512x2048 .f32) : FVec Ideal S512x1 .f32 :=
  divf (shapeCast S512x1 (multiReduction .add [1] S512 z 0x00000000#32 reduces_S512x2048_S512 (.inl rfl) rfl) shapeCasts_S512_S512x1) (broadcast S512x1 (Scalar.ofBits (F := Ideal) .f32 0x45000000#32))

theorem meanF_apply (z : FVec Ideal S512x2048 .f32) (p : Fin 512) : meanF z (ix2 p 0) = mean (fun k => z (ix2 p k)) := by
  unfold mean
  pointwise
  try simp only [zero_add]
  try rfl

abbrev normF (z : FVec Ideal S512x2048 .f32) (g b : FVec Ideal S1x2048 .f32) : FVec Ideal S512x2048 .f32 :=
  addf (mulf (mulf (subf z (broadcastTo S512x2048 (meanF z) broadcasts_S512x1_S512x2048))
    (broadcastTo S512x2048 (rsqrt (addf (meanF (mulf (subf z (broadcastTo S512x2048 (meanF z) broadcasts_S512x1_S512x2048)) (subf z (broadcastTo S512x2048 (meanF z) broadcasts_S512x1_S512x2048))))
      (broadcast S512x1 (Scalar.ofBits (F := Ideal) .f32 0x3727C5AC#32)))) broadcasts_S512x1_S512x2048))
    (broadcastTo S512x2048 g broadcasts_S1x2048_S512x2048)) (broadcastTo S512x2048 b broadcasts_S1x2048_S512x2048)

theorem centred_apply (z : FVec Ideal S512x2048 .f32) (p : Fin 512) (q : Fin 2048) :
    subf z (broadcastTo S512x2048 (meanF z) broadcasts_S512x1_S512x2048) (ix2 p q) = z (ix2 p q) - mean (fun k => z (ix2 p k)) := by
  rw [← meanF_apply]
  generalize meanF z = M
  pointwise

theorem normF_apply (z : FVec Ideal S512x2048 .f32) (g b : FVec Ideal S1x2048 .f32) (p : Fin 512) (q : Fin 2048) :
    normF z g b (ix2 p q) = norm (fun k => z (ix2 p k)) (fun k => g (ix2 0 k)) (fun k => b (ix2 0 k)) q := by
  unfold normF norm
  have hd := centred_apply z p
  revert hd
  generalize subf z (broadcastTo S512x2048 (meanF z) broadcasts_S512x1_S512x2048) = D
  intro hd
  have hv : meanF (mulf D D) (ix2 p 0) = mean (fun k => (z (ix2 p k) - mean (fun k => z (ix2 p k))) * (z (ix2 p k) - mean (fun k => z (ix2 p k)))) := by
    rw [meanF_apply]
    refine congrArg mean (funext fun k => ?_)
    rw [← hd k]
    rfl
  revert hv
  generalize meanF (mulf D D) = V
  intro hv
  rw [← hv, ← hd q]
  pointwise

theorem pay1_apply (A : FVec Ideal S512x2048 .bf16) (W : FVec Ideal S2048x2048 .bf16) (X : FVec Ideal S512x2048 .f32) (g b : FVec Ideal S1x2048 .f32) (p : Fin 512) (q : Fin 2048) :
    (show EReal from k0_pay1 (F := Ideal) A W X g b (ix2 p q))
      = norm (fun j => alpha * X (ix2 p j) + ∑ k : Fin 2048, A (ix2 p k) * W (ix2 k j)) (fun k => g (ix2 0 k)) (fun k => b (ix2 0 k)) q := by
  have e : k0_pay1 A W X g b = normF (zF A W X) g b := by
    unfold k0_pay1
    simp only [shapeCast_self]
  rw [e, normF_apply]
  simp only [zF_apply]

theorem hz : (![0, 0] : Fin 2 → Nat) = fun _ => 0 := funext fun a => by fin_cases a <;> rfl

theorem out5_eq (A : Vec Ideal S512x2048 .bf16) (W : Vec Ideal S2048x2048 .bf16) (X : Vec Ideal S512x2048 .f32) (g b : Vec Ideal S1x2048 .f32) :
    out0_5 A W X g b = k0_pay1 A W X g b := by
  unfold out0_5
  rw [View.canon_unit_zero hz, View.ld_unit_zero hz, View.ld_unit_zero hz, View.ld_unit_zero hz, View.ld_unit_zero hz, View.ld_unit_zero hz]

theorem out6_eq (A : Vec Ideal S512x2048 .bf16) (W : Vec Ideal S2048x2048 .bf16) (X : Vec Ideal S512x2048 .f32) (g b : Vec Ideal S1x2048 .f32) :
    out0_6 A W X g b = k0_pay2 A W X g b := by
  unfold out0_6
  rw [View.canon_unit_zero hz, View.ld_unit_zero hz, View.ld_unit_zero hz, View.ld_unit_zero hz, View.ld_unit_zero hz, View.ld_unit_zero hz]

/-- Which block each window is at, at every grid point. -/
theorem at0 : ∀ t : Fin cfg0.N, win0_0.index t (0 : Fin 2) = win0_5.index t (0 : Fin 2) ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = win0_5.index t (0 : Fin 2) ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (1 : Fin 2) = 0 := (by decide +kernel : ∀ t : Fin grid0.N, _)
theorem at6 : ∀ t : Fin cfg0.N, win0_6.index t (0 : Fin 2) = win0_5.index t (0 : Fin 2) ∧ win0_6.index t (1 : Fin 2) = 0 := (by decide +kernel : ∀ t : Fin grid0.N, _)

variable (m : (ℓ : Loc nD τ sig) → Buf (Elt Ideal) ℓ) (ρ : Dev nD → PrngReg) (c : Dev nD)

/-- The five arguments: the merged branches, the output projection's weights, the layer's input, the norm's scale and shift. -/
def aY : S1x16384x2048.Idx → EReal := m ((c : Thread nD τ).loc main_arg0)
def aW : S2048x2048.Idx → EReal := m ((c : Thread nD τ).loc main_arg1)
def aX : S1x16384x2048.Idx → EReal := m ((c : Thread nD τ).loc main_arg2)
def aG : S2048.Idx → EReal := m ((c : Thread nD τ).loc main_arg3)
def aB : S2048.Idx → EReal := m ((c : Thread nD τ).loc main_arg4)

theorem rows_apply (x : S1x16384x2048.Idx → EReal) (h : S1x16384x2048.ShapeCasts S16384x2048) (i : Fin 16384) (k : Fin 2048) :
    shapeCast S16384x2048 x h (ix2 i k) = x (ix3 (0 : Fin 1) i k) :=
  shapeCast_apply _ _ (ix2 i k) (ix3 (0 : Fin 1) i k) (by
    rewrite [Shape.rowMajor_val_three, Shape.rowMajor_val_two]
    show (0 * 16384 + i.val) * 2048 + k.val = i.val * 2048 + k.val
    omega)

theorem row_apply (x : S2048.Idx → EReal) (j : Fin 2048) : broadcastInDim S1x2048 ![1] bcast_S2048_S1x2048_1 x (ix2 0 j) = x (ix1 j) :=
  broadcastInDim_apply _ bcast_S2048_S1x2048_1 _ (ix2 0 j) (ix1 j) (fun a => by
    match a with
    | ⟨0, _⟩ => show j.val = if (2048 : Nat) = 1 then 0 else j.val; rw [if_neg (by decide)])

set_option maxHeartbeats 2000000 in
theorem V_y (i : Fin 16384) (k : Fin 2048) : (show EReal from V m c main_v1 (ix2 i k)) = aY m c (ix3 (0 : Fin 1) i k) := by
  have e : V m c main_v1 = shapeCast S16384x2048 (aY m c) shapeCasts_S1x16384x2048_S16384x2048 := by
    change StableHlo.after hostOps0 (fun b => m (c, b)) (Proc.devRef .tc main_v1) = _
    after_results_simp
    rfl
  rw [e]
  exact rows_apply _ _ i k

set_option maxHeartbeats 2000000 in
theorem V_w (k j : Fin 2048) : (show EReal from V m c main_v2 (ix2 k j)) = aW m c (ix2 k j) := by
  have e : V m c main_v2 = aW m c := by
    change StableHlo.after hostOps0 (fun b => m (c, b)) (Proc.devRef .tc main_v2) = _
    after_results_simp
    rfl
  rw [e]

set_option maxHeartbeats 2000000 in
theorem V_x (i : Fin 16384) (k : Fin 2048) : (show EReal from V m c main_v3 (ix2 i k)) = aX m c (ix3 (0 : Fin 1) i k) := by
  have e : V m c main_v3 = shapeCast S16384x2048 (aX m c) shapeCasts_S1x16384x2048_S16384x2048 := by
    change StableHlo.after hostOps0 (fun b => m (c, b)) (Proc.devRef .tc main_v3) = _
    after_results_simp
    rfl
  rw [e]
  exact rows_apply _ _ i k

set_option maxHeartbeats 2000000 in
theorem V_g (j : Fin 2048) : (show EReal from V m c main_v4 (ix2 0 j)) = aG m c (ix1 j) := by
  have e : V m c main_v4 = broadcastInDim S1x2048 ![1] bcast_S2048_S1x2048_1 (aG m c) := by
    change StableHlo.after hostOps0 (fun b => m (c, b)) (Proc.devRef .tc main_v4) = _
    after_results_simp
    rfl
  rw [e]
  exact row_apply _ j

set_option maxHeartbeats 2000000 in
theorem V_b (j : Fin 2048) : (show EReal from V m c main_v5 (ix2 0 j)) = aB m c (ix1 j) := by
  have e : V m c main_v5 = broadcastInDim S1x2048 ![1] bcast_S2048_S1x2048_1 (aB m c) := by
    change StableHlo.after hostOps0 (fun b => m (c, b)) (Proc.devRef .tc main_v5) = _
    after_results_simp
    rfl
  rw [e]
  exact row_apply _ j

/-- The whole result, entry by entry. -/
def result : S16384x2048.Idx → EReal := fun i =>
  norm (fun j => alpha * aX m c (ix3 (0 : Fin 1) (⟨(i 0).val, (i 0).isLt⟩ : Fin 16384) j)
      + ∑ k : Fin 2048, aY m c (ix3 (0 : Fin 1) (⟨(i 0).val, (i 0).isLt⟩ : Fin 16384) k) * aW m c (ix2 k j))
    (fun k => aG m c (ix1 k)) (fun k => aB m c (ix1 k)) ⟨(i 1).val, (i 1).isLt⟩

theorem blk0 (t : Fin cfg0.N) (p : Fin 512) (k : Fin 2048) (i : Fin 16384) (hi : i.val = win0_5.index t (0 : Fin 2) * 512 + p.val) :
    (show EReal from iblk m c 0 t (ix2 p k)) = aY m c (ix3 (0 : Fin 1) i k) := by
  obtain ⟨e0, e1⟩ := at0 t
  refine Eq.trans ?_ (V_y m c i k)
  show V m c main_v1 (((cfg0.win 0).blk t).view.emb (ix2 p k)) = V m c main_v1 (ix2 i k)
  congr 1
  funext a; apply Fin.ext
  match a with
  | ⟨0, _⟩ => show win0_0.index t (0 : Fin 2) * 512 + 1 * p.val = i.val; omega
  | ⟨1, _⟩ => show win0_0.index t (1 : Fin 2) * 2048 + 1 * k.val = k.val; omega

theorem blk1 (t : Fin cfg0.N) (k j : Fin 2048) : (show EReal from iblk m c 1 t (ix2 k j)) = aW m c (ix2 k j) := by
  obtain ⟨e0, e1⟩ := at1 t
  refine Eq.trans ?_ (V_w m c k j)
  show V m c main_v2 (((cfg0.win 1).blk t).view.emb (ix2 k j)) = V m c main_v2 (ix2 k j)
  congr 1
  funext a; apply Fin.ext
  match a with
  | ⟨0, _⟩ => show win0_1.index t (0 : Fin 2) * 2048 + 1 * k.val = k.val; omega
  | ⟨1, _⟩ => show win0_1.index t (1 : Fin 2) * 2048 + 1 * j.val = j.val; omega

theorem blk2 (t : Fin cfg0.N) (p : Fin 512) (k : Fin 2048) (i : Fin 16384) (hi : i.val = win0_5.index t (0 : Fin 2) * 512 + p.val) :
    (show EReal from iblk m c 2 t (ix2 p k)) = aX m c (ix3 (0 : Fin 1) i k) := by
  obtain ⟨e0, e1⟩ := at2 t
  refine Eq.trans ?_ (V_x m c i k)
  show V m c main_v3 (((cfg0.win 2).blk t).view.emb (ix2 p k)) = V m c main_v3 (ix2 i k)
  congr 1
  funext a; apply Fin.ext
  match a with
  | ⟨0, _⟩ => show win0_2.index t (0 : Fin 2) * 512 + 1 * p.val = i.val; omega
  | ⟨1, _⟩ => show win0_2.index t (1 : Fin 2) * 2048 + 1 * k.val = k.val; omega

theorem blk3 (t : Fin cfg0.N) (j : Fin 2048) : (show EReal from iblk m c 3 t (ix2 0 j)) = aG m c (ix1 j) := by
  obtain ⟨e0, e1⟩ := at3 t
  refine Eq.trans ?_ (V_g m c j)
  show V m c main_v4 (((cfg0.win 3).blk t).view.emb (ix2 0 j)) = V m c main_v4 (ix2 0 j)
  congr 1
  funext a; apply Fin.ext
  match a with
  | ⟨0, _⟩ => show win0_3.index t (0 : Fin 2) * 1 + 1 * 0 = 0; omega
  | ⟨1, _⟩ => show win0_3.index t (1 : Fin 2) * 2048 + 1 * j.val = j.val; omega

theorem blk4 (t : Fin cfg0.N) (j : Fin 2048) : (show EReal from iblk m c 4 t (ix2 0 j)) = aB m c (ix1 j) := by
  obtain ⟨e0, e1⟩ := at4 t
  refine Eq.trans ?_ (V_b m c j)
  show V m c main_v5 (((cfg0.win 4).blk t).view.emb (ix2 0 j)) = V m c main_v5 (ix2 0 j)
  congr 1
  funext a; apply Fin.ext
  match a with
  | ⟨0, _⟩ => show win0_4.index t (0 : Fin 2) * 1 + 1 * 0 = 0; omega
  | ⟨1, _⟩ => show win0_4.index t (1 : Fin 2) * 2048 + 1 * j.val = j.val; omega

/-- What grid point `t` computes at row `p` and column `q` of its block, at the array index the block puts it. -/
theorem point (t : Fin cfg0.N) (p : Fin 512) (q : Fin 2048) (y : S16384x2048.Idx) (h0 : (y 0).val = win0_5.index t (0 : Fin 2) * 512 + p.val) (h1 : (y 1).val = q.val) :
    (show EReal from k0_pay1 (F := Ideal) (iblk m c 0 t) (iblk m c 1 t) (iblk m c 2 t) (iblk m c 3 t) (iblk m c 4 t) (ix2 p q)) = result m c y := by
  refine (pay1_apply _ _ _ _ _ p q).trans ?_
  unfold result
  have e1 : (⟨(y 1).val, (y 1).isLt⟩ : Fin 2048) = q := Fin.ext h1
  rw [e1]
  have ez : (fun j : Fin 2048 => alpha * (show EReal from iblk m c 2 t (ix2 p j)) + ∑ k : Fin 2048, (show EReal from iblk m c 0 t (ix2 p k)) * (show EReal from iblk m c 1 t (ix2 k j)))
      = fun j => alpha * aX m c (ix3 (0 : Fin 1) (⟨(y 0).val, (y 0).isLt⟩ : Fin 16384) j)
        + ∑ k : Fin 2048, aY m c (ix3 (0 : Fin 1) (⟨(y 0).val, (y 0).isLt⟩ : Fin 16384) k) * aW m c (ix2 k j) :=
    funext fun j => congrArg₂ (· + ·) (congrArg (alpha * ·) (blk2 m c t p j _ h0)) (Finset.sum_congr rfl fun k _ => congrArg₂ (· * ·) (blk0 m c t p k _ h0) (blk1 m c t k j))
  have eg : (fun k : Fin 2048 => (show EReal from iblk m c 3 t (ix2 0 k))) = fun k => aG m c (ix1 k) := funext fun k => blk3 m c t k
  have eb : (fun k : Fin 2048 => (show EReal from iblk m c 4 t (ix2 0 k))) = fun k => aB m c (ix1 k) := funext fun k => blk4 m c t k
  exact congr (congr (congr (congrArg norm ez) eg) eb) rfl

theorem covers5 : (cfg0.win 5).Covers := by decide +kernel
theorem covers6 : (cfg0.win 6).Covers := by decide +kernel

/-- The two result arrays after the run. -/
theorem final5 : (dats m 0 c).arrAt 5 cfg0.N = result m c := by
  refine (dats m 0 c).arrAt_eq_of_cover 5 (result m c) (fun t _ => ?_) (covers5.cover _ (Memref.isWhole_whole _))
  rw [Value.flushed5]
  funext y
  obtain ⟨p, q, rfl⟩ : ∃ (p : Fin 512) (q : Fin 2048), y = ix2 p q := ⟨y 0, y 1, eq_ix2 y⟩
  have e1 := at5 t
  rw [out5_eq]
  exact point m c t p q _ (by show win0_5.index t (0 : Fin 2) * 512 + 1 * p.val = _; omega) (by show win0_5.index t (1 : Fin 2) * 2048 + 1 * q.val = _; omega)

theorem final6 : (dats m 0 c).arrAt 6 cfg0.N = result m c := by
  refine (dats m 0 c).arrAt_eq_of_cover 6 (result m c) (fun t _ => ?_) (covers6.cover _ (Memref.isWhole_whole _))
  rw [Value.flushed6]
  funext y
  obtain ⟨p, q, rfl⟩ : ∃ (p : Fin 512) (q : Fin 2048), y = ix2 p q := ⟨y 0, y 1, eq_ix2 y⟩
  obtain ⟨e0, e1⟩ := at6 t
  rw [out6_eq]
  exact point m c t p q _ (by show win0_6.index t (0 : Fin 2) * 512 + 1 * p.val = _; omega) (by show win0_6.index t (1 : Fin 2) * 2048 + 1 * q.val = _; omega)

open Cert.Reference3Ideal.Read in
/-- The reference's row before the norm. -/
theorem ref_z (i : Fin 16384) (j : Fin 2048) : val_main_v3 (F := Ideal) (aY m c) (aW m c) (aX m c) (ix3 (0 : Fin 1) i j)
    = alpha * aX m c (ix3 (0 : Fin 1) i j) + ∑ k : Fin 2048, aY m c (ix3 (0 : Fin 1) i k) * aW m c (ix2 k j) := by
  rw [val_main_v3_apply, val_main_v2_apply, val_main_v1_apply, val_main_cst_apply, val_main_v0_apply]
  refine congrArg₂ (· + ·) rfl (Finset.sum_congr rfl fun k _ => congrArg₂ (· * ·) (congrArg (aY m c) (funext fun a => Fin.ext ?_)) (congrArg (aW m c) (funext fun a => Fin.ext ?_)))
  · match a with
    | ⟨0, _⟩ => rfl
    | ⟨1, _⟩ => rfl
    | ⟨2, _⟩ => rfl
  · match a with
    | ⟨0, _⟩ => rfl
    | ⟨1, _⟩ => rfl

open Cert.Reference3Ideal.Read in
theorem ref_mean (i : Fin 16384) (l : Fin 1) : val_main_v7 (F := Ideal) (aY m c) (aW m c) (aX m c) (ix3 (0 : Fin 1) i l)
    = mean (fun j => val_main_v3 (F := Ideal) (aY m c) (aW m c) (aX m c) (ix3 (0 : Fin 1) i j)) := by
  rw [val_main_v7_apply, val_main_v5_apply, val_main_v4_apply, val_main_v6_apply, val_main_cst_1_apply, val_main_cst_0_apply]
  unfold mean
  refine congrArg₂ Ideal.div ((congrArg (· + _) zero_f).trans ((zero_add _).trans (Finset.sum_congr rfl fun k _ => congrArg _ (funext fun a => Fin.ext ?_)))) rfl
  match a with
  | ⟨0, _⟩ => rfl
  | ⟨1, _⟩ => rfl
  | ⟨2, _⟩ => rfl

open Cert.Reference3Ideal.Read in
theorem ref_d (i : Fin 16384) (j : Fin 2048) : val_main_v9 (F := Ideal) (aY m c) (aW m c) (aX m c) (ix3 (0 : Fin 1) i j)
    = val_main_v3 (F := Ideal) (aY m c) (aW m c) (aX m c) (ix3 (0 : Fin 1) i j) - mean (fun j => val_main_v3 (F := Ideal) (aY m c) (aW m c) (aX m c) (ix3 (0 : Fin 1) i j)) := by
  rw [val_main_v9_apply, val_main_v8_apply, ← ref_mean m c i 0]
  refine congrArg₂ (· - ·) rfl (congrArg _ (funext fun a => Fin.ext ?_))
  match a with
  | ⟨0, _⟩ => rfl
  | ⟨1, _⟩ => rfl
  | ⟨2, _⟩ => rfl

open Cert.Reference3Ideal.Read in
theorem ref_var (i : Fin 16384) (l : Fin 1) : val_main_v14 (F := Ideal) (aY m c) (aW m c) (aX m c) (ix3 (0 : Fin 1) i l)
    = mean (fun j => val_main_v9 (F := Ideal) (aY m c) (aW m c) (aX m c) (ix3 (0 : Fin 1) i j) * val_main_v9 (F := Ideal) (aY m c) (aW m c) (aX m c) (ix3 (0 : Fin 1) i j)) := by
  rw [val_main_v14_apply, val_main_v12_apply, val_main_v11_apply, val_main_v13_apply, val_main_cst_3_apply, val_main_cst_2_apply]
  unfold mean
  refine congrArg₂ Ideal.div ((congrArg (· + _) zero_f).trans ((zero_add _).trans (Finset.sum_congr rfl fun k _ => ?_))) rfl
  rw [val_main_v10_apply]
  have e : idx_main_v11 (idx_main_v12 (ix3 (0 : Fin 1) i l)) k = ix3 (0 : Fin 1) i k := funext fun a => Fin.ext (by
    match a with
    | ⟨0, _⟩ => rfl
    | ⟨1, _⟩ => rfl
    | ⟨2, _⟩ => rfl)
  rw [e]
  rfl

open Cert.Reference3Ideal.Read in
theorem ref_norm (i : Fin 16384) (j : Fin 2048) : val_main_v27 (F := Ideal) (aY m c) (aW m c) (aX m c) (aG m c) (aB m c) (ix3 (0 : Fin 1) i j)
    = norm (fun j => val_main_v3 (F := Ideal) (aY m c) (aW m c) (aX m c) (ix3 (0 : Fin 1) i j)) (fun k => aG m c (ix1 k)) (fun k => aB m c (ix1 k)) j := by
  have e16 : val_main_v16 (F := Ideal) (aY m c) (aW m c) (aX m c) = val_main_v9 (F := Ideal) (aY m c) (aW m c) (aX m c) := rfl
  have e20 : idx_main_v20 (ix3 (0 : Fin 1) i j) = ix3 (0 : Fin 1) i (0 : Fin 1) := funext fun a => Fin.ext (by
    match a with
    | ⟨0, _⟩ => rfl
    | ⟨1, _⟩ => rfl
    | ⟨2, _⟩ => rfl)
  have e22 : idx_main_v22 (idx_main_v23 (ix3 (0 : Fin 1) i j)) = ix1 j := funext fun a => Fin.ext (by
    match a with
    | ⟨0, _⟩ => rfl)
  have e25 : idx_main_v25 (idx_main_v26 (ix3 (0 : Fin 1) i j)) = ix1 j := funext fun a => Fin.ext (by
    match a with
    | ⟨0, _⟩ => rfl)
  rw [val_main_v27_apply, val_main_v26_apply, val_main_v25_apply, val_main_v24_apply, val_main_v23_apply, val_main_v22_apply, val_main_v21_apply, val_main_v20_apply,
    val_main_v19_apply, val_main_v18_apply, val_main_v17_apply, val_main_cst_4_apply, e16, e20, e22, e25, ref_var]
  simp only [ref_d]
  rfl

open Cert.Reference3Ideal.Read in
/-- The reference's two results are the same arrays. -/
theorem ref28 : val_main_v28 (F := Ideal) (aY m c) (aW m c) (aX m c) (aG m c) (aB m c) = result m c := by
  funext y
  have h0 : (y 0).val < 16384 := (y 0).isLt
  have h1 : (y 1).val < 2048 := (y 1).isLt
  have e : idx_main_v28 y = ix3 (0 : Fin 1) (⟨(y 0).val, h0⟩ : Fin 16384) (⟨(y 1).val, h1⟩ : Fin 2048) := funext fun a => Fin.ext (by
    match a with
    | ⟨0, _⟩ => rfl
    | ⟨1, _⟩ => show ((y 0).val * 2048 + (y 1).val) / 2048 % 16384 = (y 0).val; omega
    | ⟨2, _⟩ => show ((y 0).val * 2048 + (y 1).val) % 2048 = (y 1).val; omega)
  rw [val_main_v28_apply, e, ref_norm]
  simp only [ref_z]
  rfl

open Cert.Reference3Ideal.Read in
theorem ref30 : val_main_v30 (F := Ideal) (aY m c) (aW m c) (aX m c) (aG m c) (aB m c) = result m c := by
  have e : val_main_v30 (F := Ideal) (aY m c) (aW m c) (aX m c) (aG m c) (aB m c) = val_main_v28 (F := Ideal) (aY m c) (aW m c) (aX m c) (aG m c) (aB m c) := rfl
  exact e.trans (ref28 m c)

end Cert.Kernel3Ideal.Hand

end
-- ==== Proof.lean ====
module

public import proofs.«01_k».proof.Defs
public import proofs.«01_k».proof.Proof.K.Frame
public import proofs.«01_k».proof.Proof.KI.Frame
public import proofs.«01_k».proof.Proof.V.Alg
public import proofs.«01_k».proof.Proof.V.Merge
public import proofs.«01_k».proof.Proof.V.Norm
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The frame of the reference: its run by StableHLO operations, which declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two results are one array. -/
theorem algebraic : Cert.algebraic_KernelIdeal_ReferenceIdeal_pre_finite_qk (hPre_finite_qk := Cert.KernelIdeal.Hand.preFacts) := fun m g m' g' hp ha => by
  refine ⟨fun c => Cert.ReferenceIdeal.Read.val_main_v23 (F := Ideal) (Cert.KernelIdeal.Hand.aQ m c) (Cert.KernelIdeal.Hand.aK m c) (Cert.KernelIdeal.Hand.aV m c), ?_, ?_⟩
  · refine (θ_run Cert.KernelIdeal.defs _ _).mono (fun r h c => ⟨?_, (h.1 c).2⟩) (Cert.KernelIdeal.Hand.run_main 0 m g)
    have hf := Cert.KernelIdeal.Hand.finite_of_pre _ _ _ (hp c)
    exact ((h.1 c).1 (3 : Fin 4)).trans (Cert.KernelIdeal.Hand.final m g c hf.1 hf.2)
  · refine (θ_run Cert.ReferenceIdeal.defs _ _).mono (fun r h c => ⟨?_, (h c).2⟩) (Cert.ReferenceIdeal.Value.run (F := Ideal) m' g')
    refine ((h c).1.trans (Cert.ReferenceIdeal.Read.val_main_v23_eq _ _ _)).trans ?_
    rw [(ha c).1, (ha c).2.1, (ha c).2.2]
    rfl

/-- The frame of the second reference. -/
theorem frame_r2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The two results of the merge gates' projection are one array. -/
theorem algebraic2 : Cert.algebraic_Kernel2Ideal_Reference2Ideal := fun m g m' g' _ ha => by
  refine ⟨fun c => Cert.Kernel2Ideal.Hand.merge m c, ?_, ?_⟩
  · exact (θ_run Cert.Kernel2Ideal.defs _ _).mono (fun r h c => ⟨(h c).1.trans (Cert.Kernel2Ideal.Hand.final m c), (h c).2⟩)
      (Cert.Kernel2Ideal.Value.run_blocks (F := Ideal) m g)
  · refine (θ_run Cert.Reference2Ideal.defs _ _).mono (fun r h c => ⟨?_, (h c).2⟩) (Cert.Reference2Ideal.Value.run (F := Ideal) m' g')
    refine ((h c).1.trans (Cert.Reference2Ideal.Read.val_main_v6_eq _ _ _)).trans ?_
    rw [(ha c).1, (ha c).2.1, (ha c).2.2]
    exact Cert.Kernel2Ideal.Hand.ref_eq m c

/-- The frame of the third reference. -/
theorem frame_r3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The two results of the output projection, its residual and its layer norm are the reference's. -/
theorem algebraic3 : Cert.algebraic_Kernel3Ideal_Reference3Ideal := fun m g m' g' _ ha => by
  refine ⟨fun c => Cert.Kernel3Ideal.Hand.result m c, fun c => Cert.Kernel3Ideal.Hand.result m c, ?_, ?_⟩
  · exact (θ_run Cert.Kernel3Ideal.defs _ _).mono (fun r h c => ⟨(h c).1.trans (Cert.Kernel3Ideal.Hand.final5 m c), (h c).2.1.trans (Cert.Kernel3Ideal.Hand.final6 m c), (h c).2.2⟩)
      (Cert.Kernel3Ideal.Value.run_blocks (F := Ideal) m g)
  · refine (θ_run Cert.Reference3Ideal.defs _ _).mono (fun r h c => ⟨?_, ?_, (h c).2.2⟩) (Cert.Reference3Ideal.Value.run (F := Ideal) m' g')
    · refine ((h c).1.trans (Cert.Reference3Ideal.Read.val_main_v28_eq _ _ _ _ _)).trans ?_
      rw [(ha c).1, (ha c).2.1, (ha c).2.2.1, (ha c).2.2.2.1, (ha c).2.2.2.2]
      exact Cert.Kernel3Ideal.Hand.ref28 m c
    · refine ((h c).2.1.trans (Cert.Reference3Ideal.Read.val_main_v30_eq _ _ _ _ _)).trans ?_
      rw [(ha c).1, (ha c).2.1, (ha c).2.2.1, (ha c).2.2.2.1, (ha c).2.2.2.2]
      exact Cert.Kernel3Ideal.Hand.ref30 m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.KernelIdeal.Hand.preFacts,
  fun m g _ => Cert.Kernel.Hand.frame m g,
  fun m g _ => Cert.KernelIdeal.Hand.frame m g,
  fun m g _ => Cert.KernelIdeal.Hand.frame m g,
  frame_r,
  fun m g _ => frame_r m g trivial,
  fun m g _ => Cert.Kernel2.Gen.frame m g,
  fun m g _ => Cert.Kernel2Ideal.Gen.frame m g,
  frame_r2,
  fun m g _ => Cert.Kernel3.Gen.frame m g,
  fun m g _ => Cert.Kernel3Ideal.Gen.frame m g,
  frame_r3,
  IdealRules.named_const.statement Cert.KernelIdeal.κ "mask" .f32 0xF149F2CA#32 ⊥ rfl,
  algebraic,
  trivial,
  algebraic2,
  trivial,
  algebraic3⟩

end Cert.Proof

end
